-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_docs_in_order [hPre_docs_in_order : Cert.Pre_docs_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_docs_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_docs_in_order [hPre_docs_in_order : Cert.Pre_docs_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_docs_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_docs_in_order [hKernelIdeal : Cert.KernelIdeal.Facts] [hPre_docs_in_order : Cert.Pre_docs_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_docs_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_docs_in_order [hReferenceIdeal : Cert.ReferenceIdeal.Facts] [hPre_docs_in_order : Cert.Pre_docs_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_docs_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E0293EE#32 (((11863283 / 134217728) * (Real.log 2)⁻¹ : ℝ) : EReal)

def algebraic_KernelIdeal_ReferenceIdeal_pre_docs_in_order [hKernelIdeal : Cert.KernelIdeal.Facts] [hReferenceIdeal : Cert.ReferenceIdeal.Facts] [hPre_docs_in_order : Cert.Pre_docs_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_docs_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_docs_in_order : Cert.Pre_docs_in_order.Facts),
    quiescent_Kernel (hKernel := hKernel)
    ∧ quiescent_KernelIdeal (hKernelIdeal := hKernelIdeal)
    ∧ quiescent_KernelIdeal_pre_docs_in_order (hKernelIdeal := hKernelIdeal) (hPre_docs_in_order := hPre_docs_in_order)
    ∧ quiescent_ReferenceIdeal (hReferenceIdeal := hReferenceIdeal)
    ∧ quiescent_ReferenceIdeal_pre_docs_in_order (hReferenceIdeal := hReferenceIdeal) (hPre_docs_in_order := hPre_docs_in_order)
    ∧ preserves_Kernel_KernelIdeal
    ∧ algebraic_KernelIdeal_ReferenceIdeal_pre_docs_in_order (hKernelIdeal := hKernelIdeal) (hReferenceIdeal := hReferenceIdeal) (hPre_docs_in_order := hPre_docs_in_order)
-- ==== Pre_docs_in_order.lean ====
abbrev S2x1024x20x128 : Shape := ⟨4, ![2, 1024, 20, 128]⟩
abbrev S2x1024x20 : Shape := ⟨3, ![2, 1024, 20]⟩
abbrev S2x1024 : Shape := ⟨2, ![2, 1024]⟩
abbrev S2x1023 : Shape := ⟨2, ![2, 1023]⟩

class Facts : Prop where
  slices_S2x1024_S2x1023_0_0 : S2x1024.Slices ![0, 0] S2x1023
  slices_S2x1024_S2x1023_0_1 : S2x1024.Slices ![0, 1] S2x1023

variable [Facts]

def fn {F : FTy → Type} [FloatOps F] (main_arg0 : FVec F S2x1024x20x128 .fp8e4m3) (main_arg1 : FVec F S2x1024x20 .f32) (main_arg2 : FVec F S2x1024x20x128 .fp8e4m3) (main_arg3 : FVec F S2x1024x20 .f32) (main_arg4 : FVec F S2x1024x20x128 .fp8e4m3) (main_arg5 : FVec F S2x1024x20 .f32) (main_arg6 : IVec S2x1024 32) : IVec S2x1023 1 :=
  let main_v0 : IVec S2x1023 32 := (extractStridedSlice S2x1023 ![0, 0] · slices_S2x1024_S2x1023_0_0) main_arg6
  let main_v1 : IVec S2x1023 32 := (extractStridedSlice S2x1023 ![0, 1] · slices_S2x1024_S2x1023_0_1) main_arg6
  let main_v2 : IVec S2x1023 1 := cmpi .sle main_v0 main_v1
  main_v2
-- ==== Kernel.lean ====
abbrev S2x1024x20x128 : Shape := ⟨4, ![2, 1024, 20, 128]⟩
abbrev S2x1024x20 : Shape := ⟨3, ![2, 1024, 20]⟩
abbrev S2x1024 : Shape := ⟨2, ![2, 1024]⟩
abbrev S2x20x1024x128 : Shape := ⟨4, ![2, 20, 1024, 128]⟩
abbrev S20x2x1024 : Shape := ⟨3, ![20, 2, 1024]⟩
abbrev S2x1024x2560 : Shape := ⟨3, ![2, 1024, 2560]⟩
abbrev S1x20x128x128 : Shape := ⟨4, ![1, 20, 128, 128]⟩
abbrev S1x20x1024x128 : Shape := ⟨4, ![1, 20, 1024, 128]⟩
abbrev S1x128x2560 : Shape := ⟨3, ![1, 128, 2560]⟩
abbrev S2x20x1024 : Shape := ⟨3, ![2, 20, 1024]⟩
abbrev S2x8x1024 : Shape := ⟨3, ![2, 8, 1024]⟩
abbrev S8x1024 : Shape := ⟨2, ![8, 1024]⟩
abbrev S20x1x1024 : Shape := ⟨3, ![20, 1, 1024]⟩
abbrev S20x1024 : Shape := ⟨2, ![20, 1024]⟩
abbrev S1x20x1024 : Shape := ⟨3, ![1, 20, 1024]⟩
abbrev S1x1024 : Shape := ⟨2, ![1, 1024]⟩
abbrev S1x8x1024 : Shape := ⟨3, ![1, 8, 1024]⟩
abbrev S1x1 : Shape := ⟨2, ![1, 1]⟩
abbrev S1x20x128 : Shape := ⟨3, ![1, 20, 128]⟩
abbrev S20x128 : Shape := ⟨2, ![20, 128]⟩
abbrev S128x20 : Shape := ⟨2, ![128, 20]⟩
abbrev S1x1x128 : Shape := ⟨3, ![1, 1, 128]⟩
abbrev S1x128 : Shape := ⟨2, ![1, 128]⟩
abbrev S1x8x128 : Shape := ⟨3, ![1, 8, 128]⟩
abbrev S8x128 : Shape := ⟨2, ![8, 128]⟩
abbrev S128x8 : Shape := ⟨2, ![128, 8]⟩
abbrev S128x1 : Shape := ⟨2, ![128, 1]⟩
abbrev S128x128 : Shape := ⟨2, ![128, 128]⟩
abbrev S1x1x128x128 : Shape := ⟨4, ![1, 1, 128, 128]⟩
abbrev S384x128 : Shape := ⟨2, ![384, 128]⟩
abbrev S144x384 : Shape := ⟨2, ![144, 384]⟩
abbrev S144x128 : Shape := ⟨2, ![144, 128]⟩
abbrev S128 : Shape := ⟨1, ![128]⟩
abbrev S1x128x128 : Shape := ⟨3, ![1, 128, 128]⟩
abbrev S1x1x256 : Shape := ⟨3, ![1, 1, 256]⟩
abbrev S1x256 : Shape := ⟨2, ![1, 256]⟩
abbrev S128x256 : Shape := ⟨2, ![128, 256]⟩
abbrev S1x1x256x128 : Shape := ⟨4, ![1, 1, 256, 128]⟩
abbrev S256x128 : Shape := ⟨2, ![256, 128]⟩
abbrev S384x256 : Shape := ⟨2, ![384, 256]⟩
abbrev S144x256 : Shape := ⟨2, ![144, 256]⟩
abbrev S8x256 : Shape := ⟨2, ![8, 256]⟩
abbrev S1x1x384 : Shape := ⟨3, ![1, 1, 384]⟩
abbrev S1x384 : Shape := ⟨2, ![1, 384]⟩
abbrev S128x384 : Shape := ⟨2, ![128, 384]⟩
abbrev S1x1x384x128 : Shape := ⟨4, ![1, 1, 384, 128]⟩
abbrev S384x384 : Shape := ⟨2, ![384, 384]⟩
abbrev S8x384 : Shape := ⟨2, ![8, 384]⟩
abbrev S1x1x512 : Shape := ⟨3, ![1, 1, 512]⟩
abbrev S1x512 : Shape := ⟨2, ![1, 512]⟩
abbrev S128x512 : Shape := ⟨2, ![128, 512]⟩
abbrev S1x1x512x128 : Shape := ⟨4, ![1, 1, 512, 128]⟩
abbrev S512x128 : Shape := ⟨2, ![512, 128]⟩
abbrev S384x512 : Shape := ⟨2, ![384, 512]⟩
abbrev S144x512 : Shape := ⟨2, ![144, 512]⟩
abbrev S8x512 : Shape := ⟨2, ![8, 512]⟩
abbrev S1x1x640 : Shape := ⟨3, ![1, 1, 640]⟩
abbrev S1x640 : Shape := ⟨2, ![1, 640]⟩
abbrev S128x640 : Shape := ⟨2, ![128, 640]⟩
abbrev S1x1x640x128 : Shape := ⟨4, ![1, 1, 640, 128]⟩
abbrev S640x128 : Shape := ⟨2, ![640, 128]⟩
abbrev S384x640 : Shape := ⟨2, ![384, 640]⟩
abbrev S144x640 : Shape := ⟨2, ![144, 640]⟩
abbrev S8x640 : Shape := ⟨2, ![8, 640]⟩
abbrev S1x1x768 : Shape := ⟨3, ![1, 1, 768]⟩
abbrev S1x768 : Shape := ⟨2, ![1, 768]⟩
abbrev S128x768 : Shape := ⟨2, ![128, 768]⟩
abbrev S1x1x768x128 : Shape := ⟨4, ![1, 1, 768, 128]⟩
abbrev S768x128 : Shape := ⟨2, ![768, 128]⟩
abbrev S384x768 : Shape := ⟨2, ![384, 768]⟩
abbrev S144x768 : Shape := ⟨2, ![144, 768]⟩
abbrev S8x768 : Shape := ⟨2, ![8, 768]⟩
abbrev S1x1x896 : Shape := ⟨3, ![1, 1, 896]⟩
abbrev S1x896 : Shape := ⟨2, ![1, 896]⟩
abbrev S128x896 : Shape := ⟨2, ![128, 896]⟩
abbrev S1x1x896x128 : Shape := ⟨4, ![1, 1, 896, 128]⟩
abbrev S896x128 : Shape := ⟨2, ![896, 128]⟩
abbrev S384x896 : Shape := ⟨2, ![384, 896]⟩
abbrev S144x896 : Shape := ⟨2, ![144, 896]⟩
abbrev S8x896 : Shape := ⟨2, ![8, 896]⟩
abbrev S1x1x1024 : Shape := ⟨3, ![1, 1, 1024]⟩
abbrev S128x1024 : Shape := ⟨2, ![128, 1024]⟩
abbrev S1x1x1024x128 : Shape := ⟨4, ![1, 1, 1024, 128]⟩
abbrev S1024x128 : Shape := ⟨2, ![1024, 128]⟩
abbrev S384x1024 : Shape := ⟨2, ![384, 1024]⟩
abbrev S144x1024 : Shape := ⟨2, ![144, 1024]⟩

abbrev nBuf : Space → Nat
  | .hbm => 15
  | .vmem => 19
  | .smem => 1
  | _ => 0

abbrev bufTy : (tb : Table) → Fin (tcTables nBuf tb) → BufTy
  | .hbm, ⟨0, _⟩ => ⟨S2x1024x20x128, .fp8e4m3⟩
  | .hbm, ⟨1, _⟩ => ⟨S2x1024x20, .f32⟩
  | .hbm, ⟨2, _⟩ => ⟨S2x1024x20x128, .fp8e4m3⟩
  | .hbm, ⟨3, _⟩ => ⟨S2x1024x20, .f32⟩
  | .hbm, ⟨4, _⟩ => ⟨S2x1024x20x128, .fp8e4m3⟩
  | .hbm, ⟨5, _⟩ => ⟨S2x1024x20, .f32⟩
  | .hbm, ⟨6, _⟩ => ⟨S2x1024, .i32⟩
  | .hbm, ⟨7, _⟩ => ⟨S2x20x1024x128, .fp8e4m3⟩
  | .hbm, ⟨8, _⟩ => ⟨S2x20x1024x128, .fp8e4m3⟩
  | .hbm, ⟨9, _⟩ => ⟨S2x20x1024x128, .fp8e4m3⟩
  | .hbm, ⟨10, _⟩ => ⟨S20x2x1024, .f32⟩
  | .hbm, ⟨11, _⟩ => ⟨S20x2x1024, .f32⟩
  | .hbm, ⟨12, _⟩ => ⟨S20x2x1024, .f32⟩
  | .hbm, ⟨13, _⟩ => ⟨S2x1024x2560, .bf16⟩
  | .hbm, ⟨14, _⟩ => ⟨S2x1024, .f32⟩
  | .local _ .vmem, ⟨0, _⟩ => ⟨S1x20x128x128, .fp8e4m3⟩
  | .local _ .vmem, ⟨1, _⟩ => ⟨S1x20x128x128, .fp8e4m3⟩
  | .local _ .vmem, ⟨2, _⟩ => ⟨S1x20x1024x128, .fp8e4m3⟩
  | .local _ .vmem, ⟨3, _⟩ => ⟨S1x20x1024x128, .fp8e4m3⟩
  | .local _ .vmem, ⟨4, _⟩ => ⟨S1x20x1024x128, .fp8e4m3⟩
  | .local _ .vmem, ⟨5, _⟩ => ⟨S1x20x1024x128, .fp8e4m3⟩
  | .local _ .vmem, ⟨6, _⟩ => ⟨S20x2x1024, .f32⟩
  | .local _ .vmem, ⟨7, _⟩ => ⟨S20x2x1024, .f32⟩
  | .local _ .vmem, ⟨8, _⟩ => ⟨S20x2x1024, .f32⟩
  | .local _ .vmem, ⟨9, _⟩ => ⟨S2x1024, .i32⟩
  | .local _ .vmem, ⟨10, _⟩ => ⟨S1x128x2560, .bf16⟩
  | .local _ .vmem, ⟨11, _⟩ => ⟨S1x128x2560, .bf16⟩
  | .local _ .vmem, ⟨12, _⟩ => ⟨S2x1024, .f32⟩
  | .local _ .vmem, ⟨13, _⟩ => ⟨S2x20x1024, .f32⟩
  | .local _ .vmem, ⟨14, _⟩ => ⟨S2x20x1024, .f32⟩
  | .local _ .vmem, ⟨15, _⟩ => ⟨S2x20x1024, .f32⟩
  | .local _ .vmem, ⟨16, _⟩ => ⟨S2x8x1024, .i32⟩
  | .local _ .vmem, ⟨17, _⟩ => ⟨S2x8x1024, .i32⟩
  | .local _ .vmem, ⟨18, _⟩ => ⟨S8x1024, .f32⟩
  | .local _ .smem, ⟨0, _⟩ => ⟨S2x1024, .i32⟩
  | _, _ => ⟨S2x1024x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg0 : BitVec 32 := BitVec.ofNat 32 (i 0).val
  let v9 : Index := Scalar.indexCast arg0
  let arg1 : BitVec 32 := BitVec.ofNat 32 (i 1).val
  let c128_i32 : BitVec 32 := 128#32
  let v8 : BitVec 32 := Scalar.muli arg1 c128_i32
  let v10 : Index := Scalar.indexCast v8
  ![v9.toNat, v10.toNat]
def k0_off2 (i : grid0.Coords) : Fin 2 → Nat :=
  let arg0 : BitVec 32 := BitVec.ofNat 32 (i 0).val
  let v13 : Index := Scalar.indexCast arg0
  let c127 : Index := 127#32
  ![v13.toNat, 127]
def k0_off3 (i : grid0.Coords) : Fin 2 → Nat :=
  let arg0 : BitVec 32 := BitVec.ofNat 32 (i 0).val
  let v20 : Index := Scalar.indexCast arg0
  let c255 : Index := 255#32
  ![v20.toNat, 255]
def k0_off4 (i : grid0.Coords) : Fin 2 → Nat :=
  let arg0 : BitVec 32 := BitVec.ofNat 32 (i 0).val
  let v27 : Index := Scalar.indexCast arg0
  let c383 : Index := 383#32
  ![v27.toNat, 383]
def k0_off5 (i : grid0.Coords) : Fin 2 → Nat :=
  let arg0 : BitVec 32 := BitVec.ofNat 32 (i 0).val
  let v34 : Index := Scalar.indexCast arg0
  let c511 : Index := 511#32
  ![v34.toNat, 511]
def k0_off6 (i : grid0.Coords) : Fin 2 → Nat :=
  let arg0 : BitVec 32 := BitVec.ofNat 32 (i 0).val
  let v41 : Index := Scalar.indexCast arg0
  let c639 : Index := 639#32
  ![v41.toNat, 639]
def k0_off7 (i : grid0.Coords) : Fin 2 → Nat :=
  let arg0 : BitVec 32 := BitVec.ofNat 32 (i 0).val
  let v48 : Index := Scalar.indexCast arg0
  let c767 : Index := 767#32
  ![v48.toNat, 767]
def k0_off8 (i : grid0.Coords) : Fin 2 → Nat :=
  let arg0 : BitVec 32 := BitVec.ofNat 32 (i 0).val
  let v55 : Index := Scalar.indexCast arg0
  let c895 : Index := 895#32
  ![v55.toNat, 895]
def k0_mult1 (i : grid0.Coords) : BitVec 32 :=
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  v97
def k0_mult2 (i : grid0.Coords) : BitVec 32 :=
  let arg1 : BitVec 32 := BitVec.ofNat 32 (i 1).val
  let c128_i32_29 : BitVec 32 := 128#32
  let v99 : BitVec 32 := Scalar.muli arg1 c128_i32_29
  v99
def k0_off9 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off10 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_off11 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off12 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off13 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off14 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v193 : Index := Scalar.indexCast v98
  ![0, v193.toNat]
def k0_off15 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off16 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off17 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off18 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off19 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off20 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off21 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off22 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off23 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off24 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off25 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off26 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off27 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off28 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off29 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off30 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off31 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off32 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off33 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off34 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off35 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off36 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off37 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off38 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off39 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off40 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off41 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off42 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off43 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off44 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off45 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off46 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off47 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off48 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off49 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off50 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off51 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off52 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c1_i32_27 : BitVec 32 := 1#32
  let v96 : BitVec 32 := Scalar.subi v95 c1_i32_27
  let c128_i32_28 : BitVec 32 := 128#32
  let v97 : BitVec 32 := Scalar.muli v96 c128_i32_28
  let v98 : BitVec 32 := v97
  let v1057 : Index := Scalar.indexCast v98
  ![v1056.toNat, 19, v1057.toNat]
def k0_mult3 (i : grid0.Coords) : BitVec 32 :=
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  v97
def k0_mult4 (i : grid0.Coords) : BitVec 32 :=
  let arg1 : BitVec 32 := BitVec.ofNat 32 (i 1).val
  let c128_i32_29 : BitVec 32 := 128#32
  let v99 : BitVec 32 := Scalar.muli arg1 c128_i32_29
  v99
def k0_off53 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off54 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_cond4 (i : grid0.Coords) (v11 : BitVec 32) (v14 : BitVec 32) (v21 : BitVec 32) (v28 : BitVec 32) (v35 : BitVec 32) (v42 : BitVec 32) (v49 : BitVec 32) (v56 : BitVec 32) : BitVec 1 :=
  let c1_i32 : BitVec 32 := 1#32
  let arg1 : BitVec 32 := BitVec.ofNat 32 (i 1).val
  let c0_i32_4 : BitVec 32 := 0#32
  let v12 : BitVec 1 := Scalar.cmpi .sgt arg1 c0_i32_4
  let v15 : BitVec 1 := Scalar.cmpi .eq v14 v11
  let v16 : BitVec 1 := Scalar.andi v12 v15
  let v17 : BitVec 32 := Scalar.extui v16
  let v18 : BitVec 32 := Scalar.addi c1_i32 v17
  let c1_i32_5 : BitVec 32 := 1#32
  let v19 : BitVec 1 := Scalar.cmpi .sgt arg1 c1_i32_5
  let v22 : BitVec 1 := Scalar.cmpi .eq v21 v11
  let v23 : BitVec 1 := Scalar.andi v19 v22
  let v24 : BitVec 32 := Scalar.extui v23
  let v25 : BitVec 32 := Scalar.addi v18 v24
  let c2_i32 : BitVec 32 := 2#32
  let v26 : BitVec 1 := Scalar.cmpi .sgt arg1 c2_i32
  let v29 : BitVec 1 := Scalar.cmpi .eq v28 v11
  let v30 : BitVec 1 := Scalar.andi v26 v29
  let v31 : BitVec 32 := Scalar.extui v30
  let v32 : BitVec 32 := Scalar.addi v25 v31
  let c3_i32 : BitVec 32 := 3#32
  let v33 : BitVec 1 := Scalar.cmpi .sgt arg1 c3_i32
  let v36 : BitVec 1 := Scalar.cmpi .eq v35 v11
  let v37 : BitVec 1 := Scalar.andi v33 v36
  let v38 : BitVec 32 := Scalar.extui v37
  let v39 : BitVec 32 := Scalar.addi v32 v38
  let c4_i32 : BitVec 32 := 4#32
  let v40 : BitVec 1 := Scalar.cmpi .sgt arg1 c4_i32
  let v43 : BitVec 1 := Scalar.cmpi .eq v42 v11
  let v44 : BitVec 1 := Scalar.andi v40 v43
  let v45 : BitVec 32 := Scalar.extui v44
  let v46 : BitVec 32 := Scalar.addi v39 v45
  let c5_i32 : BitVec 32 := 5#32
  let v47 : BitVec 1 := Scalar.cmpi .sgt arg1 c5_i32
  let v50 : BitVec 1 := Scalar.cmpi .eq v49 v11
  let v51 : BitVec 1 := Scalar.andi v47 v50
  let v52 : BitVec 32 := Scalar.extui v51
  let v53 : BitVec 32 := Scalar.addi v46 v52
  let c6_i32 : BitVec 32 := 6#32
  let v54 : BitVec 1 := Scalar.cmpi .sgt arg1 c6_i32
  let v57 : BitVec 1 := Scalar.cmpi .eq v56 v11
  let v58 : BitVec 1 := Scalar.andi v54 v57
  let v59 : BitVec 32 := Scalar.extui v58
  let v60 : BitVec 32 := Scalar.addi v53 v59
  let c2_i32_8 : BitVec 32 := 2#32
  let v64 : BitVec 1 := Scalar.cmpi .eq v60 c2_i32_8
  let v65 : BitVec 32 := Scalar.extui v64
  let c0_i32_9 : BitVec 32 := 0#32
  let v66 : BitVec 1 := Scalar.cmpi .ne v65 c0_i32_9
  v66

def k0_off55 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off56 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off57 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off58 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v193 : Index := Scalar.indexCast v98
  ![0, v193.toNat]
def k0_off59 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off60 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off61 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off62 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off63 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off64 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off65 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off66 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off67 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off68 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off69 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off70 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off71 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off72 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off73 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off74 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off75 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off76 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off77 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off78 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off79 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off80 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off81 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off82 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off83 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off84 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off85 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off86 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off87 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off88 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off89 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off90 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off91 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off92 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off93 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off94 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off95 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off96 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c2_i32_27 : BitVec 32 := 2#32
  let v96 : BitVec 32 := Scalar.subi v95 c2_i32_27
  let c128_i32_28 : BitVec 32 := 128#32
  let v97 : BitVec 32 := Scalar.muli v96 c128_i32_28
  let v98 : BitVec 32 := v97
  let v1057 : Index := Scalar.indexCast v98
  ![v1056.toNat, 19, v1057.toNat]
def k0_mult5 (i : grid0.Coords) : BitVec 32 :=
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  v97
def k0_mult6 (i : grid0.Coords) : BitVec 32 :=
  let arg1 : BitVec 32 := BitVec.ofNat 32 (i 1).val
  let c128_i32_29 : BitVec 32 := 128#32
  let v99 : BitVec 32 := Scalar.muli arg1 c128_i32_29
  v99
def k0_off97 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off98 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_cond5 (i : grid0.Coords) (v11 : BitVec 32) (v14 : BitVec 32) (v21 : BitVec 32) (v28 : BitVec 32) (v35 : BitVec 32) (v42 : BitVec 32) (v49 : BitVec 32) (v56 : BitVec 32) : BitVec 1 :=
  let c1_i32 : BitVec 32 := 1#32
  let arg1 : BitVec 32 := BitVec.ofNat 32 (i 1).val
  let c0_i32_4 : BitVec 32 := 0#32
  let v12 : BitVec 1 := Scalar.cmpi .sgt arg1 c0_i32_4
  let v15 : BitVec 1 := Scalar.cmpi .eq v14 v11
  let v16 : BitVec 1 := Scalar.andi v12 v15
  let v17 : BitVec 32 := Scalar.extui v16
  let v18 : BitVec 32 := Scalar.addi c1_i32 v17
  let c1_i32_5 : BitVec 32 := 1#32
  let v19 : BitVec 1 := Scalar.cmpi .sgt arg1 c1_i32_5
  let v22 : BitVec 1 := Scalar.cmpi .eq v21 v11
  let v23 : BitVec 1 := Scalar.andi v19 v22
  let v24 : BitVec 32 := Scalar.extui v23
  let v25 : BitVec 32 := Scalar.addi v18 v24
  let c2_i32 : BitVec 32 := 2#32
  let v26 : BitVec 1 := Scalar.cmpi .sgt arg1 c2_i32
  let v29 : BitVec 1 := Scalar.cmpi .eq v28 v11
  let v30 : BitVec 1 := Scalar.andi v26 v29
  let v31 : BitVec 32 := Scalar.extui v30
  let v32 : BitVec 32 := Scalar.addi v25 v31
  let c3_i32 : BitVec 32 := 3#32
  let v33 : BitVec 1 := Scalar.cmpi .sgt arg1 c3_i32
  let v36 : BitVec 1 := Scalar.cmpi .eq v35 v11
  let v37 : BitVec 1 := Scalar.andi v33 v36
  let v38 : BitVec 32 := Scalar.extui v37
  let v39 : BitVec 32 := Scalar.addi v32 v38
  let c4_i32 : BitVec 32 := 4#32
  let v40 : BitVec 1 := Scalar.cmpi .sgt arg1 c4_i32
  let v43 : BitVec 1 := Scalar.cmpi .eq v42 v11
  let v44 : BitVec 1 := Scalar.andi v40 v43
  let v45 : BitVec 32 := Scalar.extui v44
  let v46 : BitVec 32 := Scalar.addi v39 v45
  let c5_i32 : BitVec 32 := 5#32
  let v47 : BitVec 1 := Scalar.cmpi .sgt arg1 c5_i32
  let v50 : BitVec 1 := Scalar.cmpi .eq v49 v11
  let v51 : BitVec 1 := Scalar.andi v47 v50
  let v52 : BitVec 32 := Scalar.extui v51
  let v53 : BitVec 32 := Scalar.addi v46 v52
  let c6_i32 : BitVec 32 := 6#32
  let v54 : BitVec 1 := Scalar.cmpi .sgt arg1 c6_i32
  let v57 : BitVec 1 := Scalar.cmpi .eq v56 v11
  let v58 : BitVec 1 := Scalar.andi v54 v57
  let v59 : BitVec 32 := Scalar.extui v58
  let v60 : BitVec 32 := Scalar.addi v53 v59
  let c3_i32_10 : BitVec 32 := 3#32
  let v67 : BitVec 1 := Scalar.cmpi .eq v60 c3_i32_10
  let v68 : BitVec 32 := Scalar.extui v67
  let c0_i32_11 : BitVec 32 := 0#32
  let v69 : BitVec 1 := Scalar.cmpi .ne v68 c0_i32_11
  v69

def k0_off99 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off100 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off101 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off102 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v193 : Index := Scalar.indexCast v98
  ![0, v193.toNat]
def k0_off103 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off104 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off105 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off106 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off107 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off108 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off109 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off110 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off111 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off112 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off113 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off114 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off115 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off116 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off117 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off118 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off119 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off120 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off121 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off122 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off123 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off124 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off125 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off126 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off127 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off128 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off129 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off130 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off131 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off132 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off133 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off134 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off135 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off136 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off137 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off138 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off139 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off140 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c3_i32_27 : BitVec 32 := 3#32
  let v96 : BitVec 32 := Scalar.subi v95 c3_i32_27
  let c128_i32_28 : BitVec 32 := 128#32
  let v97 : BitVec 32 := Scalar.muli v96 c128_i32_28
  let v98 : BitVec 32 := v97
  let v1057 : Index := Scalar.indexCast v98
  ![v1056.toNat, 19, v1057.toNat]
def k0_mult7 (i : grid0.Coords) : BitVec 32 :=
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  v97
def k0_mult8 (i : grid0.Coords) : BitVec 32 :=
  let arg1 : BitVec 32 := BitVec.ofNat 32 (i 1).val
  let c128_i32_29 : BitVec 32 := 128#32
  let v99 : BitVec 32 := Scalar.muli arg1 c128_i32_29
  v99
def k0_off141 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off142 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_cond6 (i : grid0.Coords) (v11 : BitVec 32) (v14 : BitVec 32) (v21 : BitVec 32) (v28 : BitVec 32) (v35 : BitVec 32) (v42 : BitVec 32) (v49 : BitVec 32) (v56 : BitVec 32) : BitVec 1 :=
  let c1_i32 : BitVec 32 := 1#32
  let arg1 : BitVec 32 := BitVec.ofNat 32 (i 1).val
  let c0_i32_4 : BitVec 32 := 0#32
  let v12 : BitVec 1 := Scalar.cmpi .sgt arg1 c0_i32_4
  let v15 : BitVec 1 := Scalar.cmpi .eq v14 v11
  let v16 : BitVec 1 := Scalar.andi v12 v15
  let v17 : BitVec 32 := Scalar.extui v16
  let v18 : BitVec 32 := Scalar.addi c1_i32 v17
  let c1_i32_5 : BitVec 32 := 1#32
  let v19 : BitVec 1 := Scalar.cmpi .sgt arg1 c1_i32_5
  let v22 : BitVec 1 := Scalar.cmpi .eq v21 v11
  let v23 : BitVec 1 := Scalar.andi v19 v22
  let v24 : BitVec 32 := Scalar.extui v23
  let v25 : BitVec 32 := Scalar.addi v18 v24
  let c2_i32 : BitVec 32 := 2#32
  let v26 : BitVec 1 := Scalar.cmpi .sgt arg1 c2_i32
  let v29 : BitVec 1 := Scalar.cmpi .eq v28 v11
  let v30 : BitVec 1 := Scalar.andi v26 v29
  let v31 : BitVec 32 := Scalar.extui v30
  let v32 : BitVec 32 := Scalar.addi v25 v31
  let c3_i32 : BitVec 32 := 3#32
  let v33 : BitVec 1 := Scalar.cmpi .sgt arg1 c3_i32
  let v36 : BitVec 1 := Scalar.cmpi .eq v35 v11
  let v37 : BitVec 1 := Scalar.andi v33 v36
  let v38 : BitVec 32 := Scalar.extui v37
  let v39 : BitVec 32 := Scalar.addi v32 v38
  let c4_i32 : BitVec 32 := 4#32
  let v40 : BitVec 1 := Scalar.cmpi .sgt arg1 c4_i32
  let v43 : BitVec 1 := Scalar.cmpi .eq v42 v11
  let v44 : BitVec 1 := Scalar.andi v40 v43
  let v45 : BitVec 32 := Scalar.extui v44
  let v46 : BitVec 32 := Scalar.addi v39 v45
  let c5_i32 : BitVec 32 := 5#32
  let v47 : BitVec 1 := Scalar.cmpi .sgt arg1 c5_i32
  let v50 : BitVec 1 := Scalar.cmpi .eq v49 v11
  let v51 : BitVec 1 := Scalar.andi v47 v50
  let v52 : BitVec 32 := Scalar.extui v51
  let v53 : BitVec 32 := Scalar.addi v46 v52
  let c6_i32 : BitVec 32 := 6#32
  let v54 : BitVec 1 := Scalar.cmpi .sgt arg1 c6_i32
  let v57 : BitVec 1 := Scalar.cmpi .eq v56 v11
  let v58 : BitVec 1 := Scalar.andi v54 v57
  let v59 : BitVec 32 := Scalar.extui v58
  let v60 : BitVec 32 := Scalar.addi v53 v59
  let c4_i32_12 : BitVec 32 := 4#32
  let v70 : BitVec 1 := Scalar.cmpi .eq v60 c4_i32_12
  let v71 : BitVec 32 := Scalar.extui v70
  let c0_i32_13 : BitVec 32 := 0#32
  let v72 : BitVec 1 := Scalar.cmpi .ne v71 c0_i32_13
  v72

def k0_off143 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off144 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off145 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off146 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v193 : Index := Scalar.indexCast v98
  ![0, v193.toNat]
def k0_off147 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off148 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off149 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off150 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off151 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off152 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off153 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off154 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off155 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off156 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off157 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off158 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off159 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off160 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off161 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off162 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off163 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off164 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off165 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off166 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off167 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off168 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off169 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off170 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off171 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off172 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off173 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off174 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off175 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off176 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off177 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off178 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off179 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off180 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off181 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off182 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off183 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off184 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c4_i32_27 : BitVec 32 := 4#32
  let v96 : BitVec 32 := Scalar.subi v95 c4_i32_27
  let c128_i32_28 : BitVec 32 := 128#32
  let v97 : BitVec 32 := Scalar.muli v96 c128_i32_28
  let v98 : BitVec 32 := v97
  let v1057 : Index := Scalar.indexCast v98
  ![v1056.toNat, 19, v1057.toNat]
def k0_mult9 (i : grid0.Coords) : BitVec 32 :=
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  v97
def k0_mult10 (i : grid0.Coords) : BitVec 32 :=
  let arg1 : BitVec 32 := BitVec.ofNat 32 (i 1).val
  let c128_i32_29 : BitVec 32 := 128#32
  let v99 : BitVec 32 := Scalar.muli arg1 c128_i32_29
  v99
def k0_off185 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off186 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_cond7 (i : grid0.Coords) (v11 : BitVec 32) (v14 : BitVec 32) (v21 : BitVec 32) (v28 : BitVec 32) (v35 : BitVec 32) (v42 : BitVec 32) (v49 : BitVec 32) (v56 : BitVec 32) : BitVec 1 :=
  let c1_i32 : BitVec 32 := 1#32
  let arg1 : BitVec 32 := BitVec.ofNat 32 (i 1).val
  let c0_i32_4 : BitVec 32 := 0#32
  let v12 : BitVec 1 := Scalar.cmpi .sgt arg1 c0_i32_4
  let v15 : BitVec 1 := Scalar.cmpi .eq v14 v11
  let v16 : BitVec 1 := Scalar.andi v12 v15
  let v17 : BitVec 32 := Scalar.extui v16
  let v18 : BitVec 32 := Scalar.addi c1_i32 v17
  let c1_i32_5 : BitVec 32 := 1#32
  let v19 : BitVec 1 := Scalar.cmpi .sgt arg1 c1_i32_5
  let v22 : BitVec 1 := Scalar.cmpi .eq v21 v11
  let v23 : BitVec 1 := Scalar.andi v19 v22
  let v24 : BitVec 32 := Scalar.extui v23
  let v25 : BitVec 32 := Scalar.addi v18 v24
  let c2_i32 : BitVec 32 := 2#32
  let v26 : BitVec 1 := Scalar.cmpi .sgt arg1 c2_i32
  let v29 : BitVec 1 := Scalar.cmpi .eq v28 v11
  let v30 : BitVec 1 := Scalar.andi v26 v29
  let v31 : BitVec 32 := Scalar.extui v30
  let v32 : BitVec 32 := Scalar.addi v25 v31
  let c3_i32 : BitVec 32 := 3#32
  let v33 : BitVec 1 := Scalar.cmpi .sgt arg1 c3_i32
  let v36 : BitVec 1 := Scalar.cmpi .eq v35 v11
  let v37 : BitVec 1 := Scalar.andi v33 v36
  let v38 : BitVec 32 := Scalar.extui v37
  let v39 : BitVec 32 := Scalar.addi v32 v38
  let c4_i32 : BitVec 32 := 4#32
  let v40 : BitVec 1 := Scalar.cmpi .sgt arg1 c4_i32
  let v43 : BitVec 1 := Scalar.cmpi .eq v42 v11
  let v44 : BitVec 1 := Scalar.andi v40 v43
  let v45 : BitVec 32 := Scalar.extui v44
  let v46 : BitVec 32 := Scalar.addi v39 v45
  let c5_i32 : BitVec 32 := 5#32
  let v47 : BitVec 1 := Scalar.cmpi .sgt arg1 c5_i32
  let v50 : BitVec 1 := Scalar.cmpi .eq v49 v11
  let v51 : BitVec 1 := Scalar.andi v47 v50
  let v52 : BitVec 32 := Scalar.extui v51
  let v53 : BitVec 32 := Scalar.addi v46 v52
  let c6_i32 : BitVec 32 := 6#32
  let v54 : BitVec 1 := Scalar.cmpi .sgt arg1 c6_i32
  let v57 : BitVec 1 := Scalar.cmpi .eq v56 v11
  let v58 : BitVec 1 := Scalar.andi v54 v57
  let v59 : BitVec 32 := Scalar.extui v58
  let v60 : BitVec 32 := Scalar.addi v53 v59
  let c5_i32_14 : BitVec 32 := 5#32
  let v73 : BitVec 1 := Scalar.cmpi .eq v60 c5_i32_14
  let v74 : BitVec 32 := Scalar.extui v73
  let c0_i32_15 : BitVec 32 := 0#32
  let v75 : BitVec 1 := Scalar.cmpi .ne v74 c0_i32_15
  v75

def k0_off187 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off188 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off189 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off190 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v193 : Index := Scalar.indexCast v98
  ![0, v193.toNat]
def k0_off191 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off192 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off193 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off194 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off195 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off196 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off197 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off198 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off199 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off200 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off201 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off202 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off203 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off204 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off205 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off206 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off207 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off208 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off209 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off210 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off211 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off212 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off213 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off214 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off215 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off216 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off217 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off218 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off219 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off220 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off221 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off222 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off223 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off224 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off225 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off226 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off227 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off228 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c5_i32_27 : BitVec 32 := 5#32
  let v96 : BitVec 32 := Scalar.subi v95 c5_i32_27
  let c128_i32_28 : BitVec 32 := 128#32
  let v97 : BitVec 32 := Scalar.muli v96 c128_i32_28
  let v98 : BitVec 32 := v97
  let v1057 : Index := Scalar.indexCast v98
  ![v1056.toNat, 19, v1057.toNat]
def k0_mult11 (i : grid0.Coords) : BitVec 32 :=
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  v97
def k0_mult12 (i : grid0.Coords) : BitVec 32 :=
  let arg1 : BitVec 32 := BitVec.ofNat 32 (i 1).val
  let c128_i32_29 : BitVec 32 := 128#32
  let v99 : BitVec 32 := Scalar.muli arg1 c128_i32_29
  v99
def k0_off229 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off230 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_cond8 (i : grid0.Coords) (v11 : BitVec 32) (v14 : BitVec 32) (v21 : BitVec 32) (v28 : BitVec 32) (v35 : BitVec 32) (v42 : BitVec 32) (v49 : BitVec 32) (v56 : BitVec 32) : BitVec 1 :=
  let c1_i32 : BitVec 32 := 1#32
  let arg1 : BitVec 32 := BitVec.ofNat 32 (i 1).val
  let c0_i32_4 : BitVec 32 := 0#32
  let v12 : BitVec 1 := Scalar.cmpi .sgt arg1 c0_i32_4
  let v15 : BitVec 1 := Scalar.cmpi .eq v14 v11
  let v16 : BitVec 1 := Scalar.andi v12 v15
  let v17 : BitVec 32 := Scalar.extui v16
  let v18 : BitVec 32 := Scalar.addi c1_i32 v17
  let c1_i32_5 : BitVec 32 := 1#32
  let v19 : BitVec 1 := Scalar.cmpi .sgt arg1 c1_i32_5
  let v22 : BitVec 1 := Scalar.cmpi .eq v21 v11
  let v23 : BitVec 1 := Scalar.andi v19 v22
  let v24 : BitVec 32 := Scalar.extui v23
  let v25 : BitVec 32 := Scalar.addi v18 v24
  let c2_i32 : BitVec 32 := 2#32
  let v26 : BitVec 1 := Scalar.cmpi .sgt arg1 c2_i32
  let v29 : BitVec 1 := Scalar.cmpi .eq v28 v11
  let v30 : BitVec 1 := Scalar.andi v26 v29
  let v31 : BitVec 32 := Scalar.extui v30
  let v32 : BitVec 32 := Scalar.addi v25 v31
  let c3_i32 : BitVec 32 := 3#32
  let v33 : BitVec 1 := Scalar.cmpi .sgt arg1 c3_i32
  let v36 : BitVec 1 := Scalar.cmpi .eq v35 v11
  let v37 : BitVec 1 := Scalar.andi v33 v36
  let v38 : BitVec 32 := Scalar.extui v37
  let v39 : BitVec 32 := Scalar.addi v32 v38
  let c4_i32 : BitVec 32 := 4#32
  let v40 : BitVec 1 := Scalar.cmpi .sgt arg1 c4_i32
  let v43 : BitVec 1 := Scalar.cmpi .eq v42 v11
  let v44 : BitVec 1 := Scalar.andi v40 v43
  let v45 : BitVec 32 := Scalar.extui v44
  let v46 : BitVec 32 := Scalar.addi v39 v45
  let c5_i32 : BitVec 32 := 5#32
  let v47 : BitVec 1 := Scalar.cmpi .sgt arg1 c5_i32
  let v50 : BitVec 1 := Scalar.cmpi .eq v49 v11
  let v51 : BitVec 1 := Scalar.andi v47 v50
  let v52 : BitVec 32 := Scalar.extui v51
  let v53 : BitVec 32 := Scalar.addi v46 v52
  let c6_i32 : BitVec 32 := 6#32
  let v54 : BitVec 1 := Scalar.cmpi .sgt arg1 c6_i32
  let v57 : BitVec 1 := Scalar.cmpi .eq v56 v11
  let v58 : BitVec 1 := Scalar.andi v54 v57
  let v59 : BitVec 32 := Scalar.extui v58
  let v60 : BitVec 32 := Scalar.addi v53 v59
  let c6_i32_16 : BitVec 32 := 6#32
  let v76 : BitVec 1 := Scalar.cmpi .eq v60 c6_i32_16
  let v77 : BitVec 32 := Scalar.extui v76
  let c0_i32_17 : BitVec 32 := 0#32
  let v78 : BitVec 1 := Scalar.cmpi .ne v77 c0_i32_17
  v78

def k0_off231 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off232 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off233 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off234 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v193 : Index := Scalar.indexCast v98
  ![0, v193.toNat]
def k0_off235 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off236 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off237 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off238 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off239 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off240 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off241 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off242 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off243 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off244 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off245 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off246 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off247 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off248 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off249 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off250 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off251 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off252 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off253 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off254 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off255 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off256 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off257 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off258 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off259 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off260 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off261 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off262 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off263 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off264 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off265 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off266 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off267 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off268 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off269 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off270 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off271 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off272 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c6_i32_27 : BitVec 32 := 6#32
  let v96 : BitVec 32 := Scalar.subi v95 c6_i32_27
  let c128_i32_28 : BitVec 32 := 128#32
  let v97 : BitVec 32 := Scalar.muli v96 c128_i32_28
  let v98 : BitVec 32 := v97
  let v1057 : Index := Scalar.indexCast v98
  ![v1056.toNat, 19, v1057.toNat]
def k0_mult13 (i : grid0.Coords) : BitVec 32 :=
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  v97
def k0_mult14 (i : grid0.Coords) : BitVec 32 :=
  let arg1 : BitVec 32 := BitVec.ofNat 32 (i 1).val
  let c128_i32_29 : BitVec 32 := 128#32
  let v99 : BitVec 32 := Scalar.muli arg1 c128_i32_29
  v99
def k0_off273 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off274 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_cond9 (i : grid0.Coords) (v11 : BitVec 32) (v14 : BitVec 32) (v21 : BitVec 32) (v28 : BitVec 32) (v35 : BitVec 32) (v42 : BitVec 32) (v49 : BitVec 32) (v56 : BitVec 32) : BitVec 1 :=
  let c1_i32 : BitVec 32 := 1#32
  let arg1 : BitVec 32 := BitVec.ofNat 32 (i 1).val
  let c0_i32_4 : BitVec 32 := 0#32
  let v12 : BitVec 1 := Scalar.cmpi .sgt arg1 c0_i32_4
  let v15 : BitVec 1 := Scalar.cmpi .eq v14 v11
  let v16 : BitVec 1 := Scalar.andi v12 v15
  let v17 : BitVec 32 := Scalar.extui v16
  let v18 : BitVec 32 := Scalar.addi c1_i32 v17
  let c1_i32_5 : BitVec 32 := 1#32
  let v19 : BitVec 1 := Scalar.cmpi .sgt arg1 c1_i32_5
  let v22 : BitVec 1 := Scalar.cmpi .eq v21 v11
  let v23 : BitVec 1 := Scalar.andi v19 v22
  let v24 : BitVec 32 := Scalar.extui v23
  let v25 : BitVec 32 := Scalar.addi v18 v24
  let c2_i32 : BitVec 32 := 2#32
  let v26 : BitVec 1 := Scalar.cmpi .sgt arg1 c2_i32
  let v29 : BitVec 1 := Scalar.cmpi .eq v28 v11
  let v30 : BitVec 1 := Scalar.andi v26 v29
  let v31 : BitVec 32 := Scalar.extui v30
  let v32 : BitVec 32 := Scalar.addi v25 v31
  let c3_i32 : BitVec 32 := 3#32
  let v33 : BitVec 1 := Scalar.cmpi .sgt arg1 c3_i32
  let v36 : BitVec 1 := Scalar.cmpi .eq v35 v11
  let v37 : BitVec 1 := Scalar.andi v33 v36
  let v38 : BitVec 32 := Scalar.extui v37
  let v39 : BitVec 32 := Scalar.addi v32 v38
  let c4_i32 : BitVec 32 := 4#32
  let v40 : BitVec 1 := Scalar.cmpi .sgt arg1 c4_i32
  let v43 : BitVec 1 := Scalar.cmpi .eq v42 v11
  let v44 : BitVec 1 := Scalar.andi v40 v43
  let v45 : BitVec 32 := Scalar.extui v44
  let v46 : BitVec 32 := Scalar.addi v39 v45
  let c5_i32 : BitVec 32 := 5#32
  let v47 : BitVec 1 := Scalar.cmpi .sgt arg1 c5_i32
  let v50 : BitVec 1 := Scalar.cmpi .eq v49 v11
  let v51 : BitVec 1 := Scalar.andi v47 v50
  let v52 : BitVec 32 := Scalar.extui v51
  let v53 : BitVec 32 := Scalar.addi v46 v52
  let c6_i32 : BitVec 32 := 6#32
  let v54 : BitVec 1 := Scalar.cmpi .sgt arg1 c6_i32
  let v57 : BitVec 1 := Scalar.cmpi .eq v56 v11
  let v58 : BitVec 1 := Scalar.andi v54 v57
  let v59 : BitVec 32 := Scalar.extui v58
  let v60 : BitVec 32 := Scalar.addi v53 v59
  let c7_i32 : BitVec 32 := 7#32
  let v79 : BitVec 1 := Scalar.cmpi .eq v60 c7_i32
  let v80 : BitVec 32 := Scalar.extui v79
  let c0_i32_18 : BitVec 32 := 0#32
  let v81 : BitVec 1 := Scalar.cmpi .ne v80 c0_i32_18
  v81

def k0_off275 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off276 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off277 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off278 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v193 : Index := Scalar.indexCast v98
  ![0, v193.toNat]
def k0_off279 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off280 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off281 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off282 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off283 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off284 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off285 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off286 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off287 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off288 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off289 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off290 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off291 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off292 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off293 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off294 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off295 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off296 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off297 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off298 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off299 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off300 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off301 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off302 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off303 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off304 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off305 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off306 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off307 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off308 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off309 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off310 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off311 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off312 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off313 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off314 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off315 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off316 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c7_i32_27 : BitVec 32 := 7#32
  let v96 : BitVec 32 := Scalar.subi v95 c7_i32_27
  let c128_i32_28 : BitVec 32 := 128#32
  let v97 : BitVec 32 := Scalar.muli v96 c128_i32_28
  let v98 : BitVec 32 := v97
  let v1057 : Index := Scalar.indexCast v98
  ![v1056.toNat, 19, v1057.toNat]
def k0_mult15 (i : grid0.Coords) : BitVec 32 :=
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  v97
def k0_mult16 (i : grid0.Coords) : BitVec 32 :=
  let arg1 : BitVec 32 := BitVec.ofNat 32 (i 1).val
  let c128_i32_29 : BitVec 32 := 128#32
  let v99 : BitVec 32 := Scalar.muli arg1 c128_i32_29
  v99
def k0_off317 (i : grid0.Coords) : Fin 3 → Nat :=
  let arg0 : BitVec 32 := BitVec.ofNat 32 (i 0).val
  let v101 : Index := Scalar.indexCast arg0
  let c0 : Index := 0#32
  let arg1 : BitVec 32 := BitVec.ofNat 32 (i 1).val
  let c128_i32_29 : BitVec 32 := 128#32
  let v99 : BitVec 32 := Scalar.muli arg1 c128_i32_29
  let v100 : BitVec 32 := v99
  let v102 : Index := Scalar.indexCast v100
  ![v101.toNat, 0, v102.toNat]
def k0_off318 (i : grid0.Coords) : Fin 3 → Nat :=
  let arg0 : BitVec 32 := BitVec.ofNat 32 (i 0).val
  let v106 : Index := Scalar.indexCast arg0
  let c0_30 : Index := 0#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v107 : Index := Scalar.indexCast v98
  ![v106.toNat, 0, v107.toNat]
def k0_cond10 (i : grid0.Coords) (v11 : BitVec 32) (v14 : BitVec 32) (v21 : BitVec 32) (v28 : BitVec 32) (v35 : BitVec 32) (v42 : BitVec 32) (v49 : BitVec 32) (v56 : BitVec 32) : BitVec 1 :=
  let c1_i32 : BitVec 32 := 1#32
  let arg1 : BitVec 32 := BitVec.ofNat 32 (i 1).val
  let c0_i32_4 : BitVec 32 := 0#32
  let v12 : BitVec 1 := Scalar.cmpi .sgt arg1 c0_i32_4
  let v15 : BitVec 1 := Scalar.cmpi .eq v14 v11
  let v16 : BitVec 1 := Scalar.andi v12 v15
  let v17 : BitVec 32 := Scalar.extui v16
  let v18 : BitVec 32 := Scalar.addi c1_i32 v17
  let c1_i32_5 : BitVec 32 := 1#32
  let v19 : BitVec 1 := Scalar.cmpi .sgt arg1 c1_i32_5
  let v22 : BitVec 1 := Scalar.cmpi .eq v21 v11
  let v23 : BitVec 1 := Scalar.andi v19 v22
  let v24 : BitVec 32 := Scalar.extui v23
  let v25 : BitVec 32 := Scalar.addi v18 v24
  let c2_i32 : BitVec 32 := 2#32
  let v26 : BitVec 1 := Scalar.cmpi .sgt arg1 c2_i32
  let v29 : BitVec 1 := Scalar.cmpi .eq v28 v11
  let v30 : BitVec 1 := Scalar.andi v26 v29
  let v31 : BitVec 32 := Scalar.extui v30
  let v32 : BitVec 32 := Scalar.addi v25 v31
  let c3_i32 : BitVec 32 := 3#32
  let v33 : BitVec 1 := Scalar.cmpi .sgt arg1 c3_i32
  let v36 : BitVec 1 := Scalar.cmpi .eq v35 v11
  let v37 : BitVec 1 := Scalar.andi v33 v36
  let v38 : BitVec 32 := Scalar.extui v37
  let v39 : BitVec 32 := Scalar.addi v32 v38
  let c4_i32 : BitVec 32 := 4#32
  let v40 : BitVec 1 := Scalar.cmpi .sgt arg1 c4_i32
  let v43 : BitVec 1 := Scalar.cmpi .eq v42 v11
  let v44 : BitVec 1 := Scalar.andi v40 v43
  let v45 : BitVec 32 := Scalar.extui v44
  let v46 : BitVec 32 := Scalar.addi v39 v45
  let c5_i32 : BitVec 32 := 5#32
  let v47 : BitVec 1 := Scalar.cmpi .sgt arg1 c5_i32
  let v50 : BitVec 1 := Scalar.cmpi .eq v49 v11
  let v51 : BitVec 1 := Scalar.andi v47 v50
  let v52 : BitVec 32 := Scalar.extui v51
  let v53 : BitVec 32 := Scalar.addi v46 v52
  let c6_i32 : BitVec 32 := 6#32
  let v54 : BitVec 1 := Scalar.cmpi .sgt arg1 c6_i32
  let v57 : BitVec 1 := Scalar.cmpi .eq v56 v11
  let v58 : BitVec 1 := Scalar.andi v54 v57
  let v59 : BitVec 32 := Scalar.extui v58
  let v60 : BitVec 32 := Scalar.addi v53 v59
  let c8_i32 : BitVec 32 := 8#32
  let v82 : BitVec 1 := Scalar.cmpi .eq v60 c8_i32
  let v83 : BitVec 32 := Scalar.extui v82
  let c0_i32_19 : BitVec 32 := 0#32
  let v84 : BitVec 1 := Scalar.cmpi .ne v83 c0_i32_19
  v84

def k0_off319 (i : grid0.Coords) : Fin 3 → Nat :=
  let arg0 : BitVec 32 := BitVec.ofNat 32 (i 0).val
  let v110 : Index := Scalar.indexCast arg0
  let c0_31 : Index := 0#32
  let arg1 : BitVec 32 := BitVec.ofNat 32 (i 1).val
  let c128_i32_29 : BitVec 32 := 128#32
  let v99 : BitVec 32 := Scalar.muli arg1 c128_i32_29
  let v100 : BitVec 32 := v99
  let v111 : Index := Scalar.indexCast v100
  ![v110.toNat, 0, v111.toNat]
def k0_off320 (i : grid0.Coords) : Fin 4 → Nat :=
  let c0_38 : Index := 0#32
  let c0_39 : Index := 0#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v143 : Index := Scalar.indexCast v98
  let c0_40 : Index := 0#32
  ![0, 0, v143.toNat, 0]
def k0_off321 (i : grid0.Coords) : Fin 3 → Nat :=
  let arg0 : BitVec 32 := BitVec.ofNat 32 (i 0).val
  let v150 : Index := Scalar.indexCast arg0
  let c0_41 : Index := 0#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v151 : Index := Scalar.indexCast v98
  ![v150.toNat, 0, v151.toNat]
def k0_off322 (i : grid0.Coords) : Fin 2 → Nat :=
  let c0_52 : Index := 0#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v193 : Index := Scalar.indexCast v98
  ![0, v193.toNat]
def k0_off323 (i : grid0.Coords) : Fin 4 → Nat :=
  let c0_81 : Index := 0#32
  let c1_82 : Index := 1#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v258 : Index := Scalar.indexCast v98
  let c0_83 : Index := 0#32
  ![0, 1, v258.toNat, 0]
def k0_off324 (i : grid0.Coords) : Fin 3 → Nat :=
  let arg0 : BitVec 32 := BitVec.ofNat 32 (i 0).val
  let v264 : Index := Scalar.indexCast arg0
  let c1_85 : Index := 1#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v265 : Index := Scalar.indexCast v98
  ![v264.toNat, 1, v265.toNat]
def k0_off325 (i : grid0.Coords) : Fin 4 → Nat :=
  let c0_100 : Index := 0#32
  let c2_101 : Index := 2#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v302 : Index := Scalar.indexCast v98
  let c0_102 : Index := 0#32
  ![0, 2, v302.toNat, 0]
def k0_off326 (i : grid0.Coords) : Fin 3 → Nat :=
  let arg0 : BitVec 32 := BitVec.ofNat 32 (i 0).val
  let v308 : Index := Scalar.indexCast arg0
  let c2_104 : Index := 2#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v309 : Index := Scalar.indexCast v98
  ![v308.toNat, 2, v309.toNat]
def k0_off327 (i : grid0.Coords) : Fin 4 → Nat :=
  let c0_119 : Index := 0#32
  let c3_120 : Index := 3#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v346 : Index := Scalar.indexCast v98
  let c0_121 : Index := 0#32
  ![0, 3, v346.toNat, 0]
def k0_off328 (i : grid0.Coords) : Fin 3 → Nat :=
  let arg0 : BitVec 32 := BitVec.ofNat 32 (i 0).val
  let v352 : Index := Scalar.indexCast arg0
  let c3_123 : Index := 3#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v353 : Index := Scalar.indexCast v98
  ![v352.toNat, 3, v353.toNat]
def k0_off329 (i : grid0.Coords) : Fin 4 → Nat :=
  let c0_138 : Index := 0#32
  let c4_139 : Index := 4#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v390 : Index := Scalar.indexCast v98
  let c0_140 : Index := 0#32
  ![0, 4, v390.toNat, 0]
def k0_off330 (i : grid0.Coords) : Fin 3 → Nat :=
  let arg0 : BitVec 32 := BitVec.ofNat 32 (i 0).val
  let v396 : Index := Scalar.indexCast arg0
  let c4_142 : Index := 4#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v397 : Index := Scalar.indexCast v98
  ![v396.toNat, 4, v397.toNat]
def k0_off331 (i : grid0.Coords) : Fin 4 → Nat :=
  let c0_157 : Index := 0#32
  let c5_158 : Index := 5#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v434 : Index := Scalar.indexCast v98
  let c0_159 : Index := 0#32
  ![0, 5, v434.toNat, 0]
def k0_off332 (i : grid0.Coords) : Fin 3 → Nat :=
  let arg0 : BitVec 32 := BitVec.ofNat 32 (i 0).val
  let v440 : Index := Scalar.indexCast arg0
  let c5_161 : Index := 5#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v441 : Index := Scalar.indexCast v98
  ![v440.toNat, 5, v441.toNat]
def k0_off333 (i : grid0.Coords) : Fin 4 → Nat :=
  let c0_176 : Index := 0#32
  let c6_177 : Index := 6#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v478 : Index := Scalar.indexCast v98
  let c0_178 : Index := 0#32
  ![0, 6, v478.toNat, 0]
def k0_off334 (i : grid0.Coords) : Fin 3 → Nat :=
  let arg0 : BitVec 32 := BitVec.ofNat 32 (i 0).val
  let v484 : Index := Scalar.indexCast arg0
  let c6_180 : Index := 6#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v485 : Index := Scalar.indexCast v98
  ![v484.toNat, 6, v485.toNat]
def k0_off335 (i : grid0.Coords) : Fin 4 → Nat :=
  let c0_195 : Index := 0#32
  let c7_196 : Index := 7#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v522 : Index := Scalar.indexCast v98
  let c0_197 : Index := 0#32
  ![0, 7, v522.toNat, 0]
def k0_off336 (i : grid0.Coords) : Fin 3 → Nat :=
  let arg0 : BitVec 32 := BitVec.ofNat 32 (i 0).val
  let v528 : Index := Scalar.indexCast arg0
  let c7_199 : Index := 7#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v529 : Index := Scalar.indexCast v98
  ![v528.toNat, 7, v529.toNat]
def k0_off337 (i : grid0.Coords) : Fin 4 → Nat :=
  let c0_214 : Index := 0#32
  let c8_215 : Index := 8#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v566 : Index := Scalar.indexCast v98
  let c0_216 : Index := 0#32
  ![0, 8, v566.toNat, 0]
def k0_off338 (i : grid0.Coords) : Fin 3 → Nat :=
  let arg0 : BitVec 32 := BitVec.ofNat 32 (i 0).val
  let v572 : Index := Scalar.indexCast arg0
  let c8_218 : Index := 8#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v573 : Index := Scalar.indexCast v98
  ![v572.toNat, 8, v573.toNat]
def k0_off339 (i : grid0.Coords) : Fin 4 → Nat :=
  let c0_233 : Index := 0#32
  let c9_234 : Index := 9#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v610 : Index := Scalar.indexCast v98
  let c0_235 : Index := 0#32
  ![0, 9, v610.toNat, 0]
def k0_off340 (i : grid0.Coords) : Fin 3 → Nat :=
  let arg0 : BitVec 32 := BitVec.ofNat 32 (i 0).val
  let v616 : Index := Scalar.indexCast arg0
  let c9_237 : Index := 9#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v617 : Index := Scalar.indexCast v98
  ![v616.toNat, 9, v617.toNat]
def k0_off341 (i : grid0.Coords) : Fin 4 → Nat :=
  let c0_252 : Index := 0#32
  let c10_253 : Index := 10#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v654 : Index := Scalar.indexCast v98
  let c0_254 : Index := 0#32
  ![0, 10, v654.toNat, 0]
def k0_off342 (i : grid0.Coords) : Fin 3 → Nat :=
  let arg0 : BitVec 32 := BitVec.ofNat 32 (i 0).val
  let v660 : Index := Scalar.indexCast arg0
  let c10_256 : Index := 10#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v661 : Index := Scalar.indexCast v98
  ![v660.toNat, 10, v661.toNat]
def k0_off343 (i : grid0.Coords) : Fin 4 → Nat :=
  let c0_271 : Index := 0#32
  let c11_272 : Index := 11#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v698 : Index := Scalar.indexCast v98
  let c0_273 : Index := 0#32
  ![0, 11, v698.toNat, 0]
def k0_off344 (i : grid0.Coords) : Fin 3 → Nat :=
  let arg0 : BitVec 32 := BitVec.ofNat 32 (i 0).val
  let v704 : Index := Scalar.indexCast arg0
  let c11_275 : Index := 11#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v705 : Index := Scalar.indexCast v98
  ![v704.toNat, 11, v705.toNat]
def k0_off345 (i : grid0.Coords) : Fin 4 → Nat :=
  let c0_290 : Index := 0#32
  let c12_291 : Index := 12#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v742 : Index := Scalar.indexCast v98
  let c0_292 : Index := 0#32
  ![0, 12, v742.toNat, 0]
def k0_off346 (i : grid0.Coords) : Fin 3 → Nat :=
  let arg0 : BitVec 32 := BitVec.ofNat 32 (i 0).val
  let v748 : Index := Scalar.indexCast arg0
  let c12_294 : Index := 12#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v749 : Index := Scalar.indexCast v98
  ![v748.toNat, 12, v749.toNat]
def k0_off347 (i : grid0.Coords) : Fin 4 → Nat :=
  let c0_309 : Index := 0#32
  let c13_310 : Index := 13#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v786 : Index := Scalar.indexCast v98
  let c0_311 : Index := 0#32
  ![0, 13, v786.toNat, 0]
def k0_off348 (i : grid0.Coords) : Fin 3 → Nat :=
  let arg0 : BitVec 32 := BitVec.ofNat 32 (i 0).val
  let v792 : Index := Scalar.indexCast arg0
  let c13_313 : Index := 13#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v793 : Index := Scalar.indexCast v98
  ![v792.toNat, 13, v793.toNat]
def k0_off349 (i : grid0.Coords) : Fin 4 → Nat :=
  let c0_328 : Index := 0#32
  let c14_329 : Index := 14#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v830 : Index := Scalar.indexCast v98
  let c0_330 : Index := 0#32
  ![0, 14, v830.toNat, 0]
def k0_off350 (i : grid0.Coords) : Fin 3 → Nat :=
  let arg0 : BitVec 32 := BitVec.ofNat 32 (i 0).val
  let v836 : Index := Scalar.indexCast arg0
  let c14_332 : Index := 14#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v837 : Index := Scalar.indexCast v98
  ![v836.toNat, 14, v837.toNat]
def k0_off351 (i : grid0.Coords) : Fin 4 → Nat :=
  let c0_347 : Index := 0#32
  let c15_348 : Index := 15#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v874 : Index := Scalar.indexCast v98
  let c0_349 : Index := 0#32
  ![0, 15, v874.toNat, 0]
def k0_off352 (i : grid0.Coords) : Fin 3 → Nat :=
  let arg0 : BitVec 32 := BitVec.ofNat 32 (i 0).val
  let v880 : Index := Scalar.indexCast arg0
  let c15_351 : Index := 15#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v881 : Index := Scalar.indexCast v98
  ![v880.toNat, 15, v881.toNat]
def k0_off353 (i : grid0.Coords) : Fin 4 → Nat :=
  let c0_366 : Index := 0#32
  let c16_367 : Index := 16#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v918 : Index := Scalar.indexCast v98
  let c0_368 : Index := 0#32
  ![0, 16, v918.toNat, 0]
def k0_off354 (i : grid0.Coords) : Fin 3 → Nat :=
  let arg0 : BitVec 32 := BitVec.ofNat 32 (i 0).val
  let v924 : Index := Scalar.indexCast arg0
  let c16_370 : Index := 16#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v925 : Index := Scalar.indexCast v98
  ![v924.toNat, 16, v925.toNat]
def k0_off355 (i : grid0.Coords) : Fin 4 → Nat :=
  let c0_385 : Index := 0#32
  let c17_386 : Index := 17#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v962 : Index := Scalar.indexCast v98
  let c0_387 : Index := 0#32
  ![0, 17, v962.toNat, 0]
def k0_off356 (i : grid0.Coords) : Fin 3 → Nat :=
  let arg0 : BitVec 32 := BitVec.ofNat 32 (i 0).val
  let v968 : Index := Scalar.indexCast arg0
  let c17_389 : Index := 17#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v969 : Index := Scalar.indexCast v98
  ![v968.toNat, 17, v969.toNat]
def k0_off357 (i : grid0.Coords) : Fin 4 → Nat :=
  let c0_404 : Index := 0#32
  let c18_405 : Index := 18#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v1006 : Index := Scalar.indexCast v98
  let c0_406 : Index := 0#32
  ![0, 18, v1006.toNat, 0]
def k0_off358 (i : grid0.Coords) : Fin 3 → Nat :=
  let arg0 : BitVec 32 := BitVec.ofNat 32 (i 0).val
  let v1012 : Index := Scalar.indexCast arg0
  let c18_408 : Index := 18#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v1013 : Index := Scalar.indexCast v98
  ![v1012.toNat, 18, v1013.toNat]
def k0_off359 (i : grid0.Coords) : Fin 4 → Nat :=
  let c0_423 : Index := 0#32
  let c19_424 : Index := 19#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v1050 : Index := Scalar.indexCast v98
  let c0_425 : Index := 0#32
  ![0, 19, v1050.toNat, 0]
def k0_off360 (i : grid0.Coords) : Fin 3 → Nat :=
  let arg0 : BitVec 32 := BitVec.ofNat 32 (i 0).val
  let v1056 : Index := Scalar.indexCast arg0
  let c19_427 : Index := 19#32
  let arg1 : BitVec 32 := BitVec.ofNat 32 (i 1).val
  let c1_i32_26 : BitVec 32 := 1#32
  let v95 : BitVec 32 := Scalar.addi arg1 c1_i32_26
  let c8_i32_27 : BitVec 32 := 8#32
  let v96 : BitVec 32 := Scalar.subi v95 c8_i32_27
  let c128_i32_28 : BitVec 32 := 128#32
  let v97 : BitVec 32 := Scalar.muli v96 c128_i32_28
  let v98 : BitVec 32 := v97
  let v1057 : Index := Scalar.indexCast v98
  ![v1056.toNat, 19, v1057.toNat]

def k0_chk1_0 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h4 : k0_cond4 i v11 v14 v21 v28 v35 v42 v49 v56 = 1#1), ∀ a, (k0_off54 i) a + S1x1x256.size a ≤ S2x8x1024.size a) ∧
  (∀ (k0_h4 : k0_cond4 i v11 v14 v21 v28 v35 v42 v49 v56 = 1#1), ∀ a, (k0_off56 i) a + S1x1x256x128.size a ≤ S1x20x1024x128.size a) ∧
  (∀ (k0_h4 : k0_cond4 i v11 v14 v21 v28 v35 v42 v49 v56 = 1#1), ∀ a, (k0_off57 i) a + S1x1x256.size a ≤ S2x20x1024.size a) ∧
  (∀ (k0_h4 : k0_cond4 i v11 v14 v21 v28 v35 v42 v49 v56 = 1#1), ∀ a, (k0_off58 i) a + S8x256.size a ≤ S8x1024.size a) ∧
  (∀ (k0_h4 : k0_cond4 i v11 v14 v21 v28 v35 v42 v49 v56 = 1#1), ∀ a, (k0_off59 i) a + S1x1x256x128.size a ≤ S1x20x1024x128.size a) ∧
  (∀ (k0_h4 : k0_cond4 i v11 v14 v21 v28 v35 v42 v49 v56 = 1#1), ∀ a, (k0_off60 i) a + S1x1x256.size a ≤ S2x20x1024.size a) ∧
  (∀ (k0_h4 : k0_cond4 i v11 v14 v21 v28 v35 v42 v49 v56 = 1#1), ∀ a, (k0_off61 i) a + S1x1x256x128.size a ≤ S1x20x1024x128.size a) ∧
  (∀ (k0_h4 : k0_cond4 i v11 v14 v21 v28 v35 v42 v49 v56 = 1#1), ∀ a, (k0_off62 i) a + S1x1x256.size a ≤ S2x20x1024.size a) ∧
  (∀ (k0_h4 : k0_cond4 i v11 v14 v21 v28 v35 v42 v49 v56 = 1#1), ∀ a, (k0_off63 i) a + S1x1x256x128.size a ≤ S1x20x1024x128.size a) ∧
  (∀ (k0_h4 : k0_cond4 i v11 v14 v21 v28 v35 v42 v49 v56 = 1#1), ∀ a, (k0_off64 i) a + S1x1x256.size a ≤ S2x20x1024.size a) ∧
  (∀ (k0_h4 : k0_cond4 i v11 v14 v21 v28 v35 v42 v49 v56 = 1#1), ∀ a, (k0_off65 i) a + S1x1x256x128.size a ≤ S1x20x1024x128.size a) ∧
  (∀ (k0_h4 : k0_cond4 i v11 v14 v21 v28 v35 v42 v49 v56 = 1#1), ∀ a, (k0_off66 i) a + S1x1x256.size a ≤ S2x20x1024.size a) ∧
  (∀ (k0_h4 : k0_cond4 i v11 v14 v21 v28 v35 v42 v49 v56 = 1#1), ∀ a, (k0_off67 i) a + S1x1x256x128.size a ≤ S1x20x1024x128.size a) ∧
  (∀ (k0_h4 : k0_cond4 i v11 v14 v21 v28 v35 v42 v49 v56 = 1#1), ∀ a, (k0_off68 i) a + S1x1x256.size a ≤ S2x20x1024.size a) ∧
  (∀ (k0_h4 : k0_cond4 i v11 v14 v21 v28 v35 v42 v49 v56 = 1#1), ∀ a, (k0_off69 i) a + S1x1x256x128.size a ≤ S1x20x1024x128.size a) ∧
  (∀ (k0_h4 : k0_cond4 i v11 v14 v21 v28 v35 v42 v49 v56 = 1#1), ∀ a, (k0_off70 i) a + S1x1x256.size a ≤ S2x20x1024.size a) ∧
  (∀ (k0_h4 : k0_cond4 i v11 v14 v21 v28 v35 v42 v49 v56 = 1#1), ∀ a, (k0_off71 i) a + S1x1x256x128.size a ≤ S1x20x1024x128.size a) ∧
  (∀ (k0_h4 : k0_cond4 i v11 v14 v21 v28 v35 v42 v49 v56 = 1#1), ∀ a, (k0_off72 i) a + S1x1x256.size a ≤ S2x20x1024.size a) ∧
  (∀ (k0_h4 : k0_cond4 i v11 v14 v21 v28 v35 v42 v49 v56 = 1#1), ∀ a, (k0_off73 i) a + S1x1x256x128.size a ≤ S1x20x1024x128.size a) ∧
  (∀ (k0_h4 : k0_cond4 i v11 v14 v21 v28 v35 v42 v49 v56 = 1#1), ∀ a, (k0_off74 i) a + S1x1x256.size a ≤ S2x20x1024.size a) ∧
  (∀ (k0_h4 : k0_cond4 i v11 v14 v21 v28 v35 v42 v49 v56 = 1#1), ∀ a, (k0_off75 i) a + S1x1x256x128.size a ≤ S1x20x1024x128.size a) ∧
  (∀ (k0_h4 : k0_cond4 i v11 v14 v21 v28 v35 v42 v49 v56 = 1#1), ∀ a, (k0_off76 i) a + S1x1x256.size a ≤ S2x20x1024.size a) ∧
  (∀ (k0_h4 : k0_cond4 i v11 v14 v21 v28 v35 v42 v49 v56 = 1#1), ∀ a, (k0_off77 i) a + S1x1x256x128.size a ≤ S1x20x1024x128.size a) ∧
  (∀ (k0_h4 : k0_cond4 i v11 v14 v21 v28 v35 v42 v49 v56 = 1#1), ∀ a, (k0_off78 i) a + S1x1x256.size a ≤ S2x20x1024.size a) ∧
  (∀ (k0_h4 : k0_cond4 i v11 v14 v21 v28 v35 v42 v49 v56 = 1#1), ∀ a, (k0_off79 i) a + S1x1x256x128.size a ≤ S1x20x1024x128.size a) ∧
  (∀ (k0_h4 : k0_cond4 i v11 v14 v21 v28 v35 v42 v49 v56 = 1#1), ∀ a, (k0_off80 i) a + S1x1x256.size a ≤ S2x20x1024.size a) ∧
  (∀ (k0_h4 : k0_cond4 i v11 v14 v21 v28 v35 v42 v49 v56 = 1#1), ∀ a, (k0_off81 i) a + S1x1x256x128.size a ≤ S1x20x1024x128.size a) ∧
  (∀ (k0_h4 : k0_cond4 i v11 v14 v21 v28 v35 v42 v49 v56 = 1#1), ∀ a, (k0_off82 i) a + S1x1x256.size a ≤ S2x20x1024.size a) ∧
  (∀ (k0_h4 : k0_cond4 i v11 v14 v21 v28 v35 v42 v49 v56 = 1#1), ∀ a, (k0_off83 i) a + S1x1x256x128.size a ≤ S1x20x1024x128.size a) ∧
  (∀ (k0_h4 : k0_cond4 i v11 v14 v21 v28 v35 v42 v49 v56 = 1#1), ∀ a, (k0_off84 i) a + S1x1x256.size a ≤ S2x20x1024.size a) ∧
  (∀ (k0_h4 : k0_cond4 i v11 v14 v21 v28 v35 v42 v49 v56 = 1#1), ∀ a, (k0_off85 i) a + S1x1x256x128.size a ≤ S1x20x1024x128.size a) ∧
  (∀ (k0_h4 : k0_cond4 i v11 v14 v21 v28 v35 v42 v49 v56 = 1#1), ∀ a, (k0_off86 i) a + S1x1x256.size a ≤ S2x20x1024.size a)
def k0_chk1_1 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h4 : k0_cond4 i v11 v14 v21 v28 v35 v42 v49 v56 = 1#1), ∀ a, (k0_off87 i) a + S1x1x256x128.size a ≤ S1x20x1024x128.size a) ∧
  (∀ (k0_h4 : k0_cond4 i v11 v14 v21 v28 v35 v42 v49 v56 = 1#1), ∀ a, (k0_off88 i) a + S1x1x256.size a ≤ S2x20x1024.size a) ∧
  (∀ (k0_h4 : k0_cond4 i v11 v14 v21 v28 v35 v42 v49 v56 = 1#1), ∀ a, (k0_off89 i) a + S1x1x256x128.size a ≤ S1x20x1024x128.size a) ∧
  (∀ (k0_h4 : k0_cond4 i v11 v14 v21 v28 v35 v42 v49 v56 = 1#1), ∀ a, (k0_off90 i) a + S1x1x256.size a ≤ S2x20x1024.size a) ∧
  (∀ (k0_h4 : k0_cond4 i v11 v14 v21 v28 v35 v42 v49 v56 = 1#1), ∀ a, (k0_off91 i) a + S1x1x256x128.size a ≤ S1x20x1024x128.size a) ∧
  (∀ (k0_h4 : k0_cond4 i v11 v14 v21 v28 v35 v42 v49 v56 = 1#1), ∀ a, (k0_off92 i) a + S1x1x256.size a ≤ S2x20x1024.size a) ∧
  (∀ (k0_h4 : k0_cond4 i v11 v14 v21 v28 v35 v42 v49 v56 = 1#1), ∀ a, (k0_off93 i) a + S1x1x256x128.size a ≤ S1x20x1024x128.size a) ∧
  (∀ (k0_h4 : k0_cond4 i v11 v14 v21 v28 v35 v42 v49 v56 = 1#1), ∀ a, (k0_off94 i) a + S1x1x256.size a ≤ S2x20x1024.size a) ∧
  (∀ (k0_h4 : k0_cond4 i v11 v14 v21 v28 v35 v42 v49 v56 = 1#1), ∀ a, (k0_off95 i) a + S1x1x256x128.size a ≤ S1x20x1024x128.size a) ∧
  (∀ (k0_h4 : k0_cond4 i v11 v14 v21 v28 v35 v42 v49 v56 = 1#1), ∀ a, (k0_off96 i) a + S1x1x256.size a ≤ S2x20x1024.size a) ∧
  (∀ (k0_h5 : k0_cond5 i v11 v14 v21 v28 v35 v42 v49 v56 = 1#1), ∀ a, (k0_off98 i) a + S1x1x384.size a ≤ S2x8x1024.size a) ∧
  (∀ (k0_h5 : k0_cond5 i v11 v14 v21 v28 v35 v42 v49 v56 = 1#1), ∀ a, (k0_off100 i) a + S1x1x384x128.size a ≤ S1x20x1024x128.size a) ∧
  (∀ (k0_h5 : k0_cond5 i v11 v14 v21 v28 v35 v42 v49 v56 = 1#1), ∀ a, (k0_off101 i) a + S1x1x384.size a ≤ S2x20x1024.size a) ∧
  (∀ (k0_h5 : k0_cond5 i v11 v14 v21 v28 v35 v42 v49 v56 = 1#1), ∀ a, (k0_off102 i) a + S8x384.size a ≤ S8x1024.size a) ∧
  (∀ (k0_h5 : k0_cond5 i v11 v14 v21 v28 v35 v42 v49 v56 = 1#1), ∀ a, (k0_off103 i) a + S1x1x384x128.size a ≤ S1x20x1024x128.size a) ∧
  (∀ (k0_h5 : k0_cond5 i v11 v14 v21 v28 v35 v42 v49 v56 = 1#1), ∀ a, (k0_off104 i) a + S1x1x384.size a ≤ S2x20x1024.size a) ∧
  (∀ (k0_h5 : k0_cond5 i v11 v14 v21 v28 v35 v42 v49 v56 = 1#1), ∀ a, (k0_off105 i) a + S1x1x384x128.size a ≤ S1x20x1024x128.size a) ∧
  (∀ (k0_h5 : k0_cond5 i v11 v14 v21 v28 v35 v42 v49 v56 = 1#1), ∀ a, (k0_off106 i) a + S1x1x384.size a ≤ S2x20x1024.size a) ∧
  (∀ (k0_h5 : k0_cond5 i v11 v14 v21 v28 v35 v42 v49 v56 = 1#1), ∀ a, (k0_off107 i) a + S1x1x384x128.size a ≤ S1x20x1024x128.size a) ∧
  (∀ (k0_h5 : k0_cond5 i v11 v14 v21 v28 v35 v42 v49 v56 = 1#1), ∀ a, (k0_off108 i) a + S1x1x384.size a ≤ S2x20x1024.size a) ∧
  (∀ (k0_h5 : k0_cond5 i v11 v14 v21 v28 v35 v42 v49 v56 = 1#1), ∀ a, (k0_off109 i) a + S1x1x384x128.size a ≤ S1x20x1024x128.size a) ∧
  (∀ (k0_h5 : k0_cond5 i v11 v14 v21 v28 v35 v42 v49 v56 = 1#1), ∀ a, (k0_off110 i) a + S1x1x384.size a ≤ S2x20x1024.size a) ∧
  (∀ (k0_h5 : k0_cond5 i v11 v14 v21 v28 v35 v42 v49 v56 = 1#1), ∀ a, (k0_off111 i) a + S1x1x384x128.size a ≤ S1x20x1024x128.size a) ∧
  (∀ (k0_h5 : k0_cond5 i v11 v14 v21 v28 v35 v42 v49 v56 = 1#1), ∀ a, (k0_off112 i) a + S1x1x384.size a ≤ S2x20x1024.size a) ∧
  (∀ (k0_h5 : k0_cond5 i v11 v14 v21 v28 v35 v42 v49 v56 = 1#1), ∀ a, (k0_off113 i) a + S1x1x384x128.size a ≤ S1x20x1024x128.size a) ∧
  (∀ (k0_h5 : k0_cond5 i v11 v14 v21 v28 v35 v42 v49 v56 = 1#1), ∀ a, (k0_off114 i) a + S1x1x384.size a ≤ S2x20x1024.size a) ∧
  (∀ (k0_h5 : k0_cond5 i v11 v14 v21 v28 v35 v42 v49 v56 = 1#1), ∀ a, (k0_off115 i) a + S1x1x384x128.size a ≤ S1x20x1024x128.size a) ∧
  (∀ (k0_h5 : k0_cond5 i v11 v14 v21 v28 v35 v42 v49 v56 = 1#1), ∀ a, (k0_off116 i) a + S1x1x384.size a ≤ S2x20x1024.size a) ∧
  (∀ (k0_h5 : k0_cond5 i v11 v14 v21 v28 v35 v42 v49 v56 = 1#1), ∀ a, (k0_off117 i) a + S1x1x384x128.size a ≤ S1x20x1024x128.size a) ∧
  (∀ (k0_h5 : k0_cond5 i v11 v14 v21 v28 v35 v42 v49 v56 = 1#1), ∀ a, (k0_off118 i) a + S1x1x384.size a ≤ S2x20x1024.size a) ∧
  (∀ (k0_h5 : k0_cond5 i v11 v14 v21 v28 v35 v42 v49 v56 = 1#1), ∀ a, (k0_off119 i) a + S1x1x384x128.size a ≤ S1x20x1024x128.size a) ∧
  (∀ (k0_h5 : k0_cond5 i v11 v14 v21 v28 v35 v42 v49 v56 = 1#1), ∀ a, (k0_off120 i) a + S1x1x384.size a ≤ S2x20x1024.size a)
def k0_chk1_2 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h5 : k0_cond5 i v11 v14 v21 v28 v35 v42 v49 v56 = 1#1), ∀ a, (k0_off121 i) a + S1x1x384x128.size a ≤ S1x20x1024x128.size a) ∧
  (∀ (k0_h5 : k0_cond5 i v11 v14 v21 v28 v35 v42 v49 v56 = 1#1), ∀ a, (k0_off122 i) a + S1x1x384.size a ≤ S2x20x1024.size a) ∧
  (∀ (k0_h5 : k0_cond5 i v11 v14 v21 v28 v35 v42 v49 v56 = 1#1), ∀ a, (k0_off123 i) a + S1x1x384x128.size a ≤ S1x20x1024x128.size a) ∧
  (∀ (k0_h5 : k0_cond5 i v11 v14 v21 v28 v35 v42 v49 v56 = 1#1), ∀ a, (k0_off124 i) a + S1x1x384.size a ≤ S2x20x1024.size a) ∧
  (∀ (k0_h5 : k0_cond5 i v11 v14 v21 v28 v35 v42 v49 v56 = 1#1), ∀ a, (k0_off125 i) a + S1x1x384x128.size a ≤ S1x20x1024x128.size a) ∧
  (∀ (k0_h5 : k0_cond5 i v11 v14 v21 v28 v35 v42 v49 v56 = 1#1), ∀ a, (k0_off126 i) a + S1x1x384.size a ≤ S2x20x1024.size a) ∧
  (∀ (k0_h5 : k0_cond5 i v11 v14 v21 v28 v35 v42 v49 v56 = 1#1), ∀ a, (k0_off127 i) a + S1x1x384x128.size a ≤ S1x20x1024x128.size a) ∧
  (∀ (k0_h5 : k0_cond5 i v11 v14 v21 v28 v35 v42 v49 v56 = 1#1), ∀ a, (k0_off128 i) a + S1x1x384.size a ≤ S2x20x1024.size a) ∧
  (∀ (k0_h5 : k0_cond5 i v11 v14 v21 v28 v35 v42 v49 v56 = 1#1), ∀ a, (k0_off129 i) a + S1x1x384x128.size a ≤ S1x20x1024x128.size a) ∧
  (∀ (k0_h5 : k0_cond5 i v11 v14 v21 v28 v35 v42 v49 v56 = 1#1), ∀ a, (k0_off130 i) a + S1x1x384.size a ≤ S2x20x1024.size a) ∧
  (∀ (k0_h5 : k0_cond5 i v11 v14 v21 v28 v35 v42 v49 v56 = 1#1), ∀ a, (k0_off131 i) a + S1x1x384x128.size a ≤ S1x20x1024x128.size a) ∧
  (∀ (k0_h5 : k0_cond5 i v11 v14 v21 v28 v35 v42 v49 v56 = 1#1), ∀ a, (k0_off132 i) a + S1x1x384.size a ≤ S2x20x1024.size a) ∧
  (∀ (k0_h5 : k0_cond5 i v11 v14 v21 v28 v35 v42 v49 v56 = 1#1), ∀ a, (k0_off133 i) a + S1x1x384x128.size a ≤ S1x20x1024x128.size a) ∧
  (∀ (k0_h5 : k0_cond5 i v11 v14 v21 v28 v35 v42 v49 v56 = 1#1), ∀ a, (k0_off134 i) a + S1x1x384.size a ≤ S2x20x1024.size a) ∧
  (∀ (k0_h5 : k0_cond5 i v11 v14 v21 v28 v35 v42 v49 v56 = 1#1), ∀ a, (k0_off135 i) a + S1x1x384x128.size a ≤ S1x20x1024x128.size a) ∧
  (∀ (k0_h5 : k0_cond5 i v11 v14 v21 v28 v35 v42 v49 v56 = 1#1), ∀ a, (k0_off136 i) a + S1x1x384.size a ≤ S2x20x1024.size a) ∧
  (∀ (k0_h5 : k0_cond5 i v11 v14 v21 v28 v35 v42 v49 v56 = 1#1), ∀ a, (k0_off137 i) a + S1x1x384x128.size a ≤ S1x20x1024x128.size a) ∧
  (∀ (k0_h5 : k0_cond5 i v11 v14 v21 v28 v35 v42 v49 v56 = 1#1), ∀ a, (k0_off138 i) a + S1x1x384.size a ≤ S2x20x1024.size a) ∧
  (∀ (k0_h5 : k0_cond5 i v11 v14 v21 v28 v35 v42 v49 v56 = 1#1), ∀ a, (k0_off139 i) a + S1x1x384x128.size a ≤ S1x20x1024x128.size a) ∧
  (∀ (k0_h5 : k0_cond5 i v11 v14 v21 v28 v35 v42 v49 v56 = 1#1), ∀ a, (k0_off140 i) a + S1x1x384.size a ≤ S2x20x1024.size a) ∧
  (∀ (k0_h6 : k0_cond6 i v11 v14 v21 v28 v35 v42 v49 v56 = 1#1), ∀ a, (k0_off142 i) a + S1x1x512.size a ≤ S2x8x1024.size a) ∧
  (∀ (k0_h6 : k0_cond6 i v11 v14 v21 v28 v35 v42 v49 v56 = 1#1), ∀ a, (k0_off144 i) a + S1x1x512x128.size a ≤ S1x20x1024x128.size a) ∧
  (∀ (k0_h6 : k0_cond6 i v11 v14 v21 v28 v35 v42 v49 v56 = 1#1), ∀ a, (k0_off145 i) a + S1x1x512.size a ≤ S2x20x1024.size a) ∧
  (∀ (k0_h6 : k0_cond6 i v11 v14 v21 v28 v35 v42 v49 v56 = 1#1), ∀ a, (k0_off146 i) a + S8x512.size a ≤ S8x1024.size a) ∧
  (∀ (k0_h6 : k0_cond6 i v11 v14 v21 v28 v35 v42 v49 v56 = 1#1), ∀ a, (k0_off147 i) a + S1x1x512x128.size a ≤ S1x20x1024x128.size a) ∧
  (∀ (k0_h6 : k0_cond6 i v11 v14 v21 v28 v35 v42 v49 v56 = 1#1), ∀ a, (k0_off148 i) a + S1x1x512.size a ≤ S2x20x1024.size a) ∧
  (∀ (k0_h6 : k0_cond6 i v11 v14 v21 v28 v35 v42 v49 v56 = 1#1), ∀ a, (k0_off149 i) a + S1x1x512x128.size a ≤ S1x20x1024x128.size a) ∧
  (∀ (k0_h6 : k0_cond6 i v11 v14 v21 v28 v35 v42 v49 v56 = 1#1), ∀ a, (k0_off150 i) a + S1x1x512.size a ≤ S2x20x1024.size a) ∧
  (∀ (k0_h6 : k0_cond6 i v11 v14 v21 v28 v35 v42 v49 v56 = 1#1), ∀ a, (k0_off151 i) a + S1x1x512x128.size a ≤ S1x20x1024x128.size a) ∧
  (∀ (k0_h6 : k0_cond6 i v11 v14 v21 v28 v35 v42 v49 v56 = 1#1), ∀ a, (k0_off152 i) a + S1x1x512.size a ≤ S2x20x1024.size a) ∧
  (∀ (k0_h6 : k0_cond6 i v11 v14 v21 v28 v35 v42 v49 v56 = 1#1), ∀ a, (k0_off153 i) a + S1x1x512x128.size a ≤ S1x20x1024x128.size a) ∧
  (∀ (k0_h6 : k0_cond6 i v11 v14 v21 v28 v35 v42 v49 v56 = 1#1), ∀ a, (k0_off154 i) a + S1x1x512.size a ≤ S2x20x1024.size a)
def k0_chk1_3 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h6 : k0_cond6 i v11 v14 v21 v28 v35 v42 v49 v56 = 1#1), ∀ a, (k0_off155 i) a + S1x1x512x128.size a ≤ S1x20x1024x128.size a) ∧
  (∀ (k0_h6 : k0_cond6 i v11 v14 v21 v28 v35 v42 v49 v56 = 1#1), ∀ a, (k0_off156 i) a + S1x1x512.size a ≤ S2x20x1024.size a) ∧
  (∀ (k0_h6 : k0_cond6 i v11 v14 v21 v28 v35 v42 v49 v56 = 1#1), ∀ a, (k0_off157 i) a + S1x1x512x128.size a ≤ S1x20x1024x128.size a) ∧
  (∀ (k0_h6 : k0_cond6 i v11 v14 v21 v28 v35 v42 v49 v56 = 1#1), ∀ a, (k0_off158 i) a + S1x1x512.size a ≤ S2x20x1024.size a) ∧
  (∀ (k0_h6 : k0_cond6 i v11 v14 v21 v28 v35 v42 v49 v56 = 1#1), ∀ a, (k0_off159 i) a + S1x1x512x128.size a ≤ S1x20x1024x128.size a) ∧
  (∀ (k0_h6 : k0_cond6 i v11 v14 v21 v28 v35 v42 v49 v56 = 1#1), ∀ a, (k0_off160 i) a + S1x1x512.size a ≤ S2x20x1024.size a) ∧
  (∀ (k0_h6 : k0_cond6 i v11 v14 v21 v28 v35 v42 v49 v56 = 1#1), ∀ a, (k0_off161 i) a + S1x1x512x128.size a ≤ S1x20x1024x128.size a) ∧
  (∀ (k0_h6 : k0_cond6 i v11 v14 v21 v28 v35 v42 v49 v56 = 1#1), ∀ a, (k0_off162 i) a + S1x1x512.size a ≤ S2x20x1024.size a) ∧
  (∀ (k0_h6 : k0_cond6 i v11 v14 v21 v28 v35 v42 v49 v56 = 1#1), ∀ a, (k0_off163 i) a + S1x1x512x128.size a ≤ S1x20x1024x128.size a) ∧
  (∀ (k0_h6 : k0_cond6 i v11 v14 v21 v28 v35 v42 v49 v56 = 1#1), ∀ a, (k0_off164 i) a + S1x1x512.size a ≤ S2x20x1024.size a) ∧
  (∀ (k0_h6 : k0_cond6 i v11 v14 v21 v28 v35 v42 v49 v56 = 1#1), ∀ a, (k0_off165 i) a + S1x1x512x128.size a ≤ S1x20x1024x128.size a) ∧
  (∀ (k0_h6 : k0_cond6 i v11 v14 v21 v28 v35 v42 v49 v56 = 1#1), ∀ a, (k0_off166 i) a + S1x1x512.size a ≤ S2x20x1024.size a) ∧
  (∀ (k0_h6 : k0_cond6 i v11 v14 v21 v28 v35 v42 v49 v56 = 1#1), ∀ a, (k0_off167 i) a + S1x1x512x128.size a ≤ S1x20x1024x128.size a) ∧
  (∀ (k0_h6 : k0_cond6 i v11 v14 v21 v28 v35 v42 v49 v56 = 1#1), ∀ a, (k0_off168 i) a + S1x1x512.size a ≤ S2x20x1024.size a) ∧
  (∀ (k0_h6 : k0_cond6 i v11 v14 v21 v28 v35 v42 v49 v56 = 1#1), ∀ a, (k0_off169 i) a + S1x1x512x128.size a ≤ S1x20x1024x128.size a) ∧
  (∀ (k0_h6 : k0_cond6 i v11 v14 v21 v28 v35 v42 v49 v56 = 1#1), ∀ a, (k0_off170 i) a + S1x1x512.size a ≤ S2x20x1024.size a) ∧
  (∀ (k0_h6 : k0_cond6 i v11 v14 v21 v28 v35 v42 v49 v56 = 1#1), ∀ a, (k0_off171 i) a + S1x1x512x128.size a ≤ S1x20x1024x128.size a) ∧
  (∀ (k0_h6 : k0_cond6 i v11 v14 v21 v28 v35 v42 v49 v56 = 1#1), ∀ a, (k0_off172 i) a + S1x1x512.size a ≤ S2x20x1024.size a) ∧
  (∀ (k0_h6 : k0_cond6 i v11 v14 v21 v28 v35 v42 v49 v56 = 1#1), ∀ a, (k0_off173 i) a + S1x1x512x128.size a ≤ S1x20x1024x128.size a) ∧
  (∀ (k0_h6 : k0_cond6 i v11 v14 v21 v28 v35 v42 v49 v56 = 1#1), ∀ a, (k0_off174 i) a + S1x1x512.size a ≤ S2x20x1024.size a) ∧
  (∀ (k0_h6 : k0_cond6 i v11 v14 v21 v28 v35 v42 v49 v56 = 1#1), ∀ a, (k0_off175 i) a + S1x1x512x128.size a ≤ S1x20x1024x128.size a) ∧
  (∀ (k0_h6 : k0_cond6 i v11 v14 v21 v28 v35 v42 v49 v56 = 1#1), ∀ a, (k0_off176 i) a + S1x1x512.size a ≤ S2x20x1024.size a) ∧
  (∀ (k0_h6 : k0_cond6 i v11 v14 v21 v28 v35 v42 v49 v56 = 1#1), ∀ a, (k0_off177 i) a + S1x1x512x128.size a ≤ S1x20x1024x128.size a) ∧
  (∀ (k0_h6 : k0_cond6 i v11 v14 v21 v28 v35 v42 v49 v56 = 1#1), ∀ a, (k0_off178 i) a + S1x1x512.size a ≤ S2x20x1024.size a) ∧
  (∀ (k0_h6 : k0_cond6 i v11 v14 v21 v28 v35 v42 v49 v56 = 1#1), ∀ a, (k0_off179 i) a + S1x1x512x128.size a ≤ S1x20x1024x128.size a) ∧
  (∀ (k0_h6 : k0_cond6 i v11 v14 v21 v28 v35 v42 v49 v56 = 1#1), ∀ a, (k0_off180 i) a + S1x1x512.size a ≤ S2x20x1024.size a) ∧
  (∀ (k0_h6 : k0_cond6 i v11 v14 v21 v28 v35 v42 v49 v56 = 1#1), ∀ a, (k0_off181 i) a + S1x1x512x128.size a ≤ S1x20x1024x128.size a) ∧
  (∀ (k0_h6 : k0_cond6 i v11 v14 v21 v28 v35 v42 v49 v56 = 1#1), ∀ a, (k0_off182 i) a + S1x1x512.size a ≤ S2x20x1024.size a) ∧
  (∀ (k0_h6 : k0_cond6 i v11 v14 v21 v28 v35 v42 v49 v56 = 1#1), ∀ a, (k0_off183 i) a + S1x1x512x128.size a ≤ S1x20x1024x128.size a) ∧
  (∀ (k0_h6 : k0_cond6 i v11 v14 v21 v28 v35 v42 v49 v56 = 1#1), ∀ a, (k0_off184 i) a + S1x1x512.size a ≤ S2x20x1024.size a) ∧
  (∀ (k0_h7 : k0_cond7 i v11 v14 v21 v28 v35 v42 v49 v56 = 1#1), ∀ a, (k0_off186 i) a + S1x1x640.size a ≤ S2x8x1024.size a) ∧
  (∀ (k0_h7 : k0_cond7 i v11 v14 v21 v28 v35 v42 v49 v56 = 1#1), ∀ a, (k0_off188 i) a + S1x1x640x128.size a ≤ S1x20x1024x128.size a)
def k0_chk1_4 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h7 : k0_cond7 i v11 v14 v21 v28 v35 v42 v49 v56 = 1#1), ∀ a, (k0_off189 i) a + S1x1x640.size a ≤ S2x20x1024.size a) ∧
  (∀ (k0_h7 : k0_cond7 i v11 v14 v21 v28 v35 v42 v49 v56 = 1#1), ∀ a, (k0_off190 i) a + S8x640.size a ≤ S8x1024.size a) ∧
  (∀ (k0_h7 : k0_cond7 i v11 v14 v21 v28 v35 v42 v49 v56 = 1#1), ∀ a, (k0_off191 i) a + S1x1x640x128.size a ≤ S1x20x1024x128.size a) ∧
  (∀ (k0_h7 : k0_cond7 i v11 v14 v21 v28 v35 v42 v49 v56 = 1#1), ∀ a, (k0_off192 i) a + S1x1x640.size a ≤ S2x20x1024.size a) ∧
  (∀ (k0_h7 : k0_cond7 i v11 v14 v21 v28 v35 v42 v49 v56 = 1#1), ∀ a, (k0_off193 i) a + S1x1x640x128.size a ≤ S1x20x1024x128.size a) ∧
  (∀ (k0_h7 : k0_cond7 i v11 v14 v21 v28 v35 v42 v49 v56 = 1#1), ∀ a, (k0_off194 i) a + S1x1x640.size a ≤ S2x20x1024.size a) ∧
  (∀ (k0_h7 : k0_cond7 i v11 v14 v21 v28 v35 v42 v49 v56 = 1#1), ∀ a, (k0_off195 i) a + S1x1x640x128.size a ≤ S1x20x1024x128.size a) ∧
  (∀ (k0_h7 : k0_cond7 i v11 v14 v21 v28 v35 v42 v49 v56 = 1#1), ∀ a, (k0_off196 i) a + S1x1x640.size a ≤ S2x20x1024.size a) ∧
  (∀ (k0_h7 : k0_cond7 i v11 v14 v21 v28 v35 v42 v49 v56 = 1#1), ∀ a, (k0_off197 i) a + S1x1x640x128.size a ≤ S1x20x1024x128.size a) ∧
  (∀ (k0_h7 : k0_cond7 i v11 v14 v21 v28 v35 v42 v49 v56 = 1#1), ∀ a, (k0_off198 i) a + S1x1x640.size a ≤ S2x20x1024.size a) ∧
  (∀ (k0_h7 : k0_cond7 i v11 v14 v21 v28 v35 v42 v49 v56 = 1#1), ∀ a, (k0_off199 i) a + S1x1x640x128.size a ≤ S1x20x1024x128.size a) ∧
  (∀ (k0_h7 : k0_cond7 i v11 v14 v21 v28 v35 v42 v49 v56 = 1#1), ∀ a, (k0_off200 i) a + S1x1x640.size a ≤ S2x20x1024.size a) ∧
  (∀ (k0_h7 : k0_cond7 i v11 v14 v21 v28 v35 v42 v49 v56 = 1#1), ∀ a, (k0_off201 i) a + S1x1x640x128.size a ≤ S1x20x1024x128.size a) ∧
  (∀ (k0_h7 : k0_cond7 i v11 v14 v21 v28 v35 v42 v49 v56 = 1#1), ∀ a, (k0_off202 i) a + S1x1x640.size a ≤ S2x20x1024.size a) ∧
  (∀ (k0_h7 : k0_cond7 i v11 v14 v21 v28 v35 v42 v49 v56 = 1#1), ∀ a, (k0_off203 i) a + S1x1x640x128.size a ≤ S1x20x1024x128.size a) ∧
  (∀ (k0_h7 : k0_cond7 i v11 v14 v21 v28 v35 v42 v49 v56 = 1#1), ∀ a, (k0_off204 i) a + S1x1x640.size a ≤ S2x20x1024.size a) ∧
  (∀ (k0_h7 : k0_cond7 i v11 v14 v21 v28 v35 v42 v49 v56 = 1#1), ∀ a, (k0_off205 i) a + S1x1x640x128.size a ≤ S1x20x1024x128.size a) ∧
  (∀ (k0_h7 : k0_cond7 i v11 v14 v21 v28 v35 v42 v49 v56 = 1#1), ∀ a, (k0_off206 i) a + S1x1x640.size a ≤ S2x20x1024.size a) ∧
  (∀ (k0_h7 : k0_cond7 i v11 v14 v21 v28 v35 v42 v49 v56 = 1#1), ∀ a, (k0_off207 i) a + S1x1x640x128.size a ≤ S1x20x1024x128.size a) ∧
  (∀ (k0_h7 : k0_cond7 i v11 v14 v21 v28 v35 v42 v49 v56 = 1#1), ∀ a, (k0_off208 i) a + S1x1x640.size a ≤ S2x20x1024.size a) ∧
  (∀ (k0_h7 : k0_cond7 i v11 v14 v21 v28 v35 v42 v49 v56 = 1#1), ∀ a, (k0_off209 i) a + S1x1x640x128.size a ≤ S1x20x1024x128.size a) ∧
  (∀ (k0_h7 : k0_cond7 i v11 v14 v21 v28 v35 v42 v49 v56 = 1#1), ∀ a, (k0_off210 i) a + S1x1x640.size a ≤ S2x20x1024.size a) ∧
  (∀ (k0_h7 : k0_cond7 i v11 v14 v21 v28 v35 v42 v49 v56 = 1#1), ∀ a, (k0_off211 i) a + S1x1x640x128.size a ≤ S1x20x1024x128.size a) ∧
  (∀ (k0_h7 : k0_cond7 i v11 v14 v21 v28 v35 v42 v49 v56 = 1#1), ∀ a, (k0_off212 i) a + S1x1x640.size a ≤ S2x20x1024.size a) ∧
  (∀ (k0_h7 : k0_cond7 i v11 v14 v21 v28 v35 v42 v49 v56 = 1#1), ∀ a, (k0_off213 i) a + S1x1x640x128.size a ≤ S1x20x1024x128.size a) ∧
  (∀ (k0_h7 : k0_cond7 i v11 v14 v21 v28 v35 v42 v49 v56 = 1#1), ∀ a, (k0_off214 i) a + S1x1x640.size a ≤ S2x20x1024.size a) ∧
  (∀ (k0_h7 : k0_cond7 i v11 v14 v21 v28 v35 v42 v49 v56 = 1#1), ∀ a, (k0_off215 i) a + S1x1x640x128.size a ≤ S1x20x1024x128.size a) ∧
  (∀ (k0_h7 : k0_cond7 i v11 v14 v21 v28 v35 v42 v49 v56 = 1#1), ∀ a, (k0_off216 i) a + S1x1x640.size a ≤ S2x20x1024.size a) ∧
  (∀ (k0_h7 : k0_cond7 i v11 v14 v21 v28 v35 v42 v49 v56 = 1#1), ∀ a, (k0_off217 i) a + S1x1x640x128.size a ≤ S1x20x1024x128.size a) ∧
  (∀ (k0_h7 : k0_cond7 i v11 v14 v21 v28 v35 v42 v49 v56 = 1#1), ∀ a, (k0_off218 i) a + S1x1x640.size a ≤ S2x20x1024.size a) ∧
  (∀ (k0_h7 : k0_cond7 i v11 v14 v21 v28 v35 v42 v49 v56 = 1#1), ∀ a, (k0_off219 i) a + S1x1x640x128.size a ≤ S1x20x1024x128.size a) ∧
  (∀ (k0_h7 : k0_cond7 i v11 v14 v21 v28 v35 v42 v49 v56 = 1#1), ∀ a, (k0_off220 i) a + S1x1x640.size a ≤ S2x20x1024.size a)
def k0_chk1_5 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h7 : k0_cond7 i v11 v14 v21 v28 v35 v42 v49 v56 = 1#1), ∀ a, (k0_off221 i) a + S1x1x640x128.size a ≤ S1x20x1024x128.size a) ∧
  (∀ (k0_h7 : k0_cond7 i v11 v14 v21 v28 v35 v42 v49 v56 = 1#1), ∀ a, (k0_off222 i) a + S1x1x640.size a ≤ S2x20x1024.size a) ∧
  (∀ (k0_h7 : k0_cond7 i v11 v14 v21 v28 v35 v42 v49 v56 = 1#1), ∀ a, (k0_off223 i) a + S1x1x640x128.size a ≤ S1x20x1024x128.size a) ∧
  (∀ (k0_h7 : k0_cond7 i v11 v14 v21 v28 v35 v42 v49 v56 = 1#1), ∀ a, (k0_off224 i) a + S1x1x640.size a ≤ S2x20x1024.size a) ∧
  (∀ (k0_h7 : k0_cond7 i v11 v14 v21 v28 v35 v42 v49 v56 = 1#1), ∀ a, (k0_off225 i) a + S1x1x640x128.size a ≤ S1x20x1024x128.size a) ∧
  (∀ (k0_h7 : k0_cond7 i v11 v14 v21 v28 v35 v42 v49 v56 = 1#1), ∀ a, (k0_off226 i) a + S1x1x640.size a ≤ S2x20x1024.size a) ∧
  (∀ (k0_h7 : k0_cond7 i v11 v14 v21 v28 v35 v42 v49 v56 = 1#1), ∀ a, (k0_off227 i) a + S1x1x640x128.size a ≤ S1x20x1024x128.size a) ∧
  (∀ (k0_h7 : k0_cond7 i v11 v14 v21 v28 v35 v42 v49 v56 = 1#1), ∀ a, (k0_off228 i) a + S1x1x640.size a ≤ S2x20x1024.size a) ∧
  (∀ (k0_h8 : k0_cond8 i v11 v14 v21 v28 v35 v42 v49 v56 = 1#1), ∀ a, (k0_off230 i) a + S1x1x768.size a ≤ S2x8x1024.size a) ∧
  (∀ (k0_h8 : k0_cond8 i v11 v14 v21 v28 v35 v42 v49 v56 = 1#1), ∀ a, (k0_off232 i) a + S1x1x768x128.size a ≤ S1x20x1024x128.size a) ∧
  (∀ (k0_h8 : k0_cond8 i v11 v14 v21 v28 v35 v42 v49 v56 = 1#1), ∀ a, (k0_off233 i) a + S1x1x768.size a ≤ S2x20x1024.size a) ∧
  (∀ (k0_h8 : k0_cond8 i v11 v14 v21 v28 v35 v42 v49 v56 = 1#1), ∀ a, (k0_off234 i) a + S8x768.size a ≤ S8x1024.size a) ∧
  (∀ (k0_h8 : k0_cond8 i v11 v14 v21 v28 v35 v42 v49 v56 = 1#1), ∀ a, (k0_off235 i) a + S1x1x768x128.size a ≤ S1x20x1024x128.size a) ∧
  (∀ (k0_h8 : k0_cond8 i v11 v14 v21 v28 v35 v42 v49 v56 = 1#1), ∀ a, (k0_off236 i) a + S1x1x768.size a ≤ S2x20x1024.size a) ∧
  (∀ (k0_h8 : k0_cond8 i v11 v14 v21 v28 v35 v42 v49 v56 = 1#1), ∀ a, (k0_off237 i) a + S1x1x768x128.size a ≤ S1x20x1024x128.size a) ∧
  (∀ (k0_h8 : k0_cond8 i v11 v14 v21 v28 v35 v42 v49 v56 = 1#1), ∀ a, (k0_off238 i) a + S1x1x768.size a ≤ S2x20x1024.size a) ∧
  (∀ (k0_h8 : k0_cond8 i v11 v14 v21 v28 v35 v42 v49 v56 = 1#1), ∀ a, (k0_off239 i) a + S1x1x768x128.size a ≤ S1x20x1024x128.size a) ∧
  (∀ (k0_h8 : k0_cond8 i v11 v14 v21 v28 v35 v42 v49 v56 = 1#1), ∀ a, (k0_off240 i) a + S1x1x768.size a ≤ S2x20x1024.size a) ∧
  (∀ (k0_h8 : k0_cond8 i v11 v14 v21 v28 v35 v42 v49 v56 = 1#1), ∀ a, (k0_off241 i) a + S1x1x768x128.size a ≤ S1x20x1024x128.size a) ∧
  (∀ (k0_h8 : k0_cond8 i v11 v14 v21 v28 v35 v42 v49 v56 = 1#1), ∀ a, (k0_off242 i) a + S1x1x768.size a ≤ S2x20x1024.size a) ∧
  (∀ (k0_h8 : k0_cond8 i v11 v14 v21 v28 v35 v42 v49 v56 = 1#1), ∀ a, (k0_off243 i) a + S1x1x768x128.size a ≤ S1x20x1024x128.size a) ∧
  (∀ (k0_h8 : k0_cond8 i v11 v14 v21 v28 v35 v42 v49 v56 = 1#1), ∀ a, (k0_off244 i) a + S1x1x768.size a ≤ S2x20x1024.size a) ∧
  (∀ (k0_h8 : k0_cond8 i v11 v14 v21 v28 v35 v42 v49 v56 = 1#1), ∀ a, (k0_off245 i) a + S1x1x768x128.size a ≤ S1x20x1024x128.size a) ∧
  (∀ (k0_h8 : k0_cond8 i v11 v14 v21 v28 v35 v42 v49 v56 = 1#1), ∀ a, (k0_off246 i) a + S1x1x768.size a ≤ S2x20x1024.size a) ∧
  (∀ (k0_h8 : k0_cond8 i v11 v14 v21 v28 v35 v42 v49 v56 = 1#1), ∀ a, (k0_off247 i) a + S1x1x768x128.size a ≤ S1x20x1024x128.size a) ∧
  (∀ (k0_h8 : k0_cond8 i v11 v14 v21 v28 v35 v42 v49 v56 = 1#1), ∀ a, (k0_off248 i) a + S1x1x768.size a ≤ S2x20x1024.size a) ∧
  (∀ (k0_h8 : k0_cond8 i v11 v14 v21 v28 v35 v42 v49 v56 = 1#1), ∀ a, (k0_off249 i) a + S1x1x768x128.size a ≤ S1x20x1024x128.size a) ∧
  (∀ (k0_h8 : k0_cond8 i v11 v14 v21 v28 v35 v42 v49 v56 = 1#1), ∀ a, (k0_off250 i) a + S1x1x768.size a ≤ S2x20x1024.size a) ∧
  (∀ (k0_h8 : k0_cond8 i v11 v14 v21 v28 v35 v42 v49 v56 = 1#1), ∀ a, (k0_off251 i) a + S1x1x768x128.size a ≤ S1x20x1024x128.size a) ∧
  (∀ (k0_h8 : k0_cond8 i v11 v14 v21 v28 v35 v42 v49 v56 = 1#1), ∀ a, (k0_off252 i) a + S1x1x768.size a ≤ S2x20x1024.size a) ∧
  (∀ (k0_h8 : k0_cond8 i v11 v14 v21 v28 v35 v42 v49 v56 = 1#1), ∀ a, (k0_off253 i) a + S1x1x768x128.size a ≤ S1x20x1024x128.size a) ∧
  (∀ (k0_h8 : k0_cond8 i v11 v14 v21 v28 v35 v42 v49 v56 = 1#1), ∀ a, (k0_off254 i) a + S1x1x768.size a ≤ S2x20x1024.size a)
def k0_chk1_6 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h8 : k0_cond8 i v11 v14 v21 v28 v35 v42 v49 v56 = 1#1), ∀ a, (k0_off255 i) a + S1x1x768x128.size a ≤ S1x20x1024x128.size a) ∧
  (∀ (k0_h8 : k0_cond8 i v11 v14 v21 v28 v35 v42 v49 v56 = 1#1), ∀ a, (k0_off256 i) a + S1x1x768.size a ≤ S2x20x1024.size a) ∧
  (∀ (k0_h8 : k0_cond8 i v11 v14 v21 v28 v35 v42 v49 v56 = 1#1), ∀ a, (k0_off257 i) a + S1x1x768x128.size a ≤ S1x20x1024x128.size a) ∧
  (∀ (k0_h8 : k0_cond8 i v11 v14 v21 v28 v35 v42 v49 v56 = 1#1), ∀ a, (k0_off258 i) a + S1x1x768.size a ≤ S2x20x1024.size a) ∧
  (∀ (k0_h8 : k0_cond8 i v11 v14 v21 v28 v35 v42 v49 v56 = 1#1), ∀ a, (k0_off259 i) a + S1x1x768x128.size a ≤ S1x20x1024x128.size a) ∧
  (∀ (k0_h8 : k0_cond8 i v11 v14 v21 v28 v35 v42 v49 v56 = 1#1), ∀ a, (k0_off260 i) a + S1x1x768.size a ≤ S2x20x1024.size a) ∧
  (∀ (k0_h8 : k0_cond8 i v11 v14 v21 v28 v35 v42 v49 v56 = 1#1), ∀ a, (k0_off261 i) a + S1x1x768x128.size a ≤ S1x20x1024x128.size a) ∧
  (∀ (k0_h8 : k0_cond8 i v11 v14 v21 v28 v35 v42 v49 v56 = 1#1), ∀ a, (k0_off262 i) a + S1x1x768.size a ≤ S2x20x1024.size a) ∧
  (∀ (k0_h8 : k0_cond8 i v11 v14 v21 v28 v35 v42 v49 v56 = 1#1), ∀ a, (k0_off263 i) a + S1x1x768x128.size a ≤ S1x20x1024x128.size a) ∧
  (∀ (k0_h8 : k0_cond8 i v11 v14 v21 v28 v35 v42 v49 v56 = 1#1), ∀ a, (k0_off264 i) a + S1x1x768.size a ≤ S2x20x1024.size a) ∧
  (∀ (k0_h8 : k0_cond8 i v11 v14 v21 v28 v35 v42 v49 v56 = 1#1), ∀ a, (k0_off265 i) a + S1x1x768x128.size a ≤ S1x20x1024x128.size a) ∧
  (∀ (k0_h8 : k0_cond8 i v11 v14 v21 v28 v35 v42 v49 v56 = 1#1), ∀ a, (k0_off266 i) a + S1x1x768.size a ≤ S2x20x1024.size a) ∧
  (∀ (k0_h8 : k0_cond8 i v11 v14 v21 v28 v35 v42 v49 v56 = 1#1), ∀ a, (k0_off267 i) a + S1x1x768x128.size a ≤ S1x20x1024x128.size a) ∧
  (∀ (k0_h8 : k0_cond8 i v11 v14 v21 v28 v35 v42 v49 v56 = 1#1), ∀ a, (k0_off268 i) a + S1x1x768.size a ≤ S2x20x1024.size a) ∧
  (∀ (k0_h8 : k0_cond8 i v11 v14 v21 v28 v35 v42 v49 v56 = 1#1), ∀ a, (k0_off269 i) a + S1x1x768x128.size a ≤ S1x20x1024x128.size a) ∧
  (∀ (k0_h8 : k0_cond8 i v11 v14 v21 v28 v35 v42 v49 v56 = 1#1), ∀ a, (k0_off270 i) a + S1x1x768.size a ≤ S2x20x1024.size a) ∧
  (∀ (k0_h8 : k0_cond8 i v11 v14 v21 v28 v35 v42 v49 v56 = 1#1), ∀ a, (k0_off271 i) a + S1x1x768x128.size a ≤ S1x20x1024x128.size a) ∧
  (∀ (k0_h8 : k0_cond8 i v11 v14 v21 v28 v35 v42 v49 v56 = 1#1), ∀ a, (k0_off272 i) a + S1x1x768.size a ≤ S2x20x1024.size a) ∧
  (∀ (k0_h9 : k0_cond9 i v11 v14 v21 v28 v35 v42 v49 v56 = 1#1), ∀ a, (k0_off274 i) a + S1x1x896.size a ≤ S2x8x1024.size a) ∧
  (∀ (k0_h9 : k0_cond9 i v11 v14 v21 v28 v35 v42 v49 v56 = 1#1), ∀ a, (k0_off276 i) a + S1x1x896x128.size a ≤ S1x20x1024x128.size a) ∧
  (∀ (k0_h9 : k0_cond9 i v11 v14 v21 v28 v35 v42 v49 v56 = 1#1), ∀ a, (k0_off277 i) a + S1x1x896.size a ≤ S2x20x1024.size a) ∧
  (∀ (k0_h9 : k0_cond9 i v11 v14 v21 v28 v35 v42 v49 v56 = 1#1), ∀ a, (k0_off278 i) a + S8x896.size a ≤ S8x1024.size a) ∧
  (∀ (k0_h9 : k0_cond9 i v11 v14 v21 v28 v35 v42 v49 v56 = 1#1), ∀ a, (k0_off279 i) a + S1x1x896x128.size a ≤ S1x20x1024x128.size a) ∧
  (∀ (k0_h9 : k0_cond9 i v11 v14 v21 v28 v35 v42 v49 v56 = 1#1), ∀ a, (k0_off280 i) a + S1x1x896.size a ≤ S2x20x1024.size a) ∧
  (∀ (k0_h9 : k0_cond9 i v11 v14 v21 v28 v35 v42 v49 v56 = 1#1), ∀ a, (k0_off281 i) a + S1x1x896x128.size a ≤ S1x20x1024x128.size a) ∧
  (∀ (k0_h9 : k0_cond9 i v11 v14 v21 v28 v35 v42 v49 v56 = 1#1), ∀ a, (k0_off282 i) a + S1x1x896.size a ≤ S2x20x1024.size a) ∧
  (∀ (k0_h9 : k0_cond9 i v11 v14 v21 v28 v35 v42 v49 v56 = 1#1), ∀ a, (k0_off283 i) a + S1x1x896x128.size a ≤ S1x20x1024x128.size a) ∧
  (∀ (k0_h9 : k0_cond9 i v11 v14 v21 v28 v35 v42 v49 v56 = 1#1), ∀ a, (k0_off284 i) a + S1x1x896.size a ≤ S2x20x1024.size a) ∧
  (∀ (k0_h9 : k0_cond9 i v11 v14 v21 v28 v35 v42 v49 v56 = 1#1), ∀ a, (k0_off285 i) a + S1x1x896x128.size a ≤ S1x20x1024x128.size a) ∧
  (∀ (k0_h9 : k0_cond9 i v11 v14 v21 v28 v35 v42 v49 v56 = 1#1), ∀ a, (k0_off286 i) a + S1x1x896.size a ≤ S2x20x1024.size a) ∧
  (∀ (k0_h9 : k0_cond9 i v11 v14 v21 v28 v35 v42 v49 v56 = 1#1), ∀ a, (k0_off287 i) a + S1x1x896x128.size a ≤ S1x20x1024x128.size a) ∧
  (∀ (k0_h9 : k0_cond9 i v11 v14 v21 v28 v35 v42 v49 v56 = 1#1), ∀ a, (k0_off288 i) a + S1x1x896.size a ≤ S2x20x1024.size a)
def k0_chk1_7 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h9 : k0_cond9 i v11 v14 v21 v28 v35 v42 v49 v56 = 1#1), ∀ a, (k0_off289 i) a + S1x1x896x128.size a ≤ S1x20x1024x128.size a) ∧
  (∀ (k0_h9 : k0_cond9 i v11 v14 v21 v28 v35 v42 v49 v56 = 1#1), ∀ a, (k0_off290 i) a + S1x1x896.size a ≤ S2x20x1024.size a) ∧
  (∀ (k0_h9 : k0_cond9 i v11 v14 v21 v28 v35 v42 v49 v56 = 1#1), ∀ a, (k0_off291 i) a + S1x1x896x128.size a ≤ S1x20x1024x128.size a) ∧
  (∀ (k0_h9 : k0_cond9 i v11 v14 v21 v28 v35 v42 v49 v56 = 1#1), ∀ a, (k0_off292 i) a + S1x1x896.size a ≤ S2x20x1024.size a) ∧
  (∀ (k0_h9 : k0_cond9 i v11 v14 v21 v28 v35 v42 v49 v56 = 1#1), ∀ a, (k0_off293 i) a + S1x1x896x128.size a ≤ S1x20x1024x128.size a) ∧
  (∀ (k0_h9 : k0_cond9 i v11 v14 v21 v28 v35 v42 v49 v56 = 1#1), ∀ a, (k0_off294 i) a + S1x1x896.size a ≤ S2x20x1024.size a) ∧
  (∀ (k0_h9 : k0_cond9 i v11 v14 v21 v28 v35 v42 v49 v56 = 1#1), ∀ a, (k0_off295 i) a + S1x1x896x128.size a ≤ S1x20x1024x128.size a) ∧
  (∀ (k0_h9 : k0_cond9 i v11 v14 v21 v28 v35 v42 v49 v56 = 1#1), ∀ a, (k0_off296 i) a + S1x1x896.size a ≤ S2x20x1024.size a) ∧
  (∀ (k0_h9 : k0_cond9 i v11 v14 v21 v28 v35 v42 v49 v56 = 1#1), ∀ a, (k0_off297 i) a + S1x1x896x128.size a ≤ S1x20x1024x128.size a) ∧
  (∀ (k0_h9 : k0_cond9 i v11 v14 v21 v28 v35 v42 v49 v56 = 1#1), ∀ a, (k0_off298 i) a + S1x1x896.size a ≤ S2x20x1024.size a) ∧
  (∀ (k0_h9 : k0_cond9 i v11 v14 v21 v28 v35 v42 v49 v56 = 1#1), ∀ a, (k0_off299 i) a + S1x1x896x128.size a ≤ S1x20x1024x128.size a) ∧
  (∀ (k0_h9 : k0_cond9 i v11 v14 v21 v28 v35 v42 v49 v56 = 1#1), ∀ a, (k0_off300 i) a + S1x1x896.size a ≤ S2x20x1024.size a) ∧
  (∀ (k0_h9 : k0_cond9 i v11 v14 v21 v28 v35 v42 v49 v56 = 1#1), ∀ a, (k0_off301 i) a + S1x1x896x128.size a ≤ S1x20x1024x128.size a) ∧
  (∀ (k0_h9 : k0_cond9 i v11 v14 v21 v28 v35 v42 v49 v56 = 1#1), ∀ a, (k0_off302 i) a + S1x1x896.size a ≤ S2x20x1024.size a) ∧
  (∀ (k0_h9 : k0_cond9 i v11 v14 v21 v28 v35 v42 v49 v56 = 1#1), ∀ a, (k0_off303 i) a + S1x1x896x128.size a ≤ S1x20x1024x128.size a) ∧
  (∀ (k0_h9 : k0_cond9 i v11 v14 v21 v28 v35 v42 v49 v56 = 1#1), ∀ a, (k0_off304 i) a + S1x1x896.size a ≤ S2x20x1024.size a) ∧
  (∀ (k0_h9 : k0_cond9 i v11 v14 v21 v28 v35 v42 v49 v56 = 1#1), ∀ a, (k0_off305 i) a + S1x1x896x128.size a ≤ S1x20x1024x128.size a) ∧
  (∀ (k0_h9 : k0_cond9 i v11 v14 v21 v28 v35 v42 v49 v56 = 1#1), ∀ a, (k0_off306 i) a + S1x1x896.size a ≤ S2x20x1024.size a) ∧
  (∀ (k0_h9 : k0_cond9 i v11 v14 v21 v28 v35 v42 v49 v56 = 1#1), ∀ a, (k0_off307 i) a + S1x1x896x128.size a ≤ S1x20x1024x128.size a) ∧
  (∀ (k0_h9 : k0_cond9 i v11 v14 v21 v28 v35 v42 v49 v56 = 1#1), ∀ a, (k0_off308 i) a + S1x1x896.size a ≤ S2x20x1024.size a) ∧
  (∀ (k0_h9 : k0_cond9 i v11 v14 v21 v28 v35 v42 v49 v56 = 1#1), ∀ a, (k0_off309 i) a + S1x1x896x128.size a ≤ S1x20x1024x128.size a) ∧
  (∀ (k0_h9 : k0_cond9 i v11 v14 v21 v28 v35 v42 v49 v56 = 1#1), ∀ a, (k0_off310 i) a + S1x1x896.size a ≤ S2x20x1024.size a) ∧
  (∀ (k0_h9 : k0_cond9 i v11 v14 v21 v28 v35 v42 v49 v56 = 1#1), ∀ a, (k0_off311 i) a + S1x1x896x128.size a ≤ S1x20x1024x128.size a) ∧
  (∀ (k0_h9 : k0_cond9 i v11 v14 v21 v28 v35 v42 v49 v56 = 1#1), ∀ a, (k0_off312 i) a + S1x1x896.size a ≤ S2x20x1024.size a) ∧
  (∀ (k0_h9 : k0_cond9 i v11 v14 v21 v28 v35 v42 v49 v56 = 1#1), ∀ a, (k0_off313 i) a + S1x1x896x128.size a ≤ S1x20x1024x128.size a) ∧
  (∀ (k0_h9 : k0_cond9 i v11 v14 v21 v28 v35 v42 v49 v56 = 1#1), ∀ a, (k0_off314 i) a + S1x1x896.size a ≤ S2x20x1024.size a) ∧
  (∀ (k0_h9 : k0_cond9 i v11 v14 v21 v28 v35 v42 v49 v56 = 1#1), ∀ a, (k0_off315 i) a + S1x1x896x128.size a ≤ S1x20x1024x128.size a) ∧
  (∀ (k0_h9 : k0_cond9 i v11 v14 v21 v28 v35 v42 v49 v56 = 1#1), ∀ a, (k0_off316 i) a + S1x1x896.size a ≤ S2x20x1024.size a) ∧
  (∀ (k0_h10 : k0_cond10 i v11 v14 v21 v28 v35 v42 v49 v56 = 1#1), ∀ a, (k0_off318 i) a + S1x1x1024.size a ≤ S2x8x1024.size a) ∧
  (∀ (k0_h10 : k0_cond10 i v11 v14 v21 v28 v35 v42 v49 v56 = 1#1), ∀ a, (k0_off320 i) a + S1x1x1024x128.size a ≤ S1x20x1024x128.size a) ∧
  (∀ (k0_h10 : k0_cond10 i v11 v14 v21 v28 v35 v42 v49 v56 = 1#1), ∀ a, (k0_off321 i) a + S1x1x1024.size a ≤ S2x20x1024.size a) ∧
  (∀ (k0_h10 : k0_cond10 i v11 v14 v21 v28 v35 v42 v49 v56 = 1#1), ∀ a, (k0_off322 i) a + S8x1024.size a ≤ S8x1024.size a)
def k0_chk1_8 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h10 : k0_cond10 i v11 v14 v21 v28 v35 v42 v49 v56 = 1#1), ∀ a, (k0_off323 i) a + S1x1x1024x128.size a ≤ S1x20x1024x128.size a) ∧
  (∀ (k0_h10 : k0_cond10 i v11 v14 v21 v28 v35 v42 v49 v56 = 1#1), ∀ a, (k0_off324 i) a + S1x1x1024.size a ≤ S2x20x1024.size a) ∧
  (∀ (k0_h10 : k0_cond10 i v11 v14 v21 v28 v35 v42 v49 v56 = 1#1), ∀ a, (k0_off325 i) a + S1x1x1024x128.size a ≤ S1x20x1024x128.size a) ∧
  (∀ (k0_h10 : k0_cond10 i v11 v14 v21 v28 v35 v42 v49 v56 = 1#1), ∀ a, (k0_off326 i) a + S1x1x1024.size a ≤ S2x20x1024.size a) ∧
  (∀ (k0_h10 : k0_cond10 i v11 v14 v21 v28 v35 v42 v49 v56 = 1#1), ∀ a, (k0_off327 i) a + S1x1x1024x128.size a ≤ S1x20x1024x128.size a) ∧
  (∀ (k0_h10 : k0_cond10 i v11 v14 v21 v28 v35 v42 v49 v56 = 1#1), ∀ a, (k0_off328 i) a + S1x1x1024.size a ≤ S2x20x1024.size a) ∧
  (∀ (k0_h10 : k0_cond10 i v11 v14 v21 v28 v35 v42 v49 v56 = 1#1), ∀ a, (k0_off329 i) a + S1x1x1024x128.size a ≤ S1x20x1024x128.size a) ∧
  (∀ (k0_h10 : k0_cond10 i v11 v14 v21 v28 v35 v42 v49 v56 = 1#1), ∀ a, (k0_off330 i) a + S1x1x1024.size a ≤ S2x20x1024.size a) ∧
  (∀ (k0_h10 : k0_cond10 i v11 v14 v21 v28 v35 v42 v49 v56 = 1#1), ∀ a, (k0_off331 i) a + S1x1x1024x128.size a ≤ S1x20x1024x128.size a) ∧
  (∀ (k0_h10 : k0_cond10 i v11 v14 v21 v28 v35 v42 v49 v56 = 1#1), ∀ a, (k0_off332 i) a + S1x1x1024.size a ≤ S2x20x1024.size a) ∧
  (∀ (k0_h10 : k0_cond10 i v11 v14 v21 v28 v35 v42 v49 v56 = 1#1), ∀ a, (k0_off333 i) a + S1x1x1024x128.size a ≤ S1x20x1024x128.size a) ∧
  (∀ (k0_h10 : k0_cond10 i v11 v14 v21 v28 v35 v42 v49 v56 = 1#1), ∀ a, (k0_off334 i) a + S1x1x1024.size a ≤ S2x20x1024.size a) ∧
  (∀ (k0_h10 : k0_cond10 i v11 v14 v21 v28 v35 v42 v49 v56 = 1#1), ∀ a, (k0_off335 i) a + S1x1x1024x128.size a ≤ S1x20x1024x128.size a) ∧
  (∀ (k0_h10 : k0_cond10 i v11 v14 v21 v28 v35 v42 v49 v56 = 1#1), ∀ a, (k0_off336 i) a + S1x1x1024.size a ≤ S2x20x1024.size a) ∧
  (∀ (k0_h10 : k0_cond10 i v11 v14 v21 v28 v35 v42 v49 v56 = 1#1), ∀ a, (k0_off337 i) a + S1x1x1024x128.size a ≤ S1x20x1024x128.size a) ∧
  (∀ (k0_h10 : k0_cond10 i v11 v14 v21 v28 v35 v42 v49 v56 = 1#1), ∀ a, (k0_off338 i) a + S1x1x1024.size a ≤ S2x20x1024.size a) ∧
  (∀ (k0_h10 : k0_cond10 i v11 v14 v21 v28 v35 v42 v49 v56 = 1#1), ∀ a, (k0_off339 i) a + S1x1x1024x128.size a ≤ S1x20x1024x128.size a) ∧
  (∀ (k0_h10 : k0_cond10 i v11 v14 v21 v28 v35 v42 v49 v56 = 1#1), ∀ a, (k0_off340 i) a + S1x1x1024.size a ≤ S2x20x1024.size a) ∧
  (∀ (k0_h10 : k0_cond10 i v11 v14 v21 v28 v35 v42 v49 v56 = 1#1), ∀ a, (k0_off341 i) a + S1x1x1024x128.size a ≤ S1x20x1024x128.size a) ∧
  (∀ (k0_h10 : k0_cond10 i v11 v14 v21 v28 v35 v42 v49 v56 = 1#1), ∀ a, (k0_off342 i) a + S1x1x1024.size a ≤ S2x20x1024.size a) ∧
  (∀ (k0_h10 : k0_cond10 i v11 v14 v21 v28 v35 v42 v49 v56 = 1#1), ∀ a, (k0_off343 i) a + S1x1x1024x128.size a ≤ S1x20x1024x128.size a) ∧
  (∀ (k0_h10 : k0_cond10 i v11 v14 v21 v28 v35 v42 v49 v56 = 1#1), ∀ a, (k0_off344 i) a + S1x1x1024.size a ≤ S2x20x1024.size a) ∧
  (∀ (k0_h10 : k0_cond10 i v11 v14 v21 v28 v35 v42 v49 v56 = 1#1), ∀ a, (k0_off345 i) a + S1x1x1024x128.size a ≤ S1x20x1024x128.size a) ∧
  (∀ (k0_h10 : k0_cond10 i v11 v14 v21 v28 v35 v42 v49 v56 = 1#1), ∀ a, (k0_off346 i) a + S1x1x1024.size a ≤ S2x20x1024.size a) ∧
  (∀ (k0_h10 : k0_cond10 i v11 v14 v21 v28 v35 v42 v49 v56 = 1#1), ∀ a, (k0_off347 i) a + S1x1x1024x128.size a ≤ S1x20x1024x128.size a) ∧
  (∀ (k0_h10 : k0_cond10 i v11 v14 v21 v28 v35 v42 v49 v56 = 1#1), ∀ a, (k0_off348 i) a + S1x1x1024.size a ≤ S2x20x1024.size a) ∧
  (∀ (k0_h10 : k0_cond10 i v11 v14 v21 v28 v35 v42 v49 v56 = 1#1), ∀ a, (k0_off349 i) a + S1x1x1024x128.size a ≤ S1x20x1024x128.size a) ∧
  (∀ (k0_h10 : k0_cond10 i v11 v14 v21 v28 v35 v42 v49 v56 = 1#1), ∀ a, (k0_off350 i) a + S1x1x1024.size a ≤ S2x20x1024.size a) ∧
  (∀ (k0_h10 : k0_cond10 i v11 v14 v21 v28 v35 v42 v49 v56 = 1#1), ∀ a, (k0_off351 i) a + S1x1x1024x128.size a ≤ S1x20x1024x128.size a) ∧
  (∀ (k0_h10 : k0_cond10 i v11 v14 v21 v28 v35 v42 v49 v56 = 1#1), ∀ a, (k0_off352 i) a + S1x1x1024.size a ≤ S2x20x1024.size a) ∧
  (∀ (k0_h10 : k0_cond10 i v11 v14 v21 v28 v35 v42 v49 v56 = 1#1), ∀ a, (k0_off353 i) a + S1x1x1024x128.size a ≤ S1x20x1024x128.size a) ∧
  (∀ (k0_h10 : k0_cond10 i v11 v14 v21 v28 v35 v42 v49 v56 = 1#1), ∀ a, (k0_off354 i) a + S1x1x1024.size a ≤ S2x20x1024.size a)
def k0_chk1_9 (i : grid0.Coords) (v11 : BitVec 32) (v14 : BitVec 32) (v21 : BitVec 32) (v28 : BitVec 32) (v35 : BitVec 32) (v42 : BitVec 32) (v49 : BitVec 32) (v56 : BitVec 32) : Prop :=
  (∀ (k0_h10 : k0_cond10 i v11 v14 v21 v28 v35 v42 v49 v56 = 1#1), ∀ a, (k0_off355 i) a + S1x1x1024x128.size a ≤ S1x20x1024x128.size a) ∧
  (∀ (k0_h10 : k0_cond10 i v11 v14 v21 v28 v35 v42 v49 v56 = 1#1), ∀ a, (k0_off356 i) a + S1x1x1024.size a ≤ S2x20x1024.size a) ∧
  (∀ (k0_h10 : k0_cond10 i v11 v14 v21 v28 v35 v42 v49 v56 = 1#1), ∀ a, (k0_off357 i) a + S1x1x1024x128.size a ≤ S1x20x1024x128.size a) ∧
  (∀ (k0_h10 : k0_cond10 i v11 v14 v21 v28 v35 v42 v49 v56 = 1#1), ∀ a, (k0_off358 i) a + S1x1x1024.size a ≤ S2x20x1024.size a) ∧
  (∀ (k0_h10 : k0_cond10 i v11 v14 v21 v28 v35 v42 v49 v56 = 1#1), ∀ a, (k0_off359 i) a + S1x1x1024x128.size a ≤ S1x20x1024x128.size a) ∧
  (∀ (k0_h10 : k0_cond10 i v11 v14 v21 v28 v35 v42 v49 v56 = 1#1), ∀ a, (k0_off360 i) a + S1x1x1024.size a ≤ S2x20x1024.size a)
def k0_chk1 (i : grid0.Coords) (v11 : BitVec 32) (v14 : BitVec 32) (v21 : BitVec 32) (v28 : BitVec 32) (v35 : BitVec 32) (v42 : BitVec 32) (v49 : BitVec 32) (v56 : BitVec 32) : Prop :=
  k0_chk1_0 i v11 v14 v21 v28 v35 v42 v49 v56 ∧
  k0_chk1_1 i v11 v14 v21 v28 v35 v42 v49 v56 ∧
  k0_chk1_2 i v11 v14 v21 v28 v35 v42 v49 v56 ∧
  k0_chk1_3 i v11 v14 v21 v28 v35 v42 v49 v56 ∧
  k0_chk1_4 i v11 v14 v21 v28 v35 v42 v49 v56 ∧
  k0_chk1_5 i v11 v14 v21 v28 v35 v42 v49 v56 ∧
  k0_chk1_6 i v11 v14 v21 v28 v35 v42 v49 v56 ∧
  k0_chk1_7 i v11 v14 v21 v28 v35 v42 v49 v56 ∧
  k0_chk1_8 i v11 v14 v21 v28 v35 v42 v49 v56 ∧
  k0_chk1_9 i v11 v14 v21 v28 v35 v42 v49 v56
theorem k0_off54_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off54 i) a + S1x1x256.size a ≤ S2x8x1024.size a := fun i v11 v14 v21 v28 v35 v42 v49 v56 k0_hw1 k0_h4 => k0_hw1.1.1 k0_h4
theorem k0_off56_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off56 i) a + S1x1x256x128.size a ≤ S1x20x1024x128.size a := fun i v11 v14 v21 v28 v35 v42 v49 v56 k0_hw1 k0_h4 => k0_hw1.1.2.1 k0_h4
theorem k0_off57_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off57 i) a + S1x1x256.size a ≤ S2x20x1024.size a := fun i v11 v14 v21 v28 v35 v42 v49 v56 k0_hw1 k0_h4 => k0_hw1.1.2.2.1 k0_h4
theorem k0_off58_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off58 i) a + S8x256.size a ≤ S8x1024.size a := fun i v11 v14 v21 v28 v35 v42 v49 v56 k0_hw1 k0_h4 => k0_hw1.1.2.2.2.1 k0_h4
theorem k0_off59_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off59 i) a + S1x1x256x128.size a ≤ S1x20x1024x128.size a := fun i v11 v14 v21 v28 v35 v42 v49 v56 k0_hw1 k0_h4 => k0_hw1.1.2.2.2.2.1 k0_h4
theorem k0_off60_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off60 i) a + S1x1x256.size a ≤ S2x20x1024.size a := fun i v11 v14 v21 v28 v35 v42 v49 v56 k0_hw1 k0_h4 => k0_hw1.1.2.2.2.2.2.1 k0_h4
theorem k0_off61_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off61 i) a + S1x1x256x128.size a ≤ S1x20x1024x128.size a := fun i v11 v14 v21 v28 v35 v42 v49 v56 k0_hw1 k0_h4 => k0_hw1.1.2.2.2.2.2.2.1 k0_h4
theorem k0_off62_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off62 i) a + S1x1x256.size a ≤ S2x20x1024.size a := fun i v11 v14 v21 v28 v35 v42 v49 v56 k0_hw1 k0_h4 => k0_hw1.1.2.2.2.2.2.2.2.1 k0_h4
theorem k0_off63_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off63 i) a + S1x1x256x128.size a ≤ S1x20x1024x128.size a := fun i v11 v14 v21 v28 v35 v42 v49 v56 k0_hw1 k0_h4 => k0_hw1.1.2.2.2.2.2.2.2.2.1 k0_h4
theorem k0_off64_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off64 i) a + S1x1x256.size a ≤ S2x20x1024.size a := fun i v11 v14 v21 v28 v35 v42 v49 v56 k0_hw1 k0_h4 => k0_hw1.1.2.2.2.2.2.2.2.2.2.1 k0_h4
theorem k0_off65_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off65 i) a + S1x1x256x128.size a ≤ S1x20x1024x128.size a := fun i v11 v14 v21 v28 v35 v42 v49 v56 k0_hw1 k0_h4 => k0_hw1.1.2.2.2.2.2.2.2.2.2.2.1 k0_h4
theorem k0_off66_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off66 i) a + S1x1x256.size a ≤ S2x20x1024.size a := fun i v11 v14 v21 v28 v35 v42 v49 v56 k0_hw1 k0_h4 => k0_hw1.1.2.2.2.2.2.2.2.2.2.2.2.1 k0_h4
theorem k0_off67_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off67 i) a + S1x1x256x128.size a ≤ S1x20x1024x128.size a := fun i v11 v14 v21 v28 v35 v42 v49 v56 k0_hw1 k0_h4 => k0_hw1.1.2.2.2.2.2.2.2.2.2.2.2.2.1 k0_h4
theorem k0_off68_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off68 i) a + S1x1x256.size a ≤ S2x20x1024.size a := fun i v11 v14 v21 v28 v35 v42 v49 v56 k0_hw1 k0_h4 => k0_hw1.1.2.2.2.2.2.2.2.2.2.2.2.2.2.1 k0_h4
theorem k0_off69_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off69 i) a + S1x1x256x128.size a ≤ S1x20x1024x128.size a := fun i v11 v14 v21 v28 v35 v42 v49 v56 k0_hw1 k0_h4 => k0_hw1.1.2.2.2.2.2.2.2.2.2.2.2.2.2.2.1 k0_h4
theorem k0_off70_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off70 i) a + S1x1x256.size a ≤ S2x20x1024.size a := fun i v11 v14 v21 v28 v35 v42 v49 v56 k0_hw1 k0_h4 => k0_hw1.1.2.2.2.2.2.2.2.2.2.2.2.2.2.2.2.1 k0_h4
theorem k0_off71_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off71 i) a + S1x1x256x128.size a ≤ S1x20x1024x128.size a := fun i v11 v14 v21 v28 v35 v42 v49 v56 k0_hw1 k0_h4 => k0_hw1.1.2.2.2.2.2.2.2.2.2.2.2.2.2.2.2.2.1 k0_h4
theorem k0_off72_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off72 i) a + S1x1x256.size a ≤ S2x20x1024.size a := fun i v11 v14 v21 v28 v35 v42 v49 v56 k0_hw1 k0_h4 => k0_hw1.1.2.2.2.2.2.2.2.2.2.2.2.2.2.2.2.2.2.1 k0_h4
theorem k0_off73_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off73 i) a + S1x1x256x128.size a ≤ S1x20x1024x128.size a := fun i v11 v14 v21 v28 v35 v42 v49 v56 k0_hw1 k0_h4 => k0_hw1.1.2.2.2.2.2.2.2.2.2.2.2.2.2.2.2.2.2.2.1 k0_h4
theorem k0_off74_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off74 i) a + S1x1x256.size a ≤ S2x20x1024.size a := fun i v11 v14 v21 v28 v35 v42 v49 v56 k0_hw1 k0_h4 => k0_hw1.1.2.2.2.2.2.2.2.2.2.2.2.2.2.2.2.2.2.2.2.1 k0_h4
theorem k0_off75_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off75 i) a + S1x1x256x128.size a ≤ S1x20x1024x128.size a := fun i v11 v14 v21 v28 v35 v42 v49 v56 k0_hw1 k0_h4 => k0_hw1.1.2.2.2.2.2.2.2.2.2.2.2.2.2.2.2.2.2.2.2.2.1 k0_h4
theorem k0_off76_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off76 i) a + S1x1x256.size a ≤ S2x20x1024.size a := fun i v11 v14 v21 v28 v35 v42 v49 v56 k0_hw1 k0_h4 => k0_hw1.1.2.2.2.2.2.2.2.2.2.2.2.2.2.2.2.2.2.2.2.2.2.1 k0_h4
theorem k0_off77_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off77 i) a + S1x1x256x128.size a ≤ S1x20x1024x128.size a := fun i v11 v14 v21 v28 v35 v42 v49 v56 k0_hw1 k0_h4 => k0_hw1.1.2.2.2.2.2.2.2.2.2.2.2.2.2.2.2.2.2.2.2.2.2.2.1 k0_h4
theorem k0_off78_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off78 i) a + S1x1x256.size a ≤ S2x20x1024.size a := fun i v11 v14 v21 v28 v35 v42 v49 v56 k0_hw1 k0_h4 => k0_hw1.1.2.2.2.2.2.2.2.2.2.2.2.2.2.2.2.2.2.2.2.2.2.2.2.1 k0_h4
theorem k0_off79_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off79 i) a + S1x1x256x128.size a ≤ S1x20x1024x128.size a := fun i v11 v14 v21 v28 v35 v42 v49 v56 k0_hw1 k0_h4 => k0_hw1.1.2.2.2.2.2.2.2.2.2.2.2.2.2.2.2.2.2.2.2.2.2.2.2.2.1 k0_h4
theorem k0_off80_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off80 i) a + S1x1x256.size a ≤ S2x20x1024.size a := fun i v11 v14 v21 v28 v35 v42 v49 v56 k0_hw1 k0_h4 => k0_hw1.1.2.2.2.2.2.2.2.2.2.2.2.2.2.2.2.2.2.2.2.2.2.2.2.2.2.1 k0_h4
theorem k0_off81_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off81 i) a + S1x1x256x128.size a ≤ S1x20x1024x128.size a := fun i v11 v14 v21 v28 v35 v42 v49 v56 k0_hw1 k0_h4 => k0_hw1.1.2.2.2.2.2.2.2.2.2.2.2.2.2.2.2.2.2.2.2.2.2.2.2.2.2.2.1 k0_h4
theorem k0_off82_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off82 i) a + S1x1x256.size a ≤ S2x20x1024.size a := fun i v11 v14 v21 v28 v35 v42 v49 v56 k0_hw1 k0_h4 => k0_hw1.1.2.2.2.2.2.2.2.2.2.2.2.2.2.2.2.2.2.2.2.2.2.2.2.2.2.2.2.1 k0_h4
theorem k0_off83_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off83 i) a + S1x1x256x128.size a ≤ S1x20x1024x128.size a := fun i v11 v14 v21 v28 v35 v42 v49 v56 k0_hw1 k0_h4 => k0_hw1.1.2.2.2.2.2.2.2.2.2.2.2.2.2.2.2.2.2.2.2.2.2.2.2.2.2.2.2.2.1 k0_h4
theorem k0_off84_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off84 i) a + S1x1x256.size a ≤ S2x20x1024.size a := fun i v11 v14 v21 v28 v35 v42 v49 v56 k0_hw1 k0_h4 => k0_hw1.1.2.2.2.2.2.2.2.2.2.2.2.2.2.2.2.2.2.2.2.2.2.2.2.2.2.2.2.2.2.1 k0_h4
theorem k0_off85_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off85 i) a + S1x1x256x128.size a ≤ S1x20x1024x128.size a := fun i v11 v14 v21 v28 v35 v42 v49 v56 k0_hw1 k0_h4 => k0_hw1.1.2.2.2.2.2.2.2.2.2.2.2.2.2.2.2.2.2.2.2.2.2.2.2.2.2.2.2.2.2.2.1 k0_h4
theorem k0_off86_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off86 i) a + S1x1x256.size a ≤ S2x20x1024.size a := fun i v11 v14 v21 v28 v35 v42 v49 v56 k0_hw1 k0_h4 => k0_hw1.1.2.2.2.2.2.2.2.2.2.2.2.2.2.2.2.2.2.2.2.2.2.2.2.2.2.2.2.2.2.2.2 k0_h4
theorem k0_off87_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off87 i) a + S1x1x256x128.size a ≤ S1x20x1024x128.size a := fun i v11 v14 v21 v28 v35 v42 v49 v56 k0_hw1 k0_h4 => k0_hw1.2.1.1 k0_h4
theorem k0_off88_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off88 i) a + S1x1x256.size a ≤ S2x20x1024.size a := fun i v11 v14 v21 v28 v35 v42 v49 v56 k0_hw1 k0_h4 => k0_hw1.2.1.2.1 k0_h4
theorem k0_off89_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off89 i) a + S1x1x256x128.size a ≤ S1x20x1024x128.size a := fun i v11 v14 v21 v28 v35 v42 v49 v56 k0_hw1 k0_h4 => k0_hw1.2.1.2.2.1 k0_h4
theorem k0_off90_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off90 i) a + S1x1x256.size a ≤ S2x20x1024.size a := fun i v11 v14 v21 v28 v35 v42 v49 v56 k0_hw1 k0_h4 => k0_hw1.2.1.2.2.2.1 k0_h4
theorem k0_off91_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off91 i) a + S1x1x256x128.size a ≤ S1x20x1024x128.size a := fun i v11 v14 v21 v28 v35 v42 v49 v56 k0_hw1 k0_h4 => k0_hw1.2.1.2.2.2.2.1 k0_h4
theorem k0_off92_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off92 i) a + S1x1x256.size a ≤ S2x20x1024.size a := fun i v11 v14 v21 v28 v35 v42 v49 v56 k0_hw1 k0_h4 => k0_hw1.2.1.2.2.2.2.2.1 k0_h4
theorem k0_off93_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off93 i) a + S1x1x256x128.size a ≤ S1x20x1024x128.size a := fun i v11 v14 v21 v28 v35 v42 v49 v56 k0_hw1 k0_h4 => k0_hw1.2.1.2.2.2.2.2.2.1 k0_h4
theorem k0_off94_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off94 i) a + S1x1x256.size a ≤ S2x20x1024.size a := fun i v11 v14 v21 v28 v35 v42 v49 v56 k0_hw1 k0_h4 => k0_hw1.2.1.2.2.2.2.2.2.2.1 k0_h4
theorem k0_off95_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off95 i) a + S1x1x256x128.size a ≤ S1x20x1024x128.size a := fun i v11 v14 v21 v28 v35 v42 v49 v56 k0_hw1 k0_h4 => k0_hw1.2.1.2.2.2.2.2.2.2.2.1 k0_h4
theorem k0_off96_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h4 : k0_cond4 i v11 v14 v21 v28 v35 v42 v49 v56 = 1#1), ∀ a, (k0_off96 i) a + S1x1x256.size a ≤ S2x20x1024.size a := fun i v11 v14 v21 v28 v35 v42 v49 v56 k0_hw1 k0_h4 => k0_hw1.2.1.2.2.2.2.2.2.2.2.2.1 k0_h4
theorem k0_off98_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off98 i) a + S1x1x384.size a ≤ S2x8x1024.size a := fun i v11 v14 v21 v28 v35 v42 v49 v56 k0_hw1 k0_h5 => k0_hw1.2.1.2.2.2.2.2.2.2.2.2.2.1 k0_h5
theorem k0_off100_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off100 i) a + S1x1x384x128.size a ≤ S1x20x1024x128.size a := fun i v11 v14 v21 v28 v35 v42 v49 v56 k0_hw1 k0_h5 => k0_hw1.2.1.2.2.2.2.2.2.2.2.2.2.2.1 k0_h5
theorem k0_off101_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off101 i) a + S1x1x384.size a ≤ S2x20x1024.size a := fun i v11 v14 v21 v28 v35 v42 v49 v56 k0_hw1 k0_h5 => k0_hw1.2.1.2.2.2.2.2.2.2.2.2.2.2.2.1 k0_h5
theorem k0_off102_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off102 i) a + S8x384.size a ≤ S8x1024.size a := fun i v11 v14 v21 v28 v35 v42 v49 v56 k0_hw1 k0_h5 => k0_hw1.2.1.2.2.2.2.2.2.2.2.2.2.2.2.2.1 k0_h5
theorem k0_off103_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off103 i) a + S1x1x384x128.size a ≤ S1x20x1024x128.size a := fun i v11 v14 v21 v28 v35 v42 v49 v56 k0_hw1 k0_h5 => k0_hw1.2.1.2.2.2.2.2.2.2.2.2.2.2.2.2.2.1 k0_h5
theorem k0_off104_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off104 i) a + S1x1x384.size a ≤ S2x20x1024.size a := fun i v11 v14 v21 v28 v35 v42 v49 v56 k0_hw1 k0_h5 => k0_hw1.2.1.2.2.2.2.2.2.2.2.2.2.2.2.2.2.2.1 k0_h5
theorem k0_off105_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off105 i) a + S1x1x384x128.size a ≤ S1x20x1024x128.size a := fun i v11 v14 v21 v28 v35 v42 v49 v56 k0_hw1 k0_h5 => k0_hw1.2.1.2.2.2.2.2.2.2.2.2.2.2.2.2.2.2.2.1 k0_h5
theorem k0_off106_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off106 i) a + S1x1x384.size a ≤ S2x20x1024.size a := fun i v11 v14 v21 v28 v35 v42 v49 v56 k0_hw1 k0_h5 => k0_hw1.2.1.2.2.2.2.2.2.2.2.2.2.2.2.2.2.2.2.2.1 k0_h5
theorem k0_off107_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off107 i) a + S1x1x384x128.size a ≤ S1x20x1024x128.size a := fun i v11 v14 v21 v28 v35 v42 v49 v56 k0_hw1 k0_h5 => k0_hw1.2.1.2.2.2.2.2.2.2.2.2.2.2.2.2.2.2.2.2.2.1 k0_h5
theorem k0_off108_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off108 i) a + S1x1x384.size a ≤ S2x20x1024.size a := fun i v11 v14 v21 v28 v35 v42 v49 v56 k0_hw1 k0_h5 => k0_hw1.2.1.2.2.2.2.2.2.2.2.2.2.2.2.2.2.2.2.2.2.2.1 k0_h5
theorem k0_off109_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off109 i) a + S1x1x384x128.size a ≤ S1x20x1024x128.size a := fun i v11 v14 v21 v28 v35 v42 v49 v56 k0_hw1 k0_h5 => k0_hw1.2.1.2.2.2.2.2.2.2.2.2.2.2.2.2.2.2.2.2.2.2.2.1 k0_h5
theorem k0_off110_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off110 i) a + S1x1x384.size a ≤ S2x20x1024.size a := fun i v11 v14 v21 v28 v35 v42 v49 v56 k0_hw1 k0_h5 => k0_hw1.2.1.2.2.2.2.2.2.2.2.2.2.2.2.2.2.2.2.2.2.2.2.2.1 k0_h5
theorem k0_off111_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off111 i) a + S1x1x384x128.size a ≤ S1x20x1024x128.size a := fun i v11 v14 v21 v28 v35 v42 v49 v56 k0_hw1 k0_h5 => k0_hw1.2.1.2.2.2.2.2.2.2.2.2.2.2.2.2.2.2.2.2.2.2.2.2.2.1 k0_h5
theorem k0_off112_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off112 i) a + S1x1x384.size a ≤ S2x20x1024.size a := fun i v11 v14 v21 v28 v35 v42 v49 v56 k0_hw1 k0_h5 => k0_hw1.2.1.2.2.2.2.2.2.2.2.2.2.2.2.2.2.2.2.2.2.2.2.2.2.2.1 k0_h5
theorem k0_off113_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off113 i) a + S1x1x384x128.size a ≤ S1x20x1024x128.size a := fun i v11 v14 v21 v28 v35 v42 v49 v56 k0_hw1 k0_h5 => k0_hw1.2.1.2.2.2.2.2.2.2.2.2.2.2.2.2.2.2.2.2.2.2.2.2.2.2.2.1 k0_h5
theorem k0_off114_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off114 i) a + S1x1x384.size a ≤ S2x20x1024.size a := fun i v11 v14 v21 v28 v35 v42 v49 v56 k0_hw1 k0_h5 => k0_hw1.2.1.2.2.2.2.2.2.2.2.2.2.2.2.2.2.2.2.2.2.2.2.2.2.2.2.2.1 k0_h5
theorem k0_off115_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off115 i) a + S1x1x384x128.size a ≤ S1x20x1024x128.size a := fun i v11 v14 v21 v28 v35 v42 v49 v56 k0_hw1 k0_h5 => k0_hw1.2.1.2.2.2.2.2.2.2.2.2.2.2.2.2.2.2.2.2.2.2.2.2.2.2.2.2.2.1 k0_h5
theorem k0_off116_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off116 i) a + S1x1x384.size a ≤ S2x20x1024.size a := fun i v11 v14 v21 v28 v35 v42 v49 v56 k0_hw1 k0_h5 => k0_hw1.2.1.2.2.2.2.2.2.2.2.2.2.2.2.2.2.2.2.2.2.2.2.2.2.2.2.2.2.2.1 k0_h5
theorem k0_off117_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off117 i) a + S1x1x384x128.size a ≤ S1x20x1024x128.size a := fun i v11 v14 v21 v28 v35 v42 v49 v56 k0_hw1 k0_h5 => k0_hw1.2.1.2.2.2.2.2.2.2.2.2.2.2.2.2.2.2.2.2.2.2.2.2.2.2.2.2.2.2.2.1 k0_h5
theorem k0_off118_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off118 i) a + S1x1x384.size a ≤ S2x20x1024.size a := fun i v11 v14 v21 v28 v35 v42 v49 v56 k0_hw1 k0_h5 => k0_hw1.2.1.2.2.2.2.2.2.2.2.2.2.2.2.2.2.2.2.2.2.2.2.2.2.2.2.2.2.2.2.2.1 k0_h5
theorem k0_off119_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off119 i) a + S1x1x384x128.size a ≤ S1x20x1024x128.size a := fun i v11 v14 v21 v28 v35 v42 v49 v56 k0_hw1 k0_h5 => k0_hw1.2.1.2.2.2.2.2.2.2.2.2.2.2.2.2.2.2.2.2.2.2.2.2.2.2.2.2.2.2.2.2.2.1 k0_h5
theorem k0_off120_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off120 i) a + S1x1x384.size a ≤ S2x20x1024.size a := fun i v11 v14 v21 v28 v35 v42 v49 v56 k0_hw1 k0_h5 => k0_hw1.2.1.2.2.2.2.2.2.2.2.2.2.2.2.2.2.2.2.2.2.2.2.2.2.2.2.2.2.2.2.2.2.2 k0_h5
theorem k0_off121_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off121 i) a + S1x1x384x128.size a ≤ S1x20x1024x128.size a := fun i v11 v14 v21 v28 v35 v42 v49 v56 k0_hw1 k0_h5 => k0_hw1.2.2.1.1 k0_h5
theorem k0_off122_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off122 i) a + S1x1x384.size a ≤ S2x20x1024.size a := fun i v11 v14 v21 v28 v35 v42 v49 v56 k0_hw1 k0_h5 => k0_hw1.2.2.1.2.1 k0_h5
theorem k0_off123_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off123 i) a + S1x1x384x128.size a ≤ S1x20x1024x128.size a := fun i v11 v14 v21 v28 v35 v42 v49 v56 k0_hw1 k0_h5 => k0_hw1.2.2.1.2.2.1 k0_h5
theorem k0_off124_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off124 i) a + S1x1x384.size a ≤ S2x20x1024.size a := fun i v11 v14 v21 v28 v35 v42 v49 v56 k0_hw1 k0_h5 => k0_hw1.2.2.1.2.2.2.1 k0_h5
theorem k0_off125_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off125 i) a + S1x1x384x128.size a ≤ S1x20x1024x128.size a := fun i v11 v14 v21 v28 v35 v42 v49 v56 k0_hw1 k0_h5 => k0_hw1.2.2.1.2.2.2.2.1 k0_h5
theorem k0_off126_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off126 i) a + S1x1x384.size a ≤ S2x20x1024.size a := fun i v11 v14 v21 v28 v35 v42 v49 v56 k0_hw1 k0_h5 => k0_hw1.2.2.1.2.2.2.2.2.1 k0_h5
theorem k0_off127_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off127 i) a + S1x1x384x128.size a ≤ S1x20x1024x128.size a := fun i v11 v14 v21 v28 v35 v42 v49 v56 k0_hw1 k0_h5 => k0_hw1.2.2.1.2.2.2.2.2.2.1 k0_h5
theorem k0_off128_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off128 i) a + S1x1x384.size a ≤ S2x20x1024.size a := fun i v11 v14 v21 v28 v35 v42 v49 v56 k0_hw1 k0_h5 => k0_hw1.2.2.1.2.2.2.2.2.2.2.1 k0_h5
theorem k0_off129_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off129 i) a + S1x1x384x128.size a ≤ S1x20x1024x128.size a := fun i v11 v14 v21 v28 v35 v42 v49 v56 k0_hw1 k0_h5 => k0_hw1.2.2.1.2.2.2.2.2.2.2.2.1 k0_h5
theorem k0_off130_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off130 i) a + S1x1x384.size a ≤ S2x20x1024.size a := fun i v11 v14 v21 v28 v35 v42 v49 v56 k0_hw1 k0_h5 => k0_hw1.2.2.1.2.2.2.2.2.2.2.2.2.1 k0_h5
theorem k0_off131_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off131 i) a + S1x1x384x128.size a ≤ S1x20x1024x128.size a := fun i v11 v14 v21 v28 v35 v42 v49 v56 k0_hw1 k0_h5 => k0_hw1.2.2.1.2.2.2.2.2.2.2.2.2.2.1 k0_h5
theorem k0_off132_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off132 i) a + S1x1x384.size a ≤ S2x20x1024.size a := fun i v11 v14 v21 v28 v35 v42 v49 v56 k0_hw1 k0_h5 => k0_hw1.2.2.1.2.2.2.2.2.2.2.2.2.2.2.1 k0_h5
theorem k0_off133_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off133 i) a + S1x1x384x128.size a ≤ S1x20x1024x128.size a := fun i v11 v14 v21 v28 v35 v42 v49 v56 k0_hw1 k0_h5 => k0_hw1.2.2.1.2.2.2.2.2.2.2.2.2.2.2.2.1 k0_h5
theorem k0_off134_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off134 i) a + S1x1x384.size a ≤ S2x20x1024.size a := fun i v11 v14 v21 v28 v35 v42 v49 v56 k0_hw1 k0_h5 => k0_hw1.2.2.1.2.2.2.2.2.2.2.2.2.2.2.2.2.1 k0_h5
theorem k0_off135_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off135 i) a + S1x1x384x128.size a ≤ S1x20x1024x128.size a := fun i v11 v14 v21 v28 v35 v42 v49 v56 k0_hw1 k0_h5 => k0_hw1.2.2.1.2.2.2.2.2.2.2.2.2.2.2.2.2.2.1 k0_h5
theorem k0_off136_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off136 i) a + S1x1x384.size a ≤ S2x20x1024.size a := fun i v11 v14 v21 v28 v35 v42 v49 v56 k0_hw1 k0_h5 => k0_hw1.2.2.1.2.2.2.2.2.2.2.2.2.2.2.2.2.2.2.1 k0_h5
theorem k0_off137_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off137 i) a + S1x1x384x128.size a ≤ S1x20x1024x128.size a := fun i v11 v14 v21 v28 v35 v42 v49 v56 k0_hw1 k0_h5 => k0_hw1.2.2.1.2.2.2.2.2.2.2.2.2.2.2.2.2.2.2.2.1 k0_h5
theorem k0_off138_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off138 i) a + S1x1x384.size a ≤ S2x20x1024.size a := fun i v11 v14 v21 v28 v35 v42 v49 v56 k0_hw1 k0_h5 => k0_hw1.2.2.1.2.2.2.2.2.2.2.2.2.2.2.2.2.2.2.2.2.1 k0_h5
theorem k0_off139_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off139 i) a + S1x1x384x128.size a ≤ S1x20x1024x128.size a := fun i v11 v14 v21 v28 v35 v42 v49 v56 k0_hw1 k0_h5 => k0_hw1.2.2.1.2.2.2.2.2.2.2.2.2.2.2.2.2.2.2.2.2.2.1 k0_h5
theorem k0_off140_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h5 : k0_cond5 i v11 v14 v21 v28 v35 v42 v49 v56 = 1#1), ∀ a, (k0_off140 i) a + S1x1x384.size a ≤ S2x20x1024.size a := fun i v11 v14 v21 v28 v35 v42 v49 v56 k0_hw1 k0_h5 => k0_hw1.2.2.1.2.2.2.2.2.2.2.2.2.2.2.2.2.2.2.2.2.2.2.1 k0_h5
theorem k0_off142_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off142 i) a + S1x1x512.size a ≤ S2x8x1024.size a := fun i v11 v14 v21 v28 v35 v42 v49 v56 k0_hw1 k0_h6 => k0_hw1.2.2.1.2.2.2.2.2.2.2.2.2.2.2.2.2.2.2.2.2.2.2.2.1 k0_h6
theorem k0_off144_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off144 i) a + S1x1x512x128.size a ≤ S1x20x1024x128.size a := fun i v11 v14 v21 v28 v35 v42 v49 v56 k0_hw1 k0_h6 => k0_hw1.2.2.1.2.2.2.2.2.2.2.2.2.2.2.2.2.2.2.2.2.2.2.2.2.1 k0_h6
theorem k0_off145_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off145 i) a + S1x1x512.size a ≤ S2x20x1024.size a := fun i v11 v14 v21 v28 v35 v42 v49 v56 k0_hw1 k0_h6 => k0_hw1.2.2.1.2.2.2.2.2.2.2.2.2.2.2.2.2.2.2.2.2.2.2.2.2.2.1 k0_h6
theorem k0_off146_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off146 i) a + S8x512.size a ≤ S8x1024.size a := fun i v11 v14 v21 v28 v35 v42 v49 v56 k0_hw1 k0_h6 => k0_hw1.2.2.1.2.2.2.2.2.2.2.2.2.2.2.2.2.2.2.2.2.2.2.2.2.2.2.1 k0_h6
theorem k0_off147_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off147 i) a + S1x1x512x128.size a ≤ S1x20x1024x128.size a := fun i v11 v14 v21 v28 v35 v42 v49 v56 k0_hw1 k0_h6 => k0_hw1.2.2.1.2.2.2.2.2.2.2.2.2.2.2.2.2.2.2.2.2.2.2.2.2.2.2.2.1 k0_h6
theorem k0_off148_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off148 i) a + S1x1x512.size a ≤ S2x20x1024.size a := fun i v11 v14 v21 v28 v35 v42 v49 v56 k0_hw1 k0_h6 => k0_hw1.2.2.1.2.2.2.2.2.2.2.2.2.2.2.2.2.2.2.2.2.2.2.2.2.2.2.2.2.1 k0_h6
theorem k0_off149_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off149 i) a + S1x1x512x128.size a ≤ S1x20x1024x128.size a := fun i v11 v14 v21 v28 v35 v42 v49 v56 k0_hw1 k0_h6 => k0_hw1.2.2.1.2.2.2.2.2.2.2.2.2.2.2.2.2.2.2.2.2.2.2.2.2.2.2.2.2.2.1 k0_h6
theorem k0_off150_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off150 i) a + S1x1x512.size a ≤ S2x20x1024.size a := fun i v11 v14 v21 v28 v35 v42 v49 v56 k0_hw1 k0_h6 => k0_hw1.2.2.1.2.2.2.2.2.2.2.2.2.2.2.2.2.2.2.2.2.2.2.2.2.2.2.2.2.2.2.1 k0_h6
theorem k0_off151_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off151 i) a + S1x1x512x128.size a ≤ S1x20x1024x128.size a := fun i v11 v14 v21 v28 v35 v42 v49 v56 k0_hw1 k0_h6 => k0_hw1.2.2.1.2.2.2.2.2.2.2.2.2.2.2.2.2.2.2.2.2.2.2.2.2.2.2.2.2.2.2.2.1 k0_h6
theorem k0_off152_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off152 i) a + S1x1x512.size a ≤ S2x20x1024.size a := fun i v11 v14 v21 v28 v35 v42 v49 v56 k0_hw1 k0_h6 => k0_hw1.2.2.1.2.2.2.2.2.2.2.2.2.2.2.2.2.2.2.2.2.2.2.2.2.2.2.2.2.2.2.2.2.1 k0_h6
theorem k0_off153_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off153 i) a + S1x1x512x128.size a ≤ S1x20x1024x128.size a := fun i v11 v14 v21 v28 v35 v42 v49 v56 k0_hw1 k0_h6 => k0_hw1.2.2.1.2.2.2.2.2.2.2.2.2.2.2.2.2.2.2.2.2.2.2.2.2.2.2.2.2.2.2.2.2.2.1 k0_h6
theorem k0_off154_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off154 i) a + S1x1x512.size a ≤ S2x20x1024.size a := fun i v11 v14 v21 v28 v35 v42 v49 v56 k0_hw1 k0_h6 => k0_hw1.2.2.1.2.2.2.2.2.2.2.2.2.2.2.2.2.2.2.2.2.2.2.2.2.2.2.2.2.2.2.2.2.2.2 k0_h6
theorem k0_off155_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off155 i) a + S1x1x512x128.size a ≤ S1x20x1024x128.size a := fun i v11 v14 v21 v28 v35 v42 v49 v56 k0_hw1 k0_h6 => k0_hw1.2.2.2.1.1 k0_h6
theorem k0_off156_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off156 i) a + S1x1x512.size a ≤ S2x20x1024.size a := fun i v11 v14 v21 v28 v35 v42 v49 v56 k0_hw1 k0_h6 => k0_hw1.2.2.2.1.2.1 k0_h6
theorem k0_off157_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off157 i) a + S1x1x512x128.size a ≤ S1x20x1024x128.size a := fun i v11 v14 v21 v28 v35 v42 v49 v56 k0_hw1 k0_h6 => k0_hw1.2.2.2.1.2.2.1 k0_h6
theorem k0_off158_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off158 i) a + S1x1x512.size a ≤ S2x20x1024.size a := fun i v11 v14 v21 v28 v35 v42 v49 v56 k0_hw1 k0_h6 => k0_hw1.2.2.2.1.2.2.2.1 k0_h6
theorem k0_off159_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off159 i) a + S1x1x512x128.size a ≤ S1x20x1024x128.size a := fun i v11 v14 v21 v28 v35 v42 v49 v56 k0_hw1 k0_h6 => k0_hw1.2.2.2.1.2.2.2.2.1 k0_h6
theorem k0_off160_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off160 i) a + S1x1x512.size a ≤ S2x20x1024.size a := fun i v11 v14 v21 v28 v35 v42 v49 v56 k0_hw1 k0_h6 => k0_hw1.2.2.2.1.2.2.2.2.2.1 k0_h6
theorem k0_off161_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off161 i) a + S1x1x512x128.size a ≤ S1x20x1024x128.size a := fun i v11 v14 v21 v28 v35 v42 v49 v56 k0_hw1 k0_h6 => k0_hw1.2.2.2.1.2.2.2.2.2.2.1 k0_h6
theorem k0_off162_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off162 i) a + S1x1x512.size a ≤ S2x20x1024.size a := fun i v11 v14 v21 v28 v35 v42 v49 v56 k0_hw1 k0_h6 => k0_hw1.2.2.2.1.2.2.2.2.2.2.2.1 k0_h6
theorem k0_off163_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off163 i) a + S1x1x512x128.size a ≤ S1x20x1024x128.size a := fun i v11 v14 v21 v28 v35 v42 v49 v56 k0_hw1 k0_h6 => k0_hw1.2.2.2.1.2.2.2.2.2.2.2.2.1 k0_h6
theorem k0_off164_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off164 i) a + S1x1x512.size a ≤ S2x20x1024.size a := fun i v11 v14 v21 v28 v35 v42 v49 v56 k0_hw1 k0_h6 => k0_hw1.2.2.2.1.2.2.2.2.2.2.2.2.2.1 k0_h6
theorem k0_off165_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off165 i) a + S1x1x512x128.size a ≤ S1x20x1024x128.size a := fun i v11 v14 v21 v28 v35 v42 v49 v56 k0_hw1 k0_h6 => k0_hw1.2.2.2.1.2.2.2.2.2.2.2.2.2.2.1 k0_h6
theorem k0_off166_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off166 i) a + S1x1x512.size a ≤ S2x20x1024.size a := fun i v11 v14 v21 v28 v35 v42 v49 v56 k0_hw1 k0_h6 => k0_hw1.2.2.2.1.2.2.2.2.2.2.2.2.2.2.2.1 k0_h6
theorem k0_off167_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off167 i) a + S1x1x512x128.size a ≤ S1x20x1024x128.size a := fun i v11 v14 v21 v28 v35 v42 v49 v56 k0_hw1 k0_h6 => k0_hw1.2.2.2.1.2.2.2.2.2.2.2.2.2.2.2.2.1 k0_h6
theorem k0_off168_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off168 i) a + S1x1x512.size a ≤ S2x20x1024.size a := fun i v11 v14 v21 v28 v35 v42 v49 v56 k0_hw1 k0_h6 => k0_hw1.2.2.2.1.2.2.2.2.2.2.2.2.2.2.2.2.2.1 k0_h6
theorem k0_off169_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off169 i) a + S1x1x512x128.size a ≤ S1x20x1024x128.size a := fun i v11 v14 v21 v28 v35 v42 v49 v56 k0_hw1 k0_h6 => k0_hw1.2.2.2.1.2.2.2.2.2.2.2.2.2.2.2.2.2.2.1 k0_h6
theorem k0_off170_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off170 i) a + S1x1x512.size a ≤ S2x20x1024.size a := fun i v11 v14 v21 v28 v35 v42 v49 v56 k0_hw1 k0_h6 => k0_hw1.2.2.2.1.2.2.2.2.2.2.2.2.2.2.2.2.2.2.2.1 k0_h6
theorem k0_off171_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off171 i) a + S1x1x512x128.size a ≤ S1x20x1024x128.size a := fun i v11 v14 v21 v28 v35 v42 v49 v56 k0_hw1 k0_h6 => k0_hw1.2.2.2.1.2.2.2.2.2.2.2.2.2.2.2.2.2.2.2.2.1 k0_h6
theorem k0_off172_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off172 i) a + S1x1x512.size a ≤ S2x20x1024.size a := fun i v11 v14 v21 v28 v35 v42 v49 v56 k0_hw1 k0_h6 => k0_hw1.2.2.2.1.2.2.2.2.2.2.2.2.2.2.2.2.2.2.2.2.2.1 k0_h6
theorem k0_off173_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off173 i) a + S1x1x512x128.size a ≤ S1x20x1024x128.size a := fun i v11 v14 v21 v28 v35 v42 v49 v56 k0_hw1 k0_h6 => k0_hw1.2.2.2.1.2.2.2.2.2.2.2.2.2.2.2.2.2.2.2.2.2.2.1 k0_h6
theorem k0_off174_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off174 i) a + S1x1x512.size a ≤ S2x20x1024.size a := fun i v11 v14 v21 v28 v35 v42 v49 v56 k0_hw1 k0_h6 => k0_hw1.2.2.2.1.2.2.2.2.2.2.2.2.2.2.2.2.2.2.2.2.2.2.2.1 k0_h6
theorem k0_off175_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off175 i) a + S1x1x512x128.size a ≤ S1x20x1024x128.size a := fun i v11 v14 v21 v28 v35 v42 v49 v56 k0_hw1 k0_h6 => k0_hw1.2.2.2.1.2.2.2.2.2.2.2.2.2.2.2.2.2.2.2.2.2.2.2.2.1 k0_h6
theorem k0_off176_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off176 i) a + S1x1x512.size a ≤ S2x20x1024.size a := fun i v11 v14 v21 v28 v35 v42 v49 v56 k0_hw1 k0_h6 => k0_hw1.2.2.2.1.2.2.2.2.2.2.2.2.2.2.2.2.2.2.2.2.2.2.2.2.2.1 k0_h6
theorem k0_off177_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off177 i) a + S1x1x512x128.size a ≤ S1x20x1024x128.size a := fun i v11 v14 v21 v28 v35 v42 v49 v56 k0_hw1 k0_h6 => k0_hw1.2.2.2.1.2.2.2.2.2.2.2.2.2.2.2.2.2.2.2.2.2.2.2.2.2.2.1 k0_h6
theorem k0_off178_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off178 i) a + S1x1x512.size a ≤ S2x20x1024.size a := fun i v11 v14 v21 v28 v35 v42 v49 v56 k0_hw1 k0_h6 => k0_hw1.2.2.2.1.2.2.2.2.2.2.2.2.2.2.2.2.2.2.2.2.2.2.2.2.2.2.2.1 k0_h6
theorem k0_off179_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off179 i) a + S1x1x512x128.size a ≤ S1x20x1024x128.size a := fun i v11 v14 v21 v28 v35 v42 v49 v56 k0_hw1 k0_h6 => k0_hw1.2.2.2.1.2.2.2.2.2.2.2.2.2.2.2.2.2.2.2.2.2.2.2.2.2.2.2.2.1 k0_h6
theorem k0_off180_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off180 i) a + S1x1x512.size a ≤ S2x20x1024.size a := fun i v11 v14 v21 v28 v35 v42 v49 v56 k0_hw1 k0_h6 => k0_hw1.2.2.2.1.2.2.2.2.2.2.2.2.2.2.2.2.2.2.2.2.2.2.2.2.2.2.2.2.2.1 k0_h6
theorem k0_off181_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off181 i) a + S1x1x512x128.size a ≤ S1x20x1024x128.size a := fun i v11 v14 v21 v28 v35 v42 v49 v56 k0_hw1 k0_h6 => k0_hw1.2.2.2.1.2.2.2.2.2.2.2.2.2.2.2.2.2.2.2.2.2.2.2.2.2.2.2.2.2.2.1 k0_h6
theorem k0_off182_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off182 i) a + S1x1x512.size a ≤ S2x20x1024.size a := fun i v11 v14 v21 v28 v35 v42 v49 v56 k0_hw1 k0_h6 => k0_hw1.2.2.2.1.2.2.2.2.2.2.2.2.2.2.2.2.2.2.2.2.2.2.2.2.2.2.2.2.2.2.2.1 k0_h6
theorem k0_off183_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off183 i) a + S1x1x512x128.size a ≤ S1x20x1024x128.size a := fun i v11 v14 v21 v28 v35 v42 v49 v56 k0_hw1 k0_h6 => k0_hw1.2.2.2.1.2.2.2.2.2.2.2.2.2.2.2.2.2.2.2.2.2.2.2.2.2.2.2.2.2.2.2.2.1 k0_h6
theorem k0_off184_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h6 : k0_cond6 i v11 v14 v21 v28 v35 v42 v49 v56 = 1#1), ∀ a, (k0_off184 i) a + S1x1x512.size a ≤ S2x20x1024.size a := fun i v11 v14 v21 v28 v35 v42 v49 v56 k0_hw1 k0_h6 => k0_hw1.2.2.2.1.2.2.2.2.2.2.2.2.2.2.2.2.2.2.2.2.2.2.2.2.2.2.2.2.2.2.2.2.2.1 k0_h6
theorem k0_off186_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off186 i) a + S1x1x640.size a ≤ S2x8x1024.size a := fun i v11 v14 v21 v28 v35 v42 v49 v56 k0_hw1 k0_h7 => k0_hw1.2.2.2.1.2.2.2.2.2.2.2.2.2.2.2.2.2.2.2.2.2.2.2.2.2.2.2.2.2.2.2.2.2.2.1 k0_h7
theorem k0_off188_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off188 i) a + S1x1x640x128.size a ≤ S1x20x1024x128.size a := fun i v11 v14 v21 v28 v35 v42 v49 v56 k0_hw1 k0_h7 => k0_hw1.2.2.2.1.2.2.2.2.2.2.2.2.2.2.2.2.2.2.2.2.2.2.2.2.2.2.2.2.2.2.2.2.2.2.2 k0_h7
theorem k0_off189_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off189 i) a + S1x1x640.size a ≤ S2x20x1024.size a := fun i v11 v14 v21 v28 v35 v42 v49 v56 k0_hw1 k0_h7 => k0_hw1.2.2.2.2.1.1 k0_h7
theorem k0_off190_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off190 i) a + S8x640.size a ≤ S8x1024.size a := fun i v11 v14 v21 v28 v35 v42 v49 v56 k0_hw1 k0_h7 => k0_hw1.2.2.2.2.1.2.1 k0_h7
theorem k0_off191_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off191 i) a + S1x1x640x128.size a ≤ S1x20x1024x128.size a := fun i v11 v14 v21 v28 v35 v42 v49 v56 k0_hw1 k0_h7 => k0_hw1.2.2.2.2.1.2.2.1 k0_h7
theorem k0_off192_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off192 i) a + S1x1x640.size a ≤ S2x20x1024.size a := fun i v11 v14 v21 v28 v35 v42 v49 v56 k0_hw1 k0_h7 => k0_hw1.2.2.2.2.1.2.2.2.1 k0_h7
theorem k0_off193_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off193 i) a + S1x1x640x128.size a ≤ S1x20x1024x128.size a := fun i v11 v14 v21 v28 v35 v42 v49 v56 k0_hw1 k0_h7 => k0_hw1.2.2.2.2.1.2.2.2.2.1 k0_h7
theorem k0_off194_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off194 i) a + S1x1x640.size a ≤ S2x20x1024.size a := fun i v11 v14 v21 v28 v35 v42 v49 v56 k0_hw1 k0_h7 => k0_hw1.2.2.2.2.1.2.2.2.2.2.1 k0_h7
theorem k0_off195_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off195 i) a + S1x1x640x128.size a ≤ S1x20x1024x128.size a := fun i v11 v14 v21 v28 v35 v42 v49 v56 k0_hw1 k0_h7 => k0_hw1.2.2.2.2.1.2.2.2.2.2.2.1 k0_h7
theorem k0_off196_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off196 i) a + S1x1x640.size a ≤ S2x20x1024.size a := fun i v11 v14 v21 v28 v35 v42 v49 v56 k0_hw1 k0_h7 => k0_hw1.2.2.2.2.1.2.2.2.2.2.2.2.1 k0_h7
theorem k0_off197_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off197 i) a + S1x1x640x128.size a ≤ S1x20x1024x128.size a := fun i v11 v14 v21 v28 v35 v42 v49 v56 k0_hw1 k0_h7 => k0_hw1.2.2.2.2.1.2.2.2.2.2.2.2.2.1 k0_h7
theorem k0_off198_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off198 i) a + S1x1x640.size a ≤ S2x20x1024.size a := fun i v11 v14 v21 v28 v35 v42 v49 v56 k0_hw1 k0_h7 => k0_hw1.2.2.2.2.1.2.2.2.2.2.2.2.2.2.1 k0_h7
theorem k0_off199_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off199 i) a + S1x1x640x128.size a ≤ S1x20x1024x128.size a := fun i v11 v14 v21 v28 v35 v42 v49 v56 k0_hw1 k0_h7 => k0_hw1.2.2.2.2.1.2.2.2.2.2.2.2.2.2.2.1 k0_h7
theorem k0_off200_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off200 i) a + S1x1x640.size a ≤ S2x20x1024.size a := fun i v11 v14 v21 v28 v35 v42 v49 v56 k0_hw1 k0_h7 => k0_hw1.2.2.2.2.1.2.2.2.2.2.2.2.2.2.2.2.1 k0_h7
theorem k0_off201_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off201 i) a + S1x1x640x128.size a ≤ S1x20x1024x128.size a := fun i v11 v14 v21 v28 v35 v42 v49 v56 k0_hw1 k0_h7 => k0_hw1.2.2.2.2.1.2.2.2.2.2.2.2.2.2.2.2.2.1 k0_h7
theorem k0_off202_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off202 i) a + S1x1x640.size a ≤ S2x20x1024.size a := fun i v11 v14 v21 v28 v35 v42 v49 v56 k0_hw1 k0_h7 => k0_hw1.2.2.2.2.1.2.2.2.2.2.2.2.2.2.2.2.2.2.1 k0_h7
theorem k0_off203_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off203 i) a + S1x1x640x128.size a ≤ S1x20x1024x128.size a := fun i v11 v14 v21 v28 v35 v42 v49 v56 k0_hw1 k0_h7 => k0_hw1.2.2.2.2.1.2.2.2.2.2.2.2.2.2.2.2.2.2.2.1 k0_h7
theorem k0_off204_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off204 i) a + S1x1x640.size a ≤ S2x20x1024.size a := fun i v11 v14 v21 v28 v35 v42 v49 v56 k0_hw1 k0_h7 => k0_hw1.2.2.2.2.1.2.2.2.2.2.2.2.2.2.2.2.2.2.2.2.1 k0_h7
theorem k0_off205_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off205 i) a + S1x1x640x128.size a ≤ S1x20x1024x128.size a := fun i v11 v14 v21 v28 v35 v42 v49 v56 k0_hw1 k0_h7 => k0_hw1.2.2.2.2.1.2.2.2.2.2.2.2.2.2.2.2.2.2.2.2.2.1 k0_h7
theorem k0_off206_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off206 i) a + S1x1x640.size a ≤ S2x20x1024.size a := fun i v11 v14 v21 v28 v35 v42 v49 v56 k0_hw1 k0_h7 => k0_hw1.2.2.2.2.1.2.2.2.2.2.2.2.2.2.2.2.2.2.2.2.2.2.1 k0_h7
theorem k0_off207_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off207 i) a + S1x1x640x128.size a ≤ S1x20x1024x128.size a := fun i v11 v14 v21 v28 v35 v42 v49 v56 k0_hw1 k0_h7 => k0_hw1.2.2.2.2.1.2.2.2.2.2.2.2.2.2.2.2.2.2.2.2.2.2.2.1 k0_h7
theorem k0_off208_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off208 i) a + S1x1x640.size a ≤ S2x20x1024.size a := fun i v11 v14 v21 v28 v35 v42 v49 v56 k0_hw1 k0_h7 => k0_hw1.2.2.2.2.1.2.2.2.2.2.2.2.2.2.2.2.2.2.2.2.2.2.2.2.1 k0_h7
theorem k0_off209_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off209 i) a + S1x1x640x128.size a ≤ S1x20x1024x128.size a := fun i v11 v14 v21 v28 v35 v42 v49 v56 k0_hw1 k0_h7 => k0_hw1.2.2.2.2.1.2.2.2.2.2.2.2.2.2.2.2.2.2.2.2.2.2.2.2.2.1 k0_h7
theorem k0_off210_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off210 i) a + S1x1x640.size a ≤ S2x20x1024.size a := fun i v11 v14 v21 v28 v35 v42 v49 v56 k0_hw1 k0_h7 => k0_hw1.2.2.2.2.1.2.2.2.2.2.2.2.2.2.2.2.2.2.2.2.2.2.2.2.2.2.1 k0_h7
theorem k0_off211_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off211 i) a + S1x1x640x128.size a ≤ S1x20x1024x128.size a := fun i v11 v14 v21 v28 v35 v42 v49 v56 k0_hw1 k0_h7 => k0_hw1.2.2.2.2.1.2.2.2.2.2.2.2.2.2.2.2.2.2.2.2.2.2.2.2.2.2.2.1 k0_h7
theorem k0_off212_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off212 i) a + S1x1x640.size a ≤ S2x20x1024.size a := fun i v11 v14 v21 v28 v35 v42 v49 v56 k0_hw1 k0_h7 => k0_hw1.2.2.2.2.1.2.2.2.2.2.2.2.2.2.2.2.2.2.2.2.2.2.2.2.2.2.2.2.1 k0_h7
theorem k0_off213_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off213 i) a + S1x1x640x128.size a ≤ S1x20x1024x128.size a := fun i v11 v14 v21 v28 v35 v42 v49 v56 k0_hw1 k0_h7 => k0_hw1.2.2.2.2.1.2.2.2.2.2.2.2.2.2.2.2.2.2.2.2.2.2.2.2.2.2.2.2.2.1 k0_h7
theorem k0_off214_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off214 i) a + S1x1x640.size a ≤ S2x20x1024.size a := fun i v11 v14 v21 v28 v35 v42 v49 v56 k0_hw1 k0_h7 => k0_hw1.2.2.2.2.1.2.2.2.2.2.2.2.2.2.2.2.2.2.2.2.2.2.2.2.2.2.2.2.2.2.1 k0_h7
theorem k0_off215_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off215 i) a + S1x1x640x128.size a ≤ S1x20x1024x128.size a := fun i v11 v14 v21 v28 v35 v42 v49 v56 k0_hw1 k0_h7 => k0_hw1.2.2.2.2.1.2.2.2.2.2.2.2.2.2.2.2.2.2.2.2.2.2.2.2.2.2.2.2.2.2.2.1 k0_h7
theorem k0_off216_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off216 i) a + S1x1x640.size a ≤ S2x20x1024.size a := fun i v11 v14 v21 v28 v35 v42 v49 v56 k0_hw1 k0_h7 => k0_hw1.2.2.2.2.1.2.2.2.2.2.2.2.2.2.2.2.2.2.2.2.2.2.2.2.2.2.2.2.2.2.2.2.1 k0_h7
theorem k0_off217_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off217 i) a + S1x1x640x128.size a ≤ S1x20x1024x128.size a := fun i v11 v14 v21 v28 v35 v42 v49 v56 k0_hw1 k0_h7 => k0_hw1.2.2.2.2.1.2.2.2.2.2.2.2.2.2.2.2.2.2.2.2.2.2.2.2.2.2.2.2.2.2.2.2.2.1 k0_h7
theorem k0_off218_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off218 i) a + S1x1x640.size a ≤ S2x20x1024.size a := fun i v11 v14 v21 v28 v35 v42 v49 v56 k0_hw1 k0_h7 => k0_hw1.2.2.2.2.1.2.2.2.2.2.2.2.2.2.2.2.2.2.2.2.2.2.2.2.2.2.2.2.2.2.2.2.2.2.1 k0_h7
theorem k0_off219_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off219 i) a + S1x1x640x128.size a ≤ S1x20x1024x128.size a := fun i v11 v14 v21 v28 v35 v42 v49 v56 k0_hw1 k0_h7 => k0_hw1.2.2.2.2.1.2.2.2.2.2.2.2.2.2.2.2.2.2.2.2.2.2.2.2.2.2.2.2.2.2.2.2.2.2.2.1 k0_h7
theorem k0_off220_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off220 i) a + S1x1x640.size a ≤ S2x20x1024.size a := fun i v11 v14 v21 v28 v35 v42 v49 v56 k0_hw1 k0_h7 => k0_hw1.2.2.2.2.1.2.2.2.2.2.2.2.2.2.2.2.2.2.2.2.2.2.2.2.2.2.2.2.2.2.2.2.2.2.2.2 k0_h7
theorem k0_off221_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off221 i) a + S1x1x640x128.size a ≤ S1x20x1024x128.size a := fun i v11 v14 v21 v28 v35 v42 v49 v56 k0_hw1 k0_h7 => k0_hw1.2.2.2.2.2.1.1 k0_h7
theorem k0_off222_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off222 i) a + S1x1x640.size a ≤ S2x20x1024.size a := fun i v11 v14 v21 v28 v35 v42 v49 v56 k0_hw1 k0_h7 => k0_hw1.2.2.2.2.2.1.2.1 k0_h7
theorem k0_off223_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off223 i) a + S1x1x640x128.size a ≤ S1x20x1024x128.size a := fun i v11 v14 v21 v28 v35 v42 v49 v56 k0_hw1 k0_h7 => k0_hw1.2.2.2.2.2.1.2.2.1 k0_h7
theorem k0_off224_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off224 i) a + S1x1x640.size a ≤ S2x20x1024.size a := fun i v11 v14 v21 v28 v35 v42 v49 v56 k0_hw1 k0_h7 => k0_hw1.2.2.2.2.2.1.2.2.2.1 k0_h7
theorem k0_off225_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off225 i) a + S1x1x640x128.size a ≤ S1x20x1024x128.size a := fun i v11 v14 v21 v28 v35 v42 v49 v56 k0_hw1 k0_h7 => k0_hw1.2.2.2.2.2.1.2.2.2.2.1 k0_h7
theorem k0_off226_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off226 i) a + S1x1x640.size a ≤ S2x20x1024.size a := fun i v11 v14 v21 v28 v35 v42 v49 v56 k0_hw1 k0_h7 => k0_hw1.2.2.2.2.2.1.2.2.2.2.2.1 k0_h7
theorem k0_off227_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off227 i) a + S1x1x640x128.size a ≤ S1x20x1024x128.size a := fun i v11 v14 v21 v28 v35 v42 v49 v56 k0_hw1 k0_h7 => k0_hw1.2.2.2.2.2.1.2.2.2.2.2.2.1 k0_h7
theorem k0_off228_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h7 : k0_cond7 i v11 v14 v21 v28 v35 v42 v49 v56 = 1#1), ∀ a, (k0_off228 i) a + S1x1x640.size a ≤ S2x20x1024.size a := fun i v11 v14 v21 v28 v35 v42 v49 v56 k0_hw1 k0_h7 => k0_hw1.2.2.2.2.2.1.2.2.2.2.2.2.2.1 k0_h7
theorem k0_off230_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off230 i) a + S1x1x768.size a ≤ S2x8x1024.size a := fun i v11 v14 v21 v28 v35 v42 v49 v56 k0_hw1 k0_h8 => k0_hw1.2.2.2.2.2.1.2.2.2.2.2.2.2.2.1 k0_h8
theorem k0_off232_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off232 i) a + S1x1x768x128.size a ≤ S1x20x1024x128.size a := fun i v11 v14 v21 v28 v35 v42 v49 v56 k0_hw1 k0_h8 => k0_hw1.2.2.2.2.2.1.2.2.2.2.2.2.2.2.2.1 k0_h8
theorem k0_off233_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off233 i) a + S1x1x768.size a ≤ S2x20x1024.size a := fun i v11 v14 v21 v28 v35 v42 v49 v56 k0_hw1 k0_h8 => k0_hw1.2.2.2.2.2.1.2.2.2.2.2.2.2.2.2.2.1 k0_h8
theorem k0_off234_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off234 i) a + S8x768.size a ≤ S8x1024.size a := fun i v11 v14 v21 v28 v35 v42 v49 v56 k0_hw1 k0_h8 => k0_hw1.2.2.2.2.2.1.2.2.2.2.2.2.2.2.2.2.2.1 k0_h8
theorem k0_off235_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off235 i) a + S1x1x768x128.size a ≤ S1x20x1024x128.size a := fun i v11 v14 v21 v28 v35 v42 v49 v56 k0_hw1 k0_h8 => k0_hw1.2.2.2.2.2.1.2.2.2.2.2.2.2.2.2.2.2.2.1 k0_h8
theorem k0_off236_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off236 i) a + S1x1x768.size a ≤ S2x20x1024.size a := fun i v11 v14 v21 v28 v35 v42 v49 v56 k0_hw1 k0_h8 => k0_hw1.2.2.2.2.2.1.2.2.2.2.2.2.2.2.2.2.2.2.2.1 k0_h8
theorem k0_off237_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off237 i) a + S1x1x768x128.size a ≤ S1x20x1024x128.size a := fun i v11 v14 v21 v28 v35 v42 v49 v56 k0_hw1 k0_h8 => k0_hw1.2.2.2.2.2.1.2.2.2.2.2.2.2.2.2.2.2.2.2.2.1 k0_h8
theorem k0_off238_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off238 i) a + S1x1x768.size a ≤ S2x20x1024.size a := fun i v11 v14 v21 v28 v35 v42 v49 v56 k0_hw1 k0_h8 => k0_hw1.2.2.2.2.2.1.2.2.2.2.2.2.2.2.2.2.2.2.2.2.2.1 k0_h8
theorem k0_off239_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off239 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.1 k0_h8
theorem k0_off240_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off240 i) a + S1x1x768.size a ≤ S2x20x1024.size a := fun i v11 v14 v21 v28 v35 v42 v49 v56 k0_hw1 k0_h8 => k0_hw1.2.2.2.2.2.1.2.2.2.2.2.2.2.2.2.2.2.2.2.2.2.2.2.1 k0_h8
theorem k0_off241_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off241 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.2.2.1 k0_h8
theorem k0_off242_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off242 i) a + S1x1x768.size a ≤ S2x20x1024.size a := fun i v11 v14 v21 v28 v35 v42 v49 v56 k0_hw1 k0_h8 => k0_hw1.2.2.2.2.2.1.2.2.2.2.2.2.2.2.2.2.2.2.2.2.2.2.2.2.2.1 k0_h8
theorem k0_off243_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off243 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.2.2.2.2.1 k0_h8
theorem k0_off244_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off244 i) a + S1x1x768.size a ≤ S2x20x1024.size a := fun i v11 v14 v21 v28 v35 v42 v49 v56 k0_hw1 k0_h8 => k0_hw1.2.2.2.2.2.1.2.2.2.2.2.2.2.2.2.2.2.2.2.2.2.2.2.2.2.2.2.1 k0_h8
theorem k0_off245_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off245 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.2.2.2.2.2.2.1 k0_h8
theorem k0_off246_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off246 i) a + S1x1x768.size a ≤ S2x20x1024.size a := fun i v11 v14 v21 v28 v35 v42 v49 v56 k0_hw1 k0_h8 => k0_hw1.2.2.2.2.2.1.2.2.2.2.2.2.2.2.2.2.2.2.2.2.2.2.2.2.2.2.2.2.2.1 k0_h8
theorem k0_off247_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off247 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.2.2.2.2.2.2.2.2.1 k0_h8
theorem k0_off248_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off248 i) a + S1x1x768.size a ≤ S2x20x1024.size a := fun i v11 v14 v21 v28 v35 v42 v49 v56 k0_hw1 k0_h8 => k0_hw1.2.2.2.2.2.1.2.2.2.2.2.2.2.2.2.2.2.2.2.2.2.2.2.2.2.2.2.2.2.2.2.1 k0_h8
theorem k0_off249_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off249 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.2.2.2.2.2.2.2.2.2.2.1 k0_h8
theorem k0_off250_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off250 i) a + S1x1x768.size a ≤ S2x20x1024.size a := fun i v11 v14 v21 v28 v35 v42 v49 v56 k0_hw1 k0_h8 => k0_hw1.2.2.2.2.2.1.2.2.2.2.2.2.2.2.2.2.2.2.2.2.2.2.2.2.2.2.2.2.2.2.2.2.2.1 k0_h8
theorem k0_off251_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off251 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.2.2.2.2.2.2.2.2.2.2.2.2.1 k0_h8
theorem k0_off252_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off252 i) a + S1x1x768.size a ≤ S2x20x1024.size a := fun i v11 v14 v21 v28 v35 v42 v49 v56 k0_hw1 k0_h8 => k0_hw1.2.2.2.2.2.1.2.2.2.2.2.2.2.2.2.2.2.2.2.2.2.2.2.2.2.2.2.2.2.2.2.2.2.2.2.1 k0_h8
theorem k0_off253_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off253 i) a + S1x1x768x128.size a ≤ S1x20x1024x128.size a := fun i v11 v14 v21 v28 v35 v42 v49 v56 k0_hw1 k0_h8 => k0_hw1.2.2.2.2.2.1.2.2.2.2.2.2.2.2.2.2.2.2.2.2.2.2.2.2.2.2.2.2.2.2.2.2.2.2.2.2.1 k0_h8
theorem k0_off254_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off254 i) a + S1x1x768.size a ≤ S2x20x1024.size a := fun i v11 v14 v21 v28 v35 v42 v49 v56 k0_hw1 k0_h8 => k0_hw1.2.2.2.2.2.1.2.2.2.2.2.2.2.2.2.2.2.2.2.2.2.2.2.2.2.2.2.2.2.2.2.2.2.2.2.2.2 k0_h8
theorem k0_off255_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off255 i) a + S1x1x768x128.size a ≤ S1x20x1024x128.size a := fun i v11 v14 v21 v28 v35 v42 v49 v56 k0_hw1 k0_h8 => k0_hw1.2.2.2.2.2.2.1.1 k0_h8
theorem k0_off256_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off256 i) a + S1x1x768.size a ≤ S2x20x1024.size a := fun i v11 v14 v21 v28 v35 v42 v49 v56 k0_hw1 k0_h8 => k0_hw1.2.2.2.2.2.2.1.2.1 k0_h8
theorem k0_off257_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off257 i) a + S1x1x768x128.size a ≤ S1x20x1024x128.size a := fun i v11 v14 v21 v28 v35 v42 v49 v56 k0_hw1 k0_h8 => k0_hw1.2.2.2.2.2.2.1.2.2.1 k0_h8
theorem k0_off258_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off258 i) a + S1x1x768.size a ≤ S2x20x1024.size a := fun i v11 v14 v21 v28 v35 v42 v49 v56 k0_hw1 k0_h8 => k0_hw1.2.2.2.2.2.2.1.2.2.2.1 k0_h8
theorem k0_off259_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off259 i) a + S1x1x768x128.size a ≤ S1x20x1024x128.size a := fun i v11 v14 v21 v28 v35 v42 v49 v56 k0_hw1 k0_h8 => k0_hw1.2.2.2.2.2.2.1.2.2.2.2.1 k0_h8
theorem k0_off260_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off260 i) a + S1x1x768.size a ≤ S2x20x1024.size a := fun i v11 v14 v21 v28 v35 v42 v49 v56 k0_hw1 k0_h8 => k0_hw1.2.2.2.2.2.2.1.2.2.2.2.2.1 k0_h8
theorem k0_off261_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off261 i) a + S1x1x768x128.size a ≤ S1x20x1024x128.size a := fun i v11 v14 v21 v28 v35 v42 v49 v56 k0_hw1 k0_h8 => k0_hw1.2.2.2.2.2.2.1.2.2.2.2.2.2.1 k0_h8
theorem k0_off262_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off262 i) a + S1x1x768.size a ≤ S2x20x1024.size a := fun i v11 v14 v21 v28 v35 v42 v49 v56 k0_hw1 k0_h8 => k0_hw1.2.2.2.2.2.2.1.2.2.2.2.2.2.2.1 k0_h8
theorem k0_off263_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off263 i) a + S1x1x768x128.size a ≤ S1x20x1024x128.size a := fun i v11 v14 v21 v28 v35 v42 v49 v56 k0_hw1 k0_h8 => k0_hw1.2.2.2.2.2.2.1.2.2.2.2.2.2.2.2.1 k0_h8
theorem k0_off264_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off264 i) a + S1x1x768.size a ≤ S2x20x1024.size a := fun i v11 v14 v21 v28 v35 v42 v49 v56 k0_hw1 k0_h8 => k0_hw1.2.2.2.2.2.2.1.2.2.2.2.2.2.2.2.2.1 k0_h8
theorem k0_off265_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off265 i) a + S1x1x768x128.size a ≤ S1x20x1024x128.size a := fun i v11 v14 v21 v28 v35 v42 v49 v56 k0_hw1 k0_h8 => k0_hw1.2.2.2.2.2.2.1.2.2.2.2.2.2.2.2.2.2.1 k0_h8
theorem k0_off266_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off266 i) a + S1x1x768.size a ≤ S2x20x1024.size a := fun i v11 v14 v21 v28 v35 v42 v49 v56 k0_hw1 k0_h8 => k0_hw1.2.2.2.2.2.2.1.2.2.2.2.2.2.2.2.2.2.2.1 k0_h8
theorem k0_off267_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off267 i) a + S1x1x768x128.size a ≤ S1x20x1024x128.size a := fun i v11 v14 v21 v28 v35 v42 v49 v56 k0_hw1 k0_h8 => k0_hw1.2.2.2.2.2.2.1.2.2.2.2.2.2.2.2.2.2.2.2.1 k0_h8
theorem k0_off268_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off268 i) a + S1x1x768.size a ≤ S2x20x1024.size a := fun i v11 v14 v21 v28 v35 v42 v49 v56 k0_hw1 k0_h8 => k0_hw1.2.2.2.2.2.2.1.2.2.2.2.2.2.2.2.2.2.2.2.2.1 k0_h8
theorem k0_off269_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off269 i) a + S1x1x768x128.size a ≤ S1x20x1024x128.size a := fun i v11 v14 v21 v28 v35 v42 v49 v56 k0_hw1 k0_h8 => k0_hw1.2.2.2.2.2.2.1.2.2.2.2.2.2.2.2.2.2.2.2.2.2.1 k0_h8
theorem k0_off270_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off270 i) a + S1x1x768.size a ≤ S2x20x1024.size a := fun i v11 v14 v21 v28 v35 v42 v49 v56 k0_hw1 k0_h8 => k0_hw1.2.2.2.2.2.2.1.2.2.2.2.2.2.2.2.2.2.2.2.2.2.2.1 k0_h8
theorem k0_off271_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off271 i) a + S1x1x768x128.size a ≤ S1x20x1024x128.size a := fun i v11 v14 v21 v28 v35 v42 v49 v56 k0_hw1 k0_h8 => k0_hw1.2.2.2.2.2.2.1.2.2.2.2.2.2.2.2.2.2.2.2.2.2.2.2.1 k0_h8
theorem k0_off272_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h8 : k0_cond8 i v11 v14 v21 v28 v35 v42 v49 v56 = 1#1), ∀ a, (k0_off272 i) a + S1x1x768.size a ≤ S2x20x1024.size a := fun i v11 v14 v21 v28 v35 v42 v49 v56 k0_hw1 k0_h8 => k0_hw1.2.2.2.2.2.2.1.2.2.2.2.2.2.2.2.2.2.2.2.2.2.2.2.2.1 k0_h8
theorem k0_off274_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off274 i) a + S1x1x896.size a ≤ S2x8x1024.size a := fun i v11 v14 v21 v28 v35 v42 v49 v56 k0_hw1 k0_h9 => k0_hw1.2.2.2.2.2.2.1.2.2.2.2.2.2.2.2.2.2.2.2.2.2.2.2.2.2.1 k0_h9
theorem k0_off276_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off276 i) a + S1x1x896x128.size a ≤ S1x20x1024x128.size a := fun i v11 v14 v21 v28 v35 v42 v49 v56 k0_hw1 k0_h9 => k0_hw1.2.2.2.2.2.2.1.2.2.2.2.2.2.2.2.2.2.2.2.2.2.2.2.2.2.2.1 k0_h9
theorem k0_off277_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off277 i) a + S1x1x896.size a ≤ S2x20x1024.size a := fun i v11 v14 v21 v28 v35 v42 v49 v56 k0_hw1 k0_h9 => k0_hw1.2.2.2.2.2.2.1.2.2.2.2.2.2.2.2.2.2.2.2.2.2.2.2.2.2.2.2.1 k0_h9
theorem k0_off278_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off278 i) a + S8x896.size a ≤ S8x1024.size a := fun i v11 v14 v21 v28 v35 v42 v49 v56 k0_hw1 k0_h9 => k0_hw1.2.2.2.2.2.2.1.2.2.2.2.2.2.2.2.2.2.2.2.2.2.2.2.2.2.2.2.2.1 k0_h9
theorem k0_off279_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off279 i) a + S1x1x896x128.size a ≤ S1x20x1024x128.size a := fun i v11 v14 v21 v28 v35 v42 v49 v56 k0_hw1 k0_h9 => k0_hw1.2.2.2.2.2.2.1.2.2.2.2.2.2.2.2.2.2.2.2.2.2.2.2.2.2.2.2.2.2.1 k0_h9
theorem k0_off280_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off280 i) a + S1x1x896.size a ≤ S2x20x1024.size a := fun i v11 v14 v21 v28 v35 v42 v49 v56 k0_hw1 k0_h9 => k0_hw1.2.2.2.2.2.2.1.2.2.2.2.2.2.2.2.2.2.2.2.2.2.2.2.2.2.2.2.2.2.2.1 k0_h9
theorem k0_off281_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off281 i) a + S1x1x896x128.size a ≤ S1x20x1024x128.size a := fun i v11 v14 v21 v28 v35 v42 v49 v56 k0_hw1 k0_h9 => k0_hw1.2.2.2.2.2.2.1.2.2.2.2.2.2.2.2.2.2.2.2.2.2.2.2.2.2.2.2.2.2.2.2.1 k0_h9
theorem k0_off282_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off282 i) a + S1x1x896.size a ≤ S2x20x1024.size a := fun i v11 v14 v21 v28 v35 v42 v49 v56 k0_hw1 k0_h9 => k0_hw1.2.2.2.2.2.2.1.2.2.2.2.2.2.2.2.2.2.2.2.2.2.2.2.2.2.2.2.2.2.2.2.2.1 k0_h9
theorem k0_off283_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off283 i) a + S1x1x896x128.size a ≤ S1x20x1024x128.size a := fun i v11 v14 v21 v28 v35 v42 v49 v56 k0_hw1 k0_h9 => k0_hw1.2.2.2.2.2.2.1.2.2.2.2.2.2.2.2.2.2.2.2.2.2.2.2.2.2.2.2.2.2.2.2.2.2.1 k0_h9
theorem k0_off284_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off284 i) a + S1x1x896.size a ≤ S2x20x1024.size a := fun i v11 v14 v21 v28 v35 v42 v49 v56 k0_hw1 k0_h9 => k0_hw1.2.2.2.2.2.2.1.2.2.2.2.2.2.2.2.2.2.2.2.2.2.2.2.2.2.2.2.2.2.2.2.2.2.2.1 k0_h9
theorem k0_off285_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off285 i) a + S1x1x896x128.size a ≤ S1x20x1024x128.size a := fun i v11 v14 v21 v28 v35 v42 v49 v56 k0_hw1 k0_h9 => k0_hw1.2.2.2.2.2.2.1.2.2.2.2.2.2.2.2.2.2.2.2.2.2.2.2.2.2.2.2.2.2.2.2.2.2.2.2.1 k0_h9
theorem k0_off286_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off286 i) a + S1x1x896.size a ≤ S2x20x1024.size a := fun i v11 v14 v21 v28 v35 v42 v49 v56 k0_hw1 k0_h9 => k0_hw1.2.2.2.2.2.2.1.2.2.2.2.2.2.2.2.2.2.2.2.2.2.2.2.2.2.2.2.2.2.2.2.2.2.2.2.2.1 k0_h9
theorem k0_off287_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off287 i) a + S1x1x896x128.size a ≤ S1x20x1024x128.size a := fun i v11 v14 v21 v28 v35 v42 v49 v56 k0_hw1 k0_h9 => k0_hw1.2.2.2.2.2.2.1.2.2.2.2.2.2.2.2.2.2.2.2.2.2.2.2.2.2.2.2.2.2.2.2.2.2.2.2.2.2.1 k0_h9
theorem k0_off288_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off288 i) a + S1x1x896.size a ≤ S2x20x1024.size a := fun i v11 v14 v21 v28 v35 v42 v49 v56 k0_hw1 k0_h9 => k0_hw1.2.2.2.2.2.2.1.2.2.2.2.2.2.2.2.2.2.2.2.2.2.2.2.2.2.2.2.2.2.2.2.2.2.2.2.2.2.2 k0_h9
theorem k0_off289_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off289 i) a + S1x1x896x128.size a ≤ S1x20x1024x128.size a := fun i v11 v14 v21 v28 v35 v42 v49 v56 k0_hw1 k0_h9 => k0_hw1.2.2.2.2.2.2.2.1.1 k0_h9
theorem k0_off290_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off290 i) a + S1x1x896.size a ≤ S2x20x1024.size a := fun i v11 v14 v21 v28 v35 v42 v49 v56 k0_hw1 k0_h9 => k0_hw1.2.2.2.2.2.2.2.1.2.1 k0_h9
theorem k0_off291_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off291 i) a + S1x1x896x128.size a ≤ S1x20x1024x128.size a := fun i v11 v14 v21 v28 v35 v42 v49 v56 k0_hw1 k0_h9 => k0_hw1.2.2.2.2.2.2.2.1.2.2.1 k0_h9
theorem k0_off292_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off292 i) a + S1x1x896.size a ≤ S2x20x1024.size a := fun i v11 v14 v21 v28 v35 v42 v49 v56 k0_hw1 k0_h9 => k0_hw1.2.2.2.2.2.2.2.1.2.2.2.1 k0_h9
theorem k0_off293_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off293 i) a + S1x1x896x128.size a ≤ S1x20x1024x128.size a := fun i v11 v14 v21 v28 v35 v42 v49 v56 k0_hw1 k0_h9 => k0_hw1.2.2.2.2.2.2.2.1.2.2.2.2.1 k0_h9
theorem k0_off294_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off294 i) a + S1x1x896.size a ≤ S2x20x1024.size a := fun i v11 v14 v21 v28 v35 v42 v49 v56 k0_hw1 k0_h9 => k0_hw1.2.2.2.2.2.2.2.1.2.2.2.2.2.1 k0_h9
theorem k0_off295_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off295 i) a + S1x1x896x128.size a ≤ S1x20x1024x128.size a := fun i v11 v14 v21 v28 v35 v42 v49 v56 k0_hw1 k0_h9 => k0_hw1.2.2.2.2.2.2.2.1.2.2.2.2.2.2.1 k0_h9
theorem k0_off296_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off296 i) a + S1x1x896.size a ≤ S2x20x1024.size a := fun i v11 v14 v21 v28 v35 v42 v49 v56 k0_hw1 k0_h9 => k0_hw1.2.2.2.2.2.2.2.1.2.2.2.2.2.2.2.1 k0_h9
theorem k0_off297_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off297 i) a + S1x1x896x128.size a ≤ S1x20x1024x128.size a := fun i v11 v14 v21 v28 v35 v42 v49 v56 k0_hw1 k0_h9 => k0_hw1.2.2.2.2.2.2.2.1.2.2.2.2.2.2.2.2.1 k0_h9
theorem k0_off298_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off298 i) a + S1x1x896.size a ≤ S2x20x1024.size a := fun i v11 v14 v21 v28 v35 v42 v49 v56 k0_hw1 k0_h9 => k0_hw1.2.2.2.2.2.2.2.1.2.2.2.2.2.2.2.2.2.1 k0_h9
theorem k0_off299_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off299 i) a + S1x1x896x128.size a ≤ S1x20x1024x128.size a := fun i v11 v14 v21 v28 v35 v42 v49 v56 k0_hw1 k0_h9 => k0_hw1.2.2.2.2.2.2.2.1.2.2.2.2.2.2.2.2.2.2.1 k0_h9
theorem k0_off300_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off300 i) a + S1x1x896.size a ≤ S2x20x1024.size a := fun i v11 v14 v21 v28 v35 v42 v49 v56 k0_hw1 k0_h9 => k0_hw1.2.2.2.2.2.2.2.1.2.2.2.2.2.2.2.2.2.2.2.1 k0_h9
theorem k0_off301_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off301 i) a + S1x1x896x128.size a ≤ S1x20x1024x128.size a := fun i v11 v14 v21 v28 v35 v42 v49 v56 k0_hw1 k0_h9 => k0_hw1.2.2.2.2.2.2.2.1.2.2.2.2.2.2.2.2.2.2.2.2.1 k0_h9
theorem k0_off302_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off302 i) a + S1x1x896.size a ≤ S2x20x1024.size a := fun i v11 v14 v21 v28 v35 v42 v49 v56 k0_hw1 k0_h9 => k0_hw1.2.2.2.2.2.2.2.1.2.2.2.2.2.2.2.2.2.2.2.2.2.1 k0_h9
theorem k0_off303_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off303 i) a + S1x1x896x128.size a ≤ S1x20x1024x128.size a := fun i v11 v14 v21 v28 v35 v42 v49 v56 k0_hw1 k0_h9 => k0_hw1.2.2.2.2.2.2.2.1.2.2.2.2.2.2.2.2.2.2.2.2.2.2.1 k0_h9
theorem k0_off304_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off304 i) a + S1x1x896.size a ≤ S2x20x1024.size a := fun i v11 v14 v21 v28 v35 v42 v49 v56 k0_hw1 k0_h9 => k0_hw1.2.2.2.2.2.2.2.1.2.2.2.2.2.2.2.2.2.2.2.2.2.2.2.1 k0_h9
theorem k0_off305_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off305 i) a + S1x1x896x128.size a ≤ S1x20x1024x128.size a := fun i v11 v14 v21 v28 v35 v42 v49 v56 k0_hw1 k0_h9 => k0_hw1.2.2.2.2.2.2.2.1.2.2.2.2.2.2.2.2.2.2.2.2.2.2.2.2.1 k0_h9
theorem k0_off306_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off306 i) a + S1x1x896.size a ≤ S2x20x1024.size a := fun i v11 v14 v21 v28 v35 v42 v49 v56 k0_hw1 k0_h9 => k0_hw1.2.2.2.2.2.2.2.1.2.2.2.2.2.2.2.2.2.2.2.2.2.2.2.2.2.1 k0_h9
theorem k0_off307_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off307 i) a + S1x1x896x128.size a ≤ S1x20x1024x128.size a := fun i v11 v14 v21 v28 v35 v42 v49 v56 k0_hw1 k0_h9 => k0_hw1.2.2.2.2.2.2.2.1.2.2.2.2.2.2.2.2.2.2.2.2.2.2.2.2.2.2.1 k0_h9
theorem k0_off308_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off308 i) a + S1x1x896.size a ≤ S2x20x1024.size a := fun i v11 v14 v21 v28 v35 v42 v49 v56 k0_hw1 k0_h9 => k0_hw1.2.2.2.2.2.2.2.1.2.2.2.2.2.2.2.2.2.2.2.2.2.2.2.2.2.2.2.1 k0_h9
theorem k0_off309_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off309 i) a + S1x1x896x128.size a ≤ S1x20x1024x128.size a := fun i v11 v14 v21 v28 v35 v42 v49 v56 k0_hw1 k0_h9 => k0_hw1.2.2.2.2.2.2.2.1.2.2.2.2.2.2.2.2.2.2.2.2.2.2.2.2.2.2.2.2.1 k0_h9
theorem k0_off310_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off310 i) a + S1x1x896.size a ≤ S2x20x1024.size a := fun i v11 v14 v21 v28 v35 v42 v49 v56 k0_hw1 k0_h9 => k0_hw1.2.2.2.2.2.2.2.1.2.2.2.2.2.2.2.2.2.2.2.2.2.2.2.2.2.2.2.2.2.1 k0_h9
theorem k0_off311_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off311 i) a + S1x1x896x128.size a ≤ S1x20x1024x128.size a := fun i v11 v14 v21 v28 v35 v42 v49 v56 k0_hw1 k0_h9 => k0_hw1.2.2.2.2.2.2.2.1.2.2.2.2.2.2.2.2.2.2.2.2.2.2.2.2.2.2.2.2.2.2.1 k0_h9
theorem k0_off312_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off312 i) a + S1x1x896.size a ≤ S2x20x1024.size a := fun i v11 v14 v21 v28 v35 v42 v49 v56 k0_hw1 k0_h9 => k0_hw1.2.2.2.2.2.2.2.1.2.2.2.2.2.2.2.2.2.2.2.2.2.2.2.2.2.2.2.2.2.2.2.1 k0_h9
theorem k0_off313_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off313 i) a + S1x1x896x128.size a ≤ S1x20x1024x128.size a := fun i v11 v14 v21 v28 v35 v42 v49 v56 k0_hw1 k0_h9 => k0_hw1.2.2.2.2.2.2.2.1.2.2.2.2.2.2.2.2.2.2.2.2.2.2.2.2.2.2.2.2.2.2.2.2.1 k0_h9
theorem k0_off314_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off314 i) a + S1x1x896.size a ≤ S2x20x1024.size a := fun i v11 v14 v21 v28 v35 v42 v49 v56 k0_hw1 k0_h9 => k0_hw1.2.2.2.2.2.2.2.1.2.2.2.2.2.2.2.2.2.2.2.2.2.2.2.2.2.2.2.2.2.2.2.2.2.1 k0_h9
theorem k0_off315_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off315 i) a + S1x1x896x128.size a ≤ S1x20x1024x128.size a := fun i v11 v14 v21 v28 v35 v42 v49 v56 k0_hw1 k0_h9 => k0_hw1.2.2.2.2.2.2.2.1.2.2.2.2.2.2.2.2.2.2.2.2.2.2.2.2.2.2.2.2.2.2.2.2.2.2.1 k0_h9
theorem k0_off316_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h9 : k0_cond9 i v11 v14 v21 v28 v35 v42 v49 v56 = 1#1), ∀ a, (k0_off316 i) a + S1x1x896.size a ≤ S2x20x1024.size a := fun i v11 v14 v21 v28 v35 v42 v49 v56 k0_hw1 k0_h9 => k0_hw1.2.2.2.2.2.2.2.1.2.2.2.2.2.2.2.2.2.2.2.2.2.2.2.2.2.2.2.2.2.2.2.2.2.2.2.1 k0_h9
theorem k0_off318_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off318 i) a + S1x1x1024.size a ≤ S2x8x1024.size a := fun i v11 v14 v21 v28 v35 v42 v49 v56 k0_hw1 k0_h10 => k0_hw1.2.2.2.2.2.2.2.1.2.2.2.2.2.2.2.2.2.2.2.2.2.2.2.2.2.2.2.2.2.2.2.2.2.2.2.2.1 k0_h10
theorem k0_off320_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off320 i) a + S1x1x1024x128.size a ≤ S1x20x1024x128.size a := fun i v11 v14 v21 v28 v35 v42 v49 v56 k0_hw1 k0_h10 => k0_hw1.2.2.2.2.2.2.2.1.2.2.2.2.2.2.2.2.2.2.2.2.2.2.2.2.2.2.2.2.2.2.2.2.2.2.2.2.2.1 k0_h10
theorem k0_off321_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off321 i) a + S1x1x1024.size a ≤ S2x20x1024.size a := fun i v11 v14 v21 v28 v35 v42 v49 v56 k0_hw1 k0_h10 => k0_hw1.2.2.2.2.2.2.2.1.2.2.2.2.2.2.2.2.2.2.2.2.2.2.2.2.2.2.2.2.2.2.2.2.2.2.2.2.2.2.1 k0_h10
theorem k0_off322_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off322 i) a + S8x1024.size a ≤ S8x1024.size a := fun i v11 v14 v21 v28 v35 v42 v49 v56 k0_hw1 k0_h10 => k0_hw1.2.2.2.2.2.2.2.1.2.2.2.2.2.2.2.2.2.2.2.2.2.2.2.2.2.2.2.2.2.2.2.2.2.2.2.2.2.2.2 k0_h10
theorem k0_off323_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off323 i) a + S1x1x1024x128.size a ≤ S1x20x1024x128.size a := fun i v11 v14 v21 v28 v35 v42 v49 v56 k0_hw1 k0_h10 => k0_hw1.2.2.2.2.2.2.2.2.1.1 k0_h10
theorem k0_off324_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off324 i) a + S1x1x1024.size a ≤ S2x20x1024.size a := fun i v11 v14 v21 v28 v35 v42 v49 v56 k0_hw1 k0_h10 => k0_hw1.2.2.2.2.2.2.2.2.1.2.1 k0_h10
theorem k0_off325_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off325 i) a + S1x1x1024x128.size a ≤ S1x20x1024x128.size a := fun i v11 v14 v21 v28 v35 v42 v49 v56 k0_hw1 k0_h10 => k0_hw1.2.2.2.2.2.2.2.2.1.2.2.1 k0_h10
theorem k0_off326_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off326 i) a + S1x1x1024.size a ≤ S2x20x1024.size a := fun i v11 v14 v21 v28 v35 v42 v49 v56 k0_hw1 k0_h10 => k0_hw1.2.2.2.2.2.2.2.2.1.2.2.2.1 k0_h10
theorem k0_off327_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off327 i) a + S1x1x1024x128.size a ≤ S1x20x1024x128.size a := fun i v11 v14 v21 v28 v35 v42 v49 v56 k0_hw1 k0_h10 => k0_hw1.2.2.2.2.2.2.2.2.1.2.2.2.2.1 k0_h10
theorem k0_off328_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off328 i) a + S1x1x1024.size a ≤ S2x20x1024.size a := fun i v11 v14 v21 v28 v35 v42 v49 v56 k0_hw1 k0_h10 => k0_hw1.2.2.2.2.2.2.2.2.1.2.2.2.2.2.1 k0_h10
theorem k0_off329_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off329 i) a + S1x1x1024x128.size a ≤ S1x20x1024x128.size a := fun i v11 v14 v21 v28 v35 v42 v49 v56 k0_hw1 k0_h10 => k0_hw1.2.2.2.2.2.2.2.2.1.2.2.2.2.2.2.1 k0_h10
theorem k0_off330_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off330 i) a + S1x1x1024.size a ≤ S2x20x1024.size a := fun i v11 v14 v21 v28 v35 v42 v49 v56 k0_hw1 k0_h10 => k0_hw1.2.2.2.2.2.2.2.2.1.2.2.2.2.2.2.2.1 k0_h10
theorem k0_off331_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off331 i) a + S1x1x1024x128.size a ≤ S1x20x1024x128.size a := fun i v11 v14 v21 v28 v35 v42 v49 v56 k0_hw1 k0_h10 => k0_hw1.2.2.2.2.2.2.2.2.1.2.2.2.2.2.2.2.2.1 k0_h10
theorem k0_off332_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off332 i) a + S1x1x1024.size a ≤ S2x20x1024.size a := fun i v11 v14 v21 v28 v35 v42 v49 v56 k0_hw1 k0_h10 => k0_hw1.2.2.2.2.2.2.2.2.1.2.2.2.2.2.2.2.2.2.1 k0_h10
theorem k0_off333_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off333 i) a + S1x1x1024x128.size a ≤ S1x20x1024x128.size a := fun i v11 v14 v21 v28 v35 v42 v49 v56 k0_hw1 k0_h10 => k0_hw1.2.2.2.2.2.2.2.2.1.2.2.2.2.2.2.2.2.2.2.1 k0_h10
theorem k0_off334_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off334 i) a + S1x1x1024.size a ≤ S2x20x1024.size a := fun i v11 v14 v21 v28 v35 v42 v49 v56 k0_hw1 k0_h10 => k0_hw1.2.2.2.2.2.2.2.2.1.2.2.2.2.2.2.2.2.2.2.2.1 k0_h10
theorem k0_off335_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off335 i) a + S1x1x1024x128.size a ≤ S1x20x1024x128.size a := fun i v11 v14 v21 v28 v35 v42 v49 v56 k0_hw1 k0_h10 => k0_hw1.2.2.2.2.2.2.2.2.1.2.2.2.2.2.2.2.2.2.2.2.2.1 k0_h10
theorem k0_off336_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off336 i) a + S1x1x1024.size a ≤ S2x20x1024.size a := fun i v11 v14 v21 v28 v35 v42 v49 v56 k0_hw1 k0_h10 => k0_hw1.2.2.2.2.2.2.2.2.1.2.2.2.2.2.2.2.2.2.2.2.2.2.1 k0_h10
theorem k0_off337_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off337 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.1 k0_h10
theorem k0_off338_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off338 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.1 k0_h10
theorem k0_off339_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off339 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.1 k0_h10
theorem k0_off340_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off340 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.1 k0_h10
theorem k0_off341_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off341 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.2.2.1 k0_h10
theorem k0_off342_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off342 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.2.2.1 k0_h10
theorem k0_off343_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off343 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.2.2.2.2.1 k0_h10
theorem k0_off344_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off344 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.2.2.2.2.1 k0_h10
theorem k0_off345_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off345 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.2.2.2.2.2.2.1 k0_h10
theorem k0_off346_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off346 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.2.2.2.2.2.2.1 k0_h10
theorem k0_off347_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off347 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.2.2.2.2.2.2.2.2.1 k0_h10
theorem k0_off348_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off348 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.2.2.2.2.2.2.2.2.1 k0_h10
theorem k0_off349_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off349 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.2.2.2.2.2.2.2.2.2.2.1 k0_h10
theorem k0_off350_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off350 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.2.2.2.2.2.2.2.2.2.2.1 k0_h10
theorem k0_off351_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off351 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.2.2.2.2.2.2.2.2.2.2.2.2.1 k0_h10
theorem k0_off352_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off352 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.2.2.2.2.2.2.2.2.2.2.2.2.1 k0_h10
theorem k0_off353_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off353 i) a + S1x1x1024x128.size a ≤ S1x20x1024x128.size a := fun i v11 v14 v21 v28 v35 v42 v49 v56 k0_hw1 k0_h10 => k0_hw1.2.2.2.2.2.2.2.2.1.2.2.2.2.2.2.2.2.2.2.2.2.2.2.2.2.2.2.2.2.2.2.2.2.2.2.2.2.2.2.1 k0_h10
theorem k0_off354_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off354 i) a + S1x1x1024.size a ≤ S2x20x1024.size a := fun i v11 v14 v21 v28 v35 v42 v49 v56 k0_hw1 k0_h10 => k0_hw1.2.2.2.2.2.2.2.2.1.2.2.2.2.2.2.2.2.2.2.2.2.2.2.2.2.2.2.2.2.2.2.2.2.2.2.2.2.2.2.2 k0_h10
theorem k0_off355_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off355 i) a + S1x1x1024x128.size a ≤ S1x20x1024x128.size a := fun i v11 v14 v21 v28 v35 v42 v49 v56 k0_hw1 k0_h10 => k0_hw1.2.2.2.2.2.2.2.2.2.1 k0_h10
theorem k0_off356_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off356 i) a + S1x1x1024.size a ≤ S2x20x1024.size a := fun i v11 v14 v21 v28 v35 v42 v49 v56 k0_hw1 k0_h10 => k0_hw1.2.2.2.2.2.2.2.2.2.2.1 k0_h10
theorem k0_off357_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off357 i) a + S1x1x1024x128.size a ≤ S1x20x1024x128.size a := fun i v11 v14 v21 v28 v35 v42 v49 v56 k0_hw1 k0_h10 => k0_hw1.2.2.2.2.2.2.2.2.2.2.2.1 k0_h10
theorem k0_off358_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off358 i) a + S1x1x1024.size a ≤ S2x20x1024.size a := fun i v11 v14 v21 v28 v35 v42 v49 v56 k0_hw1 k0_h10 => k0_hw1.2.2.2.2.2.2.2.2.2.2.2.2.1 k0_h10
theorem k0_off359_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off359 i) a + S1x1x1024x128.size a ≤ S1x20x1024x128.size a := fun i v11 v14 v21 v28 v35 v42 v49 v56 k0_hw1 k0_h10 => k0_hw1.2.2.2.2.2.2.2.2.2.2.2.2.2.1 k0_h10
theorem k0_off360_inb : ∀ (i : grid0.Coords) (v11 : BitVec 32) (v14 : BitVec 32) (v21 : BitVec 32) (v28 : BitVec 32) (v35 : BitVec 32) (v42 : BitVec 32) (v49 : BitVec 32) (v56 : BitVec 32) (k0_hw1 : k0_chk1 i v11 v14 v21 v28 v35 v42 v49 v56), ∀ (k0_h10 : k0_cond10 i v11 v14 v21 v28 v35 v42 v49 v56 = 1#1), ∀ a, (k0_off360 i) a + S1x1x1024.size a ≤ S2x20x1024.size a := fun i v11 v14 v21 v28 v35 v42 v49 v56 k0_hw1 k0_h10 => k0_hw1.2.2.2.2.2.2.2.2.2.2.2.2.2.2 k0_h10

def k0_cond11 (i : grid0.Coords) : BitVec 1 :=
  let arg0 : BitVec 32 := BitVec.ofNat 32 (i 0).val
  let c0_i32_20 : BitVec 32 := 0#32
  let v85 : BitVec 1 := Scalar.cmpi .eq arg0 c0_i32_20
  let arg1 : BitVec 32 := BitVec.ofNat 32 (i 1).val
  let c7_i32_21 : BitVec 32 := 7#32
  let v86 : BitVec 1 := Scalar.cmpi .eq arg1 c7_i32_21
  let v87 : BitVec 1 := Scalar.andi v85 v86
  let v88 : BitVec 32 := Scalar.extui v87
  let c0_i32_22 : BitVec 32 := 0#32
  let v89 : BitVec 1 := Scalar.cmpi .ne v88 c0_i32_22
  v89

def k0_cond12 (i : grid0.Coords) : BitVec 1 :=
  let arg0 : BitVec 32 := BitVec.ofNat 32 (i 0).val
  let c1_i32_23 : BitVec 32 := 1#32
  let v90 : BitVec 1 := Scalar.cmpi .eq arg0 c1_i32_23
  let arg1 : BitVec 32 := BitVec.ofNat 32 (i 1).val
  let c7_i32_24 : BitVec 32 := 7#32
  let v91 : BitVec 1 := Scalar.cmpi .eq arg1 c7_i32_24
  let v92 : BitVec 1 := Scalar.andi v90 v91
  let v93 : BitVec 32 := Scalar.extui v92
  let c0_i32_25 : BitVec 32 := 0#32
  let v94 : BitVec 1 := Scalar.cmpi .ne v93 c0_i32_25
  v94

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x20x128x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x1024x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S20x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S20x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S20x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S2x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "log2e" => some (((Real.log 2)⁻¹ : ℝ) : EReal)
  | "sm_log2e" => some (((11863283 / 134217728) * (Real.log 2)⁻¹ : ℝ) : EReal)
  | _ => none
-- ==== ReferenceIdeal.lean ====
abbrev S2x1024x20x128 : Shape := ⟨4, ![2, 1024, 20, 128]⟩
abbrev S2x1024x20 : Shape := ⟨3, ![2, 1024, 20]⟩
abbrev S2x1024 : Shape := ⟨2, ![2, 1024]⟩
abbrev S1024 : Shape := ⟨1, ![1024]⟩
abbrev S_ : Shape := ⟨0, ![]⟩
abbrev S1x1024 : Shape := ⟨2, ![1, 1024]⟩
abbrev S2x1 : Shape := ⟨2, ![2, 1]⟩
abbrev S2x1023 : Shape := ⟨2, ![2, 1023]⟩
abbrev S2x20x1024x1024 : Shape := ⟨4, ![2, 20, 1024, 1024]⟩
abbrev S2x20x1024 : Shape := ⟨3, ![2, 20, 1024]⟩
abbrev S2x20x1024x1 : Shape := ⟨4, ![2, 20, 1024, 1]⟩
abbrev S2x20x1x1024 : Shape := ⟨4, ![2, 20, 1, 1024]⟩
abbrev S2x1024x1 : Shape := ⟨3, ![2, 1024, 1]⟩
abbrev S2x1x1024 : Shape := ⟨3, ![2, 1, 1024]⟩
abbrev S2x1024x1024 : Shape := ⟨3, ![2, 1024, 1024]⟩
abbrev S1024x1 : Shape := ⟨2, ![1024, 1]⟩
abbrev S1024x1024 : Shape := ⟨2, ![1024, 1024]⟩
abbrev S1x1024x1024 : Shape := ⟨3, ![1, 1024, 1024]⟩
abbrev S2x1x1024x1024 : Shape := ⟨4, ![2, 1, 1024, 1024]⟩
abbrev S2x1023x1024 : Shape := ⟨3, ![2, 1023, 1024]⟩
abbrev S2x20x128x1024 : Shape := ⟨4, ![2, 20, 128, 1024]⟩
abbrev S2x1024x2560 : Shape := ⟨3, ![2, 1024, 2560]⟩

abbrev nBuf : Space → Nat
  | .hbm => 115
  | .vmem => 6
  | .smem => 0
  | _ => 0

abbrev bufTy : (tb : Table) → Fin (tcTables nBuf tb) → BufTy
  | .hbm, ⟨0, _⟩ => ⟨S2x1024x20x128, .fp8e4m3⟩
  | .hbm, ⟨1, _⟩ => ⟨S2x1024x20, .f32⟩
  | .hbm, ⟨2, _⟩ => ⟨S2x1024x20x128, .fp8e4m3⟩
  | .hbm, ⟨3, _⟩ => ⟨S2x1024x20, .f32⟩
  | .hbm, ⟨4, _⟩ => ⟨S2x1024x20x128, .fp8e4m3⟩
  | .hbm, ⟨5, _⟩ => ⟨S2x1024x20, .f32⟩
  | .hbm, ⟨6, _⟩ => ⟨S2x1024, .i32⟩
  | .hbm, ⟨7, _⟩ => ⟨S2x1024x20x128, .bf16⟩
  | .hbm, ⟨8, _⟩ => ⟨S2x1024x20x128, .bf16⟩
  | .hbm, ⟨9, _⟩ => ⟨S2x1024x20x128, .bf16⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1x1024, .i1⟩
  | .hbm, ⟨15, _⟩ => ⟨S2x1, .i32⟩
  | .hbm, ⟨16, _⟩ => ⟨S2x1023, .i32⟩
  | .hbm, ⟨17, _⟩ => ⟨S2x1024, .i32⟩
  | .hbm, ⟨18, _⟩ => ⟨S2x1024, .i1⟩
  | .hbm, ⟨19, _⟩ => ⟨S2x1024, .i1⟩
  | .hbm, ⟨20, _⟩ => ⟨S2x1024, .i1⟩
  | .hbm, ⟨21, _⟩ => ⟨S2x20x1024x1024, .f32⟩
  | .hbm, ⟨22, _⟩ => ⟨S2x20x1024, .f32⟩
  | .hbm, ⟨23, _⟩ => ⟨S2x20x1024x1, .f32⟩
  | .hbm, ⟨24, _⟩ => ⟨S2x20x1024x1024, .f32⟩
  | .hbm, ⟨25, _⟩ => ⟨S2x20x1024x1024, .f32⟩
  | .hbm, ⟨26, _⟩ => ⟨S2x20x1024, .f32⟩
  | .hbm, ⟨27, _⟩ => ⟨S2x20x1x1024, .f32⟩
  | .hbm, ⟨28, _⟩ => ⟨S2x20x1024x1024, .f32⟩
  | .hbm, ⟨29, _⟩ => ⟨S2x20x1024x1024, .f32⟩
  | .hbm, ⟨30, _⟩ => ⟨S_, .f32⟩
  | .hbm, ⟨31, _⟩ => ⟨S2x20x1024x1024, .f32⟩
  | .hbm, ⟨32, _⟩ => ⟨S2x20x1024x1024, .f32⟩
  | .hbm, ⟨33, _⟩ => ⟨S2x1024x1, .i32⟩
  | .hbm, ⟨34, _⟩ => ⟨S2x1x1024, .i32⟩
  | .hbm, ⟨35, _⟩ => ⟨S2x1024x1024, .i32⟩
  | .hbm, ⟨36, _⟩ => ⟨S2x1024x1024, .i32⟩
  | .hbm, ⟨37, _⟩ => ⟨S2x1024x1024, .i1⟩
  | .hbm, ⟨38, _⟩ => ⟨S1x1024, .i32⟩
  | .hbm, ⟨39, _⟩ => ⟨S1024x1, .i32⟩
  | .hbm, ⟨40, _⟩ => ⟨S1024x1024, .i32⟩
  | .hbm, ⟨41, _⟩ => ⟨S1024x1024, .i32⟩
  | .hbm, ⟨42, _⟩ => ⟨S1024x1024, .i1⟩
  | .hbm, ⟨43, _⟩ => ⟨S1x1024x1024, .i1⟩
  | .hbm, ⟨44, _⟩ => ⟨S2x1024x1024, .i1⟩
  | .hbm, ⟨45, _⟩ => ⟨S2x1024x1024, .i1⟩
  | .hbm, ⟨46, _⟩ => ⟨S1x1024, .i32⟩
  | .hbm, ⟨47, _⟩ => ⟨S1024x1, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S1x1024x1024, .i1⟩
  | .hbm, ⟨52, _⟩ => ⟨S2x1024x1024, .i1⟩
  | .hbm, ⟨53, _⟩ => ⟨S2x1024x1024, .i1⟩
  | .hbm, ⟨54, _⟩ => ⟨S2x1x1024, .i1⟩
  | .hbm, ⟨55, _⟩ => ⟨S2x1x1024, .i1⟩
  | .hbm, ⟨56, _⟩ => ⟨S2x1024x1024, .i1⟩
  | .hbm, ⟨57, _⟩ => ⟨S2x1024x1024, .i1⟩
  | .hbm, ⟨58, _⟩ => ⟨S2x1x1024x1024, .f32⟩
  | .hbm, ⟨59, _⟩ => ⟨S2x1024x1024, .f32⟩
  | .hbm, ⟨60, _⟩ => ⟨S_, .f32⟩
  | .hbm, ⟨61, _⟩ => ⟨S2x1024x1024, .f32⟩
  | .hbm, ⟨62, _⟩ => ⟨S2x1024x1024, .f32⟩
  | .hbm, ⟨63, _⟩ => ⟨S_, .f32⟩
  | .hbm, ⟨64, _⟩ => ⟨S_, .f32⟩
  | .hbm, ⟨65, _⟩ => ⟨S2x1024x1024, .f32⟩
  | .hbm, ⟨66, _⟩ => ⟨S2x1024x1024, .f32⟩
  | .hbm, ⟨67, _⟩ => ⟨S_, .f32⟩
  | .hbm, ⟨68, _⟩ => ⟨S2x1024x1024, .f32⟩
  | .hbm, ⟨69, _⟩ => ⟨S2x1024x1024, .i1⟩
  | .hbm, ⟨70, _⟩ => ⟨S_, .f32⟩
  | .hbm, ⟨71, _⟩ => ⟨S_, .f32⟩
  | .hbm, ⟨72, _⟩ => ⟨S2x1024x1024, .f32⟩
  | .hbm, ⟨73, _⟩ => ⟨S2x1024x1024, .f32⟩
  | .hbm, ⟨74, _⟩ => ⟨S_, .f32⟩
  | .hbm, ⟨75, _⟩ => ⟨S2x1x1024, .f32⟩
  | .hbm, ⟨76, _⟩ => ⟨S2x1023x1024, .f32⟩
  | .hbm, ⟨77, _⟩ => ⟨S2x1024x1024, .f32⟩
  | .hbm, ⟨78, _⟩ => ⟨S_, .f32⟩
  | .hbm, ⟨79, _⟩ => ⟨S_, .f32⟩
  | .hbm, ⟨80, _⟩ => ⟨S2x1024x1024, .f32⟩
  | .hbm, ⟨81, _⟩ => ⟨S2x1x1024x1024, .i1⟩
  | .hbm, ⟨82, _⟩ => ⟨S2x1x1024x1024, .f32⟩
  | .hbm, ⟨83, _⟩ => ⟨S2x20x1024x1024, .f32⟩
  | .hbm, ⟨84, _⟩ => ⟨S2x20x1024x1024, .f32⟩
  | .hbm, ⟨85, _⟩ => ⟨S_, .f32⟩
  | .hbm, ⟨86, _⟩ => ⟨S_, .f32⟩
  | .hbm, ⟨87, _⟩ => ⟨S2x20x1024x1024, .i1⟩
  | .hbm, ⟨88, _⟩ => ⟨S2x20x1024x1024, .f32⟩
  | .hbm, ⟨89, _⟩ => ⟨S2x20x1024x1024, .f32⟩
  | .hbm, ⟨90, _⟩ => ⟨S_, .f32⟩
  | .hbm, ⟨91, _⟩ => ⟨S2x20x1024, .f32⟩
  | .hbm, ⟨92, _⟩ => ⟨S2x20x1024x1, .f32⟩
  | .hbm, ⟨93, _⟩ => ⟨S2x20x1024x1024, .f32⟩
  | .hbm, ⟨94, _⟩ => ⟨S2x20x1024x1024, .f32⟩
  | .hbm, ⟨95, _⟩ => ⟨S2x20x1024x1024, .f32⟩
  | .hbm, ⟨96, _⟩ => ⟨S_, .f32⟩
  | .hbm, ⟨97, _⟩ => ⟨S2x20x1024, .f32⟩
  | .hbm, ⟨98, _⟩ => ⟨S2x20x1024x1, .f32⟩
  | .hbm, ⟨99, _⟩ => ⟨S_, .f32⟩
  | .hbm, ⟨100, _⟩ => ⟨S2x20x1024x1, .f32⟩
  | .hbm, ⟨101, _⟩ => ⟨S2x20x1024x1, .f32⟩
  | .hbm, ⟨102, _⟩ => ⟨S2x20x1024x1024, .f32⟩
  | .hbm, ⟨103, _⟩ => ⟨S2x20x1024x1024, .f32⟩
  | .hbm, ⟨104, _⟩ => ⟨S2x20x1024, .f32⟩
  | .hbm, ⟨105, _⟩ => ⟨S2x20x1x1024, .f32⟩
  | .hbm, ⟨106, _⟩ => ⟨S2x20x1024x1024, .f32⟩
  | .hbm, ⟨107, _⟩ => ⟨S2x20x1024x1024, .f32⟩
  | .hbm, ⟨108, _⟩ => ⟨S2x20x1024x1024, .bf16⟩
  | .hbm, ⟨109, _⟩ => ⟨S2x20x128x1024, .f32⟩
  | .hbm, ⟨110, _⟩ => ⟨S2x1024x20x128, .f32⟩
  | .hbm, ⟨111, _⟩ => ⟨S2x1024x2560, .f32⟩
  | .hbm, ⟨112, _⟩ => ⟨S2x1024x2560, .bf16⟩
  | .hbm, ⟨113, _⟩ => ⟨S_, .f32⟩
  | .hbm, ⟨114, _⟩ => ⟨S2x1024, .f32⟩
  | .local _ .vmem, ⟨0, _⟩ => ⟨S2x1024x20x128, .fp8e4m3⟩
  | .local _ .vmem, ⟨1, _⟩ => ⟨S2x1024x20x128, .fp8e4m3⟩
  | .local _ .vmem, ⟨2, _⟩ => ⟨S2x1024x20x128, .fp8e4m3⟩
  | .local _ .vmem, ⟨3, _⟩ => ⟨S2x1024x20x128, .bf16⟩
  | .local _ .vmem, ⟨4, _⟩ => ⟨S2x1024x20x128, .bf16⟩
  | .local _ .vmem, ⟨5, _⟩ => ⟨S2x1024x20x128, .bf16⟩
  | _, _ => ⟨S2x1024x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_0 : Ref sig .tc := ⟨.hbm, 60, rfl⟩
abbrev main_v47 : Ref sig .tc := ⟨.hbm, 61, rfl⟩
abbrev main_v48 : Ref sig .tc := ⟨.hbm, 62, rfl⟩
abbrev main_cst_1 : Ref sig .tc := ⟨.hbm, 63, rfl⟩
abbrev main_call1_v0 : Ref sig .tc := ⟨.hbm, 64, rfl⟩
abbrev main_call1_v1 : Ref sig .tc := ⟨.hbm, 65, rfl⟩
abbrev main_v49 : Ref sig .tc := ⟨.hbm, 66, rfl⟩
abbrev main_cst_2 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_call2_v0 : Ref sig .tc := ⟨.hbm, 71, rfl⟩
abbrev main_call2_v1 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call3_call0_cst : Ref sig .tc := ⟨.hbm, 78, rfl⟩
abbrev main_call3_call0_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_5 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v61 : Ref sig .tc := ⟨.hbm, 89, rfl⟩
abbrev main_cst_6 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_v68 : Ref sig .tc := ⟨.hbm, 98, rfl⟩
abbrev main_cst_8 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1024x20x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x20x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x20x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x20x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x20x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Cuts.lean ====
/-
  The kernel body of `Kernel`, run symbolically: it is cut at its branches into stretches, each stretch is run once over
  buffers held whole, and the stretches are put together again (`body_run`). The inputs come back as they were; the
  results' staging buffers and the scratch buffers at some contents.
-/
module

public import proofs.«01_k».proof.Proof.Gen.Kernel.Skeleton
public import proofs.«01_k».proof.Proof.Gen.Kernel.Frame
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

open_calls r := cc0_selective_attention_skel [k0_part195, k0_part196]
cut_chain s := r at 2, 3, 12, 13, 14, 15, 16, 17, 18, 19, 20, 21

end Cert.Kernel.Body
-- ==== Proof.Kernel.Case8.lean ====
/-
  `Kernel`: the stretch of the body that handles 8 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 11 of the body: it runs, and leaves the buffers that it only reads as they were. -/
theorem s11_spec : over_args% (@s11 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s11
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Case7.lean ====
/-
  `Kernel`: the stretch of the body that handles 7 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 10 of the body: it runs, and leaves the buffers that it only reads as they were. -/
theorem s10_spec : over_args% (@s10 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s10
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Case6.lean ====
/-
  `Kernel`: the stretch of the body that handles 6 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 9 of the body: it runs, and leaves the buffers that it only reads as they were. -/
theorem s9_spec : over_args% (@s9 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s9
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Case5.lean ====
/-
  `Kernel`: the stretch of the body that handles 5 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 8 of the body: it runs, and leaves the buffers that it only reads as they were. -/
theorem s8_spec : over_args% (@s8 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s8
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Case4.lean ====
/-
  `Kernel`: the stretch of the body that handles 4 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 7 of the body: it runs, and leaves the buffers that it only reads as they were. -/
theorem s7_spec : over_args% (@s7 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s7
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Case3.lean ====
/-
  `Kernel`: the stretch of the body that handles 3 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 6 of the body: it runs, and leaves the buffers that it only reads as they were. -/
theorem s6_spec : over_args% (@s6 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s6
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Case2.lean ====
/-
  `Kernel`: the stretch of the body that handles 2 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 5 of the body: it runs, and leaves the buffers that it only reads as they were. -/
theorem s5_spec : over_args% (@s5 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s5
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Case1.lean ====
/-
  `Kernel`: the stretch of the body that handles 1 blocks of keys.
-/
module

public import proofs.«01_k».proof.Proof.Gen.Kernel.Skeleton
public import proofs.«01_k».proof.Proof.Kernel.Cuts
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 4 of the body: it runs, and leaves the buffers that it only reads as they were. -/
theorem s4_spec : over_args% (@s4 F _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((pt c arg2 f2 ∗ pt c arg3 f3 ∗ pt c arg4 f4 ∗ (∃ f, pt c arg10 f) ∗ pt c arg12 f12 ∗ pt c arg13 f13 ∗ pt c arg14 f14 ∗ pt c arg15 f15 ∗ pt c arg16 f16 ∗ (∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s4
  split_ifs
  · sl_exec_parts
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17
  · sl_exec
    iapply Hκ
    isplitl [H2]; · iexact H2
    isplitl [H3]; · iexact H3
    isplitl [H4]; · iexact H4
    isplitl [H10]; · iexists _; iexact H10
    isplitl [H12]; · iexact H12
    isplitl [H13]; · iexact H13
    isplitl [H14]; · iexact H14
    isplitl [H15]; · iexact H15
    isplitl [H16]; · iexact H16
    iexists _; iexact H17

end Cert.Kernel.Body
-- ==== Proof.Kernel.Check.lean ====
module

public import proofs.«01_k».proof.Proof.Gen.Kernel.Skeleton
public import Idealize.ShloMosaic.Lib.Tactic

/-!
The check a grid point makes before its eight cases: in the case of `n` blocks, the block of keys
starting at `(i + 1 - n) * 128` lies within the arrays.  `n` counts the query block itself and the
earlier blocks of its document, so `n ≤ i + 1`, whatever the documents are.
-/

@[expose] public section

open Idealize.ShloMosaic Idealize.SL

namespace Cert.Kernel.Body

/-- How many blocks of keys a query block reads: itself, and each earlier block whose bit is set. -/
def blocks (x : Fin 8) (e : Fin 7 → BitVec 1) : BitVec 32 :=
  let t (j : Fin 7) : BitVec 32 :=
    Scalar.extui (Scalar.andi (Scalar.cmpi .sgt (BitVec.ofNat 32 x.val) (BitVec.ofNat 32 j.val)) (e j))
  [0, 1, 2, 3, 4, 5, 6].foldl (fun s j => Scalar.addi s (t j)) 1#32

theorem blocks_le (x : Fin 8) (e : Fin 7 → BitVec 1) : (blocks x e).toNat ≤ x.val + 1 := by
  have h : ∀ (x : Fin 8) (e0 e1 e2 e3 e4 e5 e6 : BitVec 1),
      (blocks x ![e0, e1, e2, e3, e4, e5, e6]).toNat ≤ x.val + 1 := by decide +kernel
  have := h x (e 0) (e 1) (e 2) (e 3) (e 4) (e 5) (e 6)
  exact this

theorem test_eq {a b : BitVec 32}
    (h : Scalar.cmpi .ne (Scalar.extui (Scalar.cmpi .eq a b) : BitVec 32) 0#32 = 1#1) : a = b := by
  by_contra hne
  have : Scalar.cmpi .eq a b = 0#1 := by simp [Scalar.cmpi, IntOp.cmpi, beq_eq_false_iff_ne.mpr hne]
  rw [this] at h
  exact absurd h (by decide)

/-- The bits of the count: whether a block starts in the document of the query block. -/
def bitsOf (v11 v14 v21 v28 v35 v42 v49 v56 : BitVec 32) : Fin 7 → BitVec 1 :=
  ![Scalar.cmpi .eq v14 v11, Scalar.cmpi .eq v21 v11, Scalar.cmpi .eq v28 v11,
    Scalar.cmpi .eq v35 v11, Scalar.cmpi .eq v42 v11, Scalar.cmpi .eq v49 v11,
    Scalar.cmpi .eq v56 v11]

theorem cond4_blocks {i : grid0.Coords} {v11 v14 v21 v28 v35 v42 v49 v56 : BitVec 32}
    (h : k0_cond4 i v11 v14 v21 v28 v35 v42 v49 v56 = 1#1) :
    blocks (i 1) (bitsOf v11 v14 v21 v28 v35 v42 v49 v56) = 2#32 := test_eq h

theorem cond4_le {i : grid0.Coords} {v11 v14 v21 v28 v35 v42 v49 v56 : BitVec 32}
    (h : k0_cond4 i v11 v14 v21 v28 v35 v42 v49 v56 = 1#1) : 1 ≤ (i 1).val := by
  have := blocks_le (i 1) (bitsOf v11 v14 v21 v28 v35 v42 v49 v56)
  rw [cond4_blocks h] at this
  exact Nat.le_of_succ_le_succ this

theorem cond5_blocks {i : grid0.Coords} {v11 v14 v21 v28 v35 v42 v49 v56 : BitVec 32}
    (h : k0_cond5 i v11 v14 v21 v28 v35 v42 v49 v56 = 1#1) :
    blocks (i 1) (bitsOf v11 v14 v21 v28 v35 v42 v49 v56) = 3#32 := test_eq h

theorem cond5_le {i : grid0.Coords} {v11 v14 v21 v28 v35 v42 v49 v56 : BitVec 32}
    (h : k0_cond5 i v11 v14 v21 v28 v35 v42 v49 v56 = 1#1) : 2 ≤ (i 1).val := by
  have := blocks_le (i 1) (bitsOf v11 v14 v21 v28 v35 v42 v49 v56)
  rw [cond5_blocks h] at this
  exact Nat.le_of_succ_le_succ this

theorem cond6_blocks {i : grid0.Coords} {v11 v14 v21 v28 v35 v42 v49 v56 : BitVec 32}
    (h : k0_cond6 i v11 v14 v21 v28 v35 v42 v49 v56 = 1#1) :
    blocks (i 1) (bitsOf v11 v14 v21 v28 v35 v42 v49 v56) = 4#32 := test_eq h

theorem cond6_le {i : grid0.Coords} {v11 v14 v21 v28 v35 v42 v49 v56 : BitVec 32}
    (h : k0_cond6 i v11 v14 v21 v28 v35 v42 v49 v56 = 1#1) : 3 ≤ (i 1).val := by
  have := blocks_le (i 1) (bitsOf v11 v14 v21 v28 v35 v42 v49 v56)
  rw [cond6_blocks h] at this
  exact Nat.le_of_succ_le_succ this

theorem cond7_blocks {i : grid0.Coords} {v11 v14 v21 v28 v35 v42 v49 v56 : BitVec 32}
    (h : k0_cond7 i v11 v14 v21 v28 v35 v42 v49 v56 = 1#1) :
    blocks (i 1) (bitsOf v11 v14 v21 v28 v35 v42 v49 v56) = 5#32 := test_eq h

theorem cond7_le {i : grid0.Coords} {v11 v14 v21 v28 v35 v42 v49 v56 : BitVec 32}
    (h : k0_cond7 i v11 v14 v21 v28 v35 v42 v49 v56 = 1#1) : 4 ≤ (i 1).val := by
  have := blocks_le (i 1) (bitsOf v11 v14 v21 v28 v35 v42 v49 v56)
  rw [cond7_blocks h] at this
  exact Nat.le_of_succ_le_succ this

theorem cond8_blocks {i : grid0.Coords} {v11 v14 v21 v28 v35 v42 v49 v56 : BitVec 32}
    (h : k0_cond8 i v11 v14 v21 v28 v35 v42 v49 v56 = 1#1) :
    blocks (i 1) (bitsOf v11 v14 v21 v28 v35 v42 v49 v56) = 6#32 := test_eq h

theorem cond8_le {i : grid0.Coords} {v11 v14 v21 v28 v35 v42 v49 v56 : BitVec 32}
    (h : k0_cond8 i v11 v14 v21 v28 v35 v42 v49 v56 = 1#1) : 5 ≤ (i 1).val := by
  have := blocks_le (i 1) (bitsOf v11 v14 v21 v28 v35 v42 v49 v56)
  rw [cond8_blocks h] at this
  exact Nat.le_of_succ_le_succ this

theorem cond9_blocks {i : grid0.Coords} {v11 v14 v21 v28 v35 v42 v49 v56 : BitVec 32}
    (h : k0_cond9 i v11 v14 v21 v28 v35 v42 v49 v56 = 1#1) :
    blocks (i 1) (bitsOf v11 v14 v21 v28 v35 v42 v49 v56) = 7#32 := test_eq h

theorem cond9_le {i : grid0.Coords} {v11 v14 v21 v28 v35 v42 v49 v56 : BitVec 32}
    (h : k0_cond9 i v11 v14 v21 v28 v35 v42 v49 v56 = 1#1) : 6 ≤ (i 1).val := by
  have := blocks_le (i 1) (bitsOf v11 v14 v21 v28 v35 v42 v49 v56)
  rw [cond9_blocks h] at this
  exact Nat.le_of_succ_le_succ this

theorem cond10_blocks {i : grid0.Coords} {v11 v14 v21 v28 v35 v42 v49 v56 : BitVec 32}
    (h : k0_cond10 i v11 v14 v21 v28 v35 v42 v49 v56 = 1#1) :
    blocks (i 1) (bitsOf v11 v14 v21 v28 v35 v42 v49 v56) = 8#32 := test_eq h

theorem cond10_le {i : grid0.Coords} {v11 v14 v21 v28 v35 v42 v49 v56 : BitVec 32}
    (h : k0_cond10 i v11 v14 v21 v28 v35 v42 v49 v56 = 1#1) : 7 ≤ (i 1).val := by
  have := blocks_le (i 1) (bitsOf v11 v14 v21 v28 v35 v42 v49 v56)
  rw [cond10_blocks h] at this
  exact Nat.le_of_succ_le_succ this

attribute [local irreducible] k0_cond4 k0_cond5 k0_cond6 k0_cond7 k0_cond8 k0_cond9 k0_cond10

theorem chk0_all (i : grid0.Coords) (v11 v14 v21 v28 v35 v42 v49 v56 : BitVec 32) :
    k0_chk1_0 i v11 v14 v21 v28 v35 v42 v49 v56 := by
  unfold k0_chk1_0
  repeat' apply And.intro
  all_goals
    intro h
    replace h := cond4_le h
    clear v11 v14 v21 v28 v35 v42 v49 v56
    revert i
    decide +kernel

theorem chk1_all (i : grid0.Coords) (v11 v14 v21 v28 v35 v42 v49 v56 : BitVec 32) :
    k0_chk1_1 i v11 v14 v21 v28 v35 v42 v49 v56 := by
  unfold k0_chk1_1
  repeat' apply And.intro
  all_goals
    intro h
    first | replace h := cond4_le h | replace h := cond5_le h
    clear v11 v14 v21 v28 v35 v42 v49 v56
    revert i
    decide +kernel

theorem chk2_all (i : grid0.Coords) (v11 v14 v21 v28 v35 v42 v49 v56 : BitVec 32) :
    k0_chk1_2 i v11 v14 v21 v28 v35 v42 v49 v56 := by
  unfold k0_chk1_2
  repeat' apply And.intro
  all_goals
    intro h
    first | replace h := cond5_le h | replace h := cond6_le h
    clear v11 v14 v21 v28 v35 v42 v49 v56
    revert i
    decide +kernel

theorem chk3_all (i : grid0.Coords) (v11 v14 v21 v28 v35 v42 v49 v56 : BitVec 32) :
    k0_chk1_3 i v11 v14 v21 v28 v35 v42 v49 v56 := by
  unfold k0_chk1_3
  repeat' apply And.intro
  all_goals
    intro h
    first | replace h := cond6_le h | replace h := cond7_le h
    clear v11 v14 v21 v28 v35 v42 v49 v56
    revert i
    decide +kernel

theorem chk4_all (i : grid0.Coords) (v11 v14 v21 v28 v35 v42 v49 v56 : BitVec 32) :
    k0_chk1_4 i v11 v14 v21 v28 v35 v42 v49 v56 := by
  unfold k0_chk1_4
  repeat' apply And.intro
  all_goals
    intro h
    replace h := cond7_le h
    clear v11 v14 v21 v28 v35 v42 v49 v56
    revert i
    decide +kernel

theorem chk5_all (i : grid0.Coords) (v11 v14 v21 v28 v35 v42 v49 v56 : BitVec 32) :
    k0_chk1_5 i v11 v14 v21 v28 v35 v42 v49 v56 := by
  unfold k0_chk1_5
  repeat' apply And.intro
  all_goals
    intro h
    first | replace h := cond7_le h | replace h := cond8_le h
    clear v11 v14 v21 v28 v35 v42 v49 v56
    revert i
    decide +kernel

theorem chk6_all (i : grid0.Coords) (v11 v14 v21 v28 v35 v42 v49 v56 : BitVec 32) :
    k0_chk1_6 i v11 v14 v21 v28 v35 v42 v49 v56 := by
  unfold k0_chk1_6
  repeat' apply And.intro
  all_goals
    intro h
    first | replace h := cond8_le h | replace h := cond9_le h
    clear v11 v14 v21 v28 v35 v42 v49 v56
    revert i
    decide +kernel

theorem chk7_all (i : grid0.Coords) (v11 v14 v21 v28 v35 v42 v49 v56 : BitVec 32) :
    k0_chk1_7 i v11 v14 v21 v28 v35 v42 v49 v56 := by
  unfold k0_chk1_7
  repeat' apply And.intro
  all_goals
    intro h
    first | replace h := cond9_le h | replace h := cond10_le h
    clear v11 v14 v21 v28 v35 v42 v49 v56
    revert i
    decide +kernel

theorem chk8_all (i : grid0.Coords) (v11 v14 v21 v28 v35 v42 v49 v56 : BitVec 32) :
    k0_chk1_8 i v11 v14 v21 v28 v35 v42 v49 v56 := by
  unfold k0_chk1_8
  repeat' apply And.intro
  all_goals
    intro h
    replace h := cond10_le h
    clear v11 v14 v21 v28 v35 v42 v49 v56
    revert i
    decide +kernel

theorem chk9_all (i : grid0.Coords) (v11 v14 v21 v28 v35 v42 v49 v56 : BitVec 32) :
    k0_chk1_9 i v11 v14 v21 v28 v35 v42 v49 v56 := by
  unfold k0_chk1_9
  repeat' apply And.intro
  all_goals
    intro h
    replace h := cond10_le h
    clear v11 v14 v21 v28 v35 v42 v49 v56
    revert i
    decide +kernel

/-- The check holds for every document. -/
theorem chk_all (i : grid0.Coords) (v11 v14 v21 v28 v35 v42 v49 v56 : BitVec 32) :
    k0_chk1 i v11 v14 v21 v28 v35 v42 v49 v56 :=
  ⟨chk0_all i v11 v14 v21 v28 v35 v42 v49 v56, chk1_all i v11 v14 v21 v28 v35 v42 v49 v56, chk2_all i v11 v14 v21 v28 v35 v42 v49 v56, chk3_all i v11 v14 v21 v28 v35 v42 v49 v56, chk4_all i v11 v14 v21 v28 v35 v42 v49 v56, chk5_all i v11 v14 v21 v28 v35 v42 v49 v56, chk6_all i v11 v14 v21 v28 v35 v42 v49 v56, chk7_all i v11 v14 v21 v28 v35 v42 v49 v56, chk8_all i v11 v14 v21 v28 v35 v42 v49 v56, chk9_all i v11 v14 v21 v28 v35 v42 v49 v56⟩

end Cert.Kernel.Body
-- ==== Proof.Kernel.Edges.lean ====
/-
  `Kernel`: the stretches of the body before and after the eight cases.
-/
module

public import proofs.«01_k».proof.Proof.Gen.Kernel.Skeleton
public import proofs.«01_k».proof.Proof.Kernel.Cuts
public import proofs.«01_k».proof.Proof.Kernel.Check
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- Stretch 1 of the body: it runs, and leaves the buffers that it only reads as they were. -/
theorem s1_spec : over_args% (@s1 F) as prog => ∀ (c : Dev nD) (f5 : Bf (F := F) c arg5) (f6 : Bf (F := F) c arg6) (f7 : Bf (F := F) c arg7) (f8 : Bf (F := F) c arg8) (f12 : Bf (F := F) c arg12) (f13 : Bf (F := F) c arg13) (f14 : Bf (F := F) c arg14) (f15 : Bf (F := F) c arg15) (f16 : Bf (F := F) c arg16) {Q : R → sProp 𝕄},
    iprop(pt c arg5 f5 ∗ pt c arg6 f6 ∗ pt c arg7 f7 ∗ pt c arg8 f8 ∗ pt c arg12 f12 ∗ pt c arg13 f13 ∗ pt c arg14 f14 ∗ pt c arg15 f15 ∗ pt c arg16 f16)
    ⊢ iprop(((pt c arg5 f5 ∗ pt c arg6 f6 ∗ pt c arg7 f7 ∗ pt c arg8 f8 ∗ (∃ f, pt c arg12 f) ∗ (∃ f, pt c arg13 f) ∗ (∃ f, pt c arg14 f) ∗ (∃ f, pt c arg15 f) ∗ (∃ f, pt c arg16 f))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H5, H6, H7, H8, H12, H13, H14, H15, H16⟩ Hκ
  unfold s1
  split_ifs
  · sl_exec_parts
    iapply Hκ
    isplitl [H5]; · iexact H5
    isplitl [H6]; · iexact H6
    isplitl [H7]; · iexact H7
    isplitl [H8]; · iexact H8
    isplitl [H12]; · iexists _; iexact H12
    isplitl [H13]; · iexists _; iexact H13
    isplitl [H14]; · iexists _; iexact H14
    isplitl [H15]; · iexists _; iexact H15
    iexists _; iexact H16
  · sl_exec
    iapply Hκ
    isplitl [H5]; · iexact H5
    isplitl [H6]; · iexact H6
    isplitl [H7]; · iexact H7
    isplitl [H8]; · iexact H8
    isplitl [H12]; · iexists _; iexact H12
    isplitl [H13]; · iexists _; iexact H13
    isplitl [H14]; · iexists _; iexact H14
    isplitl [H15]; · iexists _; iexact H15
    iexists _; iexact H16

/-- Stretch 2 of the body: it runs, and leaves the buffers that it only reads as they were. -/
theorem s2_spec : over_args% (@s2 F _) as prog => ∀ (c : Dev nD) (f17 : Bf (F := F) c arg17) {Q : R → sProp 𝕄},
    iprop(pt c arg17 f17)
    ⊢ iprop((((∃ f, pt c arg17 f))
        -∗ wp frame (wpE (defs₀ (F := F)) Variants.none (c : Thread nD τ) none) Set.univ κ Q)
      -∗ wp frame (wpE (defs₀ (F := F)) Variants.none (c : Thread nD τ) none) Set.univ prog Q) := by
  intro_named
  iintro H17 Hκ
  unfold s2
  split_ifs
  · sl_exec_parts
    iapply Hκ
    iexists _; iexact H17
  · sl_exec
    iapply Hκ
    iexists _; iexact H17

/-- Stretch 3 of the body: it runs, and leaves the buffers that it only reads as they were. -/
theorem s3_spec : over_args% (@s3 F) as prog => ∀ (c : Dev nD) (f9 : Bf (F := F) c arg9) {Q : R → sProp 𝕄},
    iprop(pt c arg9 f9)
    ⊢ iprop((over_outs% κ as next => (pt c arg9 f9)
        -∗ wp frame (wpE (defs₀ (F := F)) Variants.none (c : Thread nD τ) none) Set.univ next Q)
      -∗ wp frame (wpE (defs₀ (F := F)) Variants.none (c : Thread nD τ) none) Set.univ prog Q) := by
  intro_named
  iintro H9 Hκ
  unfold s3
  have hchk := chk_all i
  sl_exec
  iapply Hκ
  iexact H9

/-- Stretch 12 of the body: it runs, and leaves the buffers that it only reads as they were. -/
theorem s12_spec : over_args% (@s12 F) as prog => ∀ (c : Dev nD) (f11 : Bf (F := F) c arg11) (f17 : Bf (F := F) c arg17) {Q : R → sProp 𝕄},
    iprop(pt c arg11 f11 ∗ pt c arg17 f17)
    ⊢ iprop((((∃ f, pt c arg11 f) ∗ pt c arg17 f17)
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H11, H17⟩ Hκ
  unfold s12
  split_ifs
  · sl_exec_parts
    iapply Hκ
    isplitl [H11]; · iexists _; iexact H11
    iexact H17
  · sl_exec
    iapply Hκ
    isplitl [H11]; · iexists _; iexact H11
    iexact H17

/-- Stretch 13 of the body: it runs, and leaves the buffers that it only reads as they were. -/
theorem s13_spec : over_args% (@s13 F) as prog => ∀ (c : Dev nD) (f11 : Bf (F := F) c arg11) (f17 : Bf (F := F) c arg17) {Q : R → sProp 𝕄},
    iprop(pt c arg11 f11 ∗ pt c arg17 f17)
    ⊢ iprop((((∃ f, pt c arg11 f) ∗ pt c arg17 f17)
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H11, H17⟩ Hκ
  unfold s13
  split_ifs
  · sl_exec_parts
    iapply Hκ
    isplitl [H11]; · iexists _; iexact H11
    iexact H17
  · sl_exec
    iapply Hκ
    isplitl [H11]; · iexists _; iexact H11
    iexact H17

end Cert.Kernel.Body
-- ==== Proof.Kernel.Body.lean ====
/-
  `Kernel`: the kernel body put together from its stretches.
-/
module

public import proofs.«01_k».proof.Proof.Gen.Kernel.Skeleton
public import proofs.«01_k».proof.Proof.Kernel.Cuts
public import proofs.«01_k».proof.Proof.Kernel.Case8
public import proofs.«01_k».proof.Proof.Kernel.Case7
public import proofs.«01_k».proof.Proof.Kernel.Case6
public import proofs.«01_k».proof.Proof.Kernel.Case5
public import proofs.«01_k».proof.Proof.Kernel.Case4
public import proofs.«01_k».proof.Proof.Kernel.Case3
public import proofs.«01_k».proof.Proof.Kernel.Case2
public import proofs.«01_k».proof.Proof.Kernel.Case1
public import proofs.«01_k».proof.Proof.Kernel.Edges
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

/-- The whole body: it runs, leaving its inputs as they were. -/
theorem body_run (c : Dev nD) (i : grid0.Coords) (arg2 : Memref sig .tc .vmem S1x20x128x128 .fp8e4m3) (harg2 : arg2.IsWhole) (arg3 : Memref sig .tc .vmem S1x20x1024x128 .fp8e4m3) (harg3 : arg3.IsWhole) (arg4 : Memref sig .tc .vmem S1x20x1024x128 .fp8e4m3) (harg4 : arg4.IsWhole) (arg5 : Memref sig .tc .vmem S20x2x1024 .f32) (harg5 : arg5.IsWhole) (arg6 : Memref sig .tc .vmem S20x2x1024 .f32) (harg6 : arg6.IsWhole) (arg7 : Memref sig .tc .vmem S20x2x1024 .f32) (harg7 : arg7.IsWhole) (arg8 : Memref sig .tc .vmem S2x1024 .i32) (harg8 : arg8.IsWhole) (arg9 : Memref sig .tc .smem S2x1024 .i32) (harg9 : arg9.IsWhole) (arg10 : Memref sig .tc .vmem S1x128x2560 .bf16) (harg10 : arg10.IsWhole) (arg11 : Memref sig .tc .vmem S2x1024 .f32) (harg11 : arg11.IsWhole) (arg12 : Memref sig .tc .vmem S2x20x1024 .f32) (harg12 : arg12.IsWhole) (arg13 : Memref sig .tc .vmem S2x20x1024 .f32) (harg13 : arg13.IsWhole) (arg14 : Memref sig .tc .vmem S2x20x1024 .f32) (harg14 : arg14.IsWhole) (arg15 : Memref sig .tc .vmem S2x8x1024 .i32) (harg15 : arg15.IsWhole) (arg16 : Memref sig .tc .vmem S2x8x1024 .i32) (harg16 : arg16.IsWhole) (arg17 : Memref sig .tc .vmem S8x1024 .f32) (harg17 : arg17.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17
      ∗ ((pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f)) -∗ Q ⟨⟩))
    ⊢ wp frame (wpE (defs₀ (F := F)) Variants.none (c : Thread nD τ) none) Set.univ (cc0_selective_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  iintro ⟨H2, H3, H4, H5, H6, H7, H8, H9, H10, H11, H12, H13, H14, H15, H16, H17, Hk⟩
  rw [cc0_selective_attention_eq_skeleton, r.eq, s1.eq]
  iapply (s1_spec (c := c)) $$ [H5 H6 H7 H8 H12 H13 H14 H15 H16]
  · isplitl [H5]; · iexact H5
    isplitl [H6]; · iexact H6
    isplitl [H7]; · iexact H7
    isplitl [H8]; · iexact H8
    isplitl [H12]; · iexact H12
    isplitl [H13]; · iexact H13
    isplitl [H14]; · iexact H14
    isplitl [H15]; · iexact H15
    iexact H16
  iintro ⟨H5, H6, H7, H8, ⟨%g12_1, H12⟩, ⟨%g13_1, H13⟩, ⟨%g14_1, H14⟩, ⟨%g15_1, H15⟩, ⟨%g16_1, H16⟩⟩
  rw [s2.eq]
  iapply (s2_spec (c := c)) $$ [H17]
  · iexact H17
  iintro ⟨%g17_2, H17⟩
  rw [s3.eq]
  iapply (s3_spec (c := c)) $$ [H9]
  · iexact H9
  iintro %v11 %v14 %v21 %v28 %v35 %v42 %v49 %v56 %hw H9
  rw [s4.eq]
  iapply (s4_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_4, H10⟩, H12, H13, H14, H15, H16, ⟨%g17_4, H17⟩⟩
  rw [s5.eq]
  iapply (s5_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_5, H10⟩, H12, H13, H14, H15, H16, ⟨%g17_5, H17⟩⟩
  rw [s6.eq]
  iapply (s6_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_6, H10⟩, H12, H13, H14, H15, H16, ⟨%g17_6, H17⟩⟩
  rw [s7.eq]
  iapply (s7_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_7, H10⟩, H12, H13, H14, H15, H16, ⟨%g17_7, H17⟩⟩
  rw [s8.eq]
  iapply (s8_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_8, H10⟩, H12, H13, H14, H15, H16, ⟨%g17_8, H17⟩⟩
  rw [s9.eq]
  iapply (s9_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_9, H10⟩, H12, H13, H14, H15, H16, ⟨%g17_9, H17⟩⟩
  rw [s10.eq]
  iapply (s10_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_10, H10⟩, H12, H13, H14, H15, H16, ⟨%g17_10, H17⟩⟩
  rw [s11.eq]
  iapply (s11_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨H2, H3, H4, ⟨%g10_11, H10⟩, H12, H13, H14, H15, H16, ⟨%g17_11, H17⟩⟩
  rw [s12.eq]
  iapply (s12_spec (c := c)) $$ [H11 H17]
  · isplitl [H11]; · iexact H11
    iexact H17
  iintro ⟨⟨%g11_12, H11⟩, H17⟩
  rw [s13.eq]
  iapply (s13_spec (c := c)) $$ [H11 H17]
  · isplitl [H11]; · iexact H11
    iexact H17
  iintro ⟨⟨%g11_13, H11⟩, H17⟩
  unfold s13.tail
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Kernel.Body
-- ==== Proof.Kernel.Run.lean ====
/-
  `Kernel`: the run of the whole program. Two windows share the array of documents, and the second result is written at
  some grid points only, so the proof data is relational: the body leaves each input's buffer as found and each
  output's at something. The run ends with the arguments as they were and every semaphore at zero (`frame`).
-/
module

public import proofs.«01_k».proof.Proof.Gen.Kernel.Skeleton
public import proofs.«01_k».proof.Proof.Kernel.Body
public import Idealize.ShloMosaic.Lib.Pipeline.Frame
public import Idealize.ShloMosaic.Lib.Pipeline.FrameBody
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

omit [FloatOps F] in
theorem own_open (c : Dev nD) {sp : Space} {S : Shape} {e : EltTy} {M : Memref sig .tc sp S e} (h : M.IsWhole)
    (X : S.Idx → Elt F e) :
    (owns (c : Thread nD τ) M fullShare X : sProp 𝕄) ⊢ iprop(∃ f : Bf (F := F) c M, ⌜M.view.read (Elt F) f = X⌝ ∗ pt c M f) := by
  unfold owns
  rw [h.set_eq_univ]

omit [FloatOps F] in
theorem own_close (c : Dev nD) {sp : Space} {S : Shape} {e : EltTy} {M : Memref sig .tc sp S e} (h : M.IsWhole)
    (f : Bf (F := F) c M) {X : S.Idx → Elt F e} (hX : M.view.read (Elt F) f = X) :
    (pt c M f : sProp 𝕄) ⊢ owns (c : Thread nD τ) M fullShare X := by
  unfold owns
  rw [h.set_eq_univ]
  iintro H
  iexists f
  isplitr
  · ipureintro; exact hX
  iexact H

/-- The proof data on core `c`: the arrays as the region finds them; the body leaves an input's buffer as found and
    an output's at something; the invariant is the scratch buffers at something. -/
def rdat (c : Dev nD) : RDat τ (Elt F) Unit ℕ (UR sig nD τ) ℕ cfg0 c where
  A w := V m c (Pipeline.arrRef spec0 w)
  after w _ Y X := (cfg0.win w).isOut = false → X = Y
  Φ _ := Pipeline.ΦA spec0 c
  q w := Pipeline.shareOf spec0 w
  owed _ := 0

set_option maxHeartbeats 1000000 in
/-- The body at any point, on the buffers the pipeline hands it. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
      ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))
    ⊢ wp frame (wpE (defs₀ (F := F)) Variants.none (c : Thread nD τ) none) Set.univ (bodyAt0 t) fun _ =>
      iprop((rdat m c).Φ t.succ ∗ (rdat m c).owesAt () t.succ
      ∗ (∃ X, ⌜(rdat m c).after 0 t (Y 0) X⌝ ∗ owns (c : Thread nD τ) (st0_0 t) fullShare (X)) ∗ (∃ X, ⌜(rdat m c).after 1 t (Y 1) X⌝ ∗ owns (c : Thread nD τ) (st0_1 t) fullShare (X)) ∗ (∃ X, ⌜(rdat m c).after 2 t (Y 2) X⌝ ∗ owns (c : Thread nD τ) (st0_2 t) fullShare (X)) ∗ (∃ X, ⌜(rdat m c).after 3 t (Y 3) X⌝ ∗ owns (c : Thread nD τ) (st0_3 t) fullShare (X)) ∗ (∃ X, ⌜(rdat m c).after 4 t (Y 4) X⌝ ∗ owns (c : Thread nD τ) (st0_4 t) fullShare (X)) ∗ (∃ X, ⌜(rdat m c).after 5 t (Y 5) X⌝ ∗ owns (c : Thread nD τ) (st0_5 t) fullShare (X)) ∗ (∃ X, ⌜(rdat m c).after 6 t (Y 6) X⌝ ∗ owns (c : Thread nD τ) (st0_6 t) fullShare (X)) ∗ (∃ X, ⌜(rdat m c).after 7 t (Y 7) X⌝ ∗ owns (c : Thread nD τ) (st0_7 t) fullShare (X)) ∗ (∃ X, ⌜(rdat m c).after 8 t (Y 8) X⌝ ∗ owns (c : Thread nD τ) (st0_8 t) fullShare (X)) ∗ (∃ X, ⌜(rdat m c).after 9 t (Y 9) X⌝ ∗ owns (c : Thread nD τ) (st0_9 t) fullShare (X))) := by
  rw [show (rdat m c).owesAt () t.succ = (rdat m c).owesAt () t.castSucc from rfl,
    show (rdat m c).Φ t.castSucc = Pipeline.ΦA spec0 c from rfl, show (rdat m c).Φ t.succ = Pipeline.ΦA spec0 c from rfl]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩⟩, Hg⟩, Howes, H0, H1, H2, H3, H4, H5, H6, H7, H8, H9⟩
  ihave H0 := own_open c (M := st0_0 t) (hstage0_0 ((cfg0.slots t 0).cast nbuf0_0)) (Y 0) $$ H0
  icases H0 with ⟨%f0, %hf0, H0⟩
  ihave H1 := own_open c (M := st0_1 t) (hstage0_1 ((cfg0.slots t 1).cast nbuf0_1)) (Y 1) $$ H1
  icases H1 with ⟨%f1, %hf1, H1⟩
  ihave H2 := own_open c (M := st0_2 t) (hstage0_2 ((cfg0.slots t 2).cast nbuf0_2)) (Y 2) $$ H2
  icases H2 with ⟨%f2, %hf2, H2⟩
  ihave H3 := own_open c (M := st0_3 t) (hstage0_3 ((cfg0.slots t 3).cast nbuf0_3)) (Y 3) $$ H3
  icases H3 with ⟨%f3, %hf3, H3⟩
  ihave H4 := own_open c (M := st0_4 t) (hstage0_4 ((cfg0.slots t 4).cast nbuf0_4)) (Y 4) $$ H4
  icases H4 with ⟨%f4, %hf4, H4⟩
  ihave H5 := own_open c (M := st0_5 t) (hstage0_5 ((cfg0.slots t 5).cast nbuf0_5)) (Y 5) $$ H5
  icases H5 with ⟨%f5, %hf5, H5⟩
  ihave H6 := own_open c (M := st0_6 t) (hstage0_6 ((cfg0.slots t 6).cast nbuf0_6)) (Y 6) $$ H6
  icases H6 with ⟨%f6, %hf6, H6⟩
  ihave H7 := own_open c (M := st0_7 t) (hstage0_7 ((cfg0.slots t 7).cast nbuf0_7)) (Y 7) $$ H7
  icases H7 with ⟨%f7, %hf7, H7⟩
  ihave H8 := own_open c (M := st0_8 t) (hstage0_8 ((cfg0.slots t 8).cast nbuf0_8)) (Y 8) $$ H8
  icases H8 with ⟨%f8, %hf8, H8⟩
  ihave H9 := own_open c (M := st0_9 t) (hstage0_9 ((cfg0.slots t 9).cast nbuf0_9)) (Y 9) $$ H9
  icases H9 with ⟨%f9, %hf9, H9⟩
  unfold bodyAt0
  iapply (body_run (c := c))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, ⟨%g8, H8⟩, ⟨%g9, H9⟩, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    · iexact Hg
  isplitl [Howes]; · iexact Howes
  isplitl [H0]
  · iexists (Y 0); isplitr; (· ipureintro; exact fun _ => rfl); iapply (own_close c (M := st0_0 t) (hstage0_0 ((cfg0.slots t 0).cast nbuf0_0)) f0 hf0); iexact H0
  isplitl [H1]
  · iexists (Y 1); isplitr; (· ipureintro; exact fun _ => rfl); iapply (own_close c (M := st0_1 t) (hstage0_1 ((cfg0.slots t 1).cast nbuf0_1)) f1 hf1); iexact H1
  isplitl [H2]
  · iexists (Y 2); isplitr; (· ipureintro; exact fun _ => rfl); iapply (own_close c (M := st0_2 t) (hstage0_2 ((cfg0.slots t 2).cast nbuf0_2)) f2 hf2); iexact H2
  isplitl [H3]
  · iexists (Y 3); isplitr; (· ipureintro; exact fun _ => rfl); iapply (own_close c (M := st0_3 t) (hstage0_3 ((cfg0.slots t 3).cast nbuf0_3)) f3 hf3); iexact H3
  isplitl [H4]
  · iexists (Y 4); isplitr; (· ipureintro; exact fun _ => rfl); iapply (own_close c (M := st0_4 t) (hstage0_4 ((cfg0.slots t 4).cast nbuf0_4)) f4 hf4); iexact H4
  isplitl [H5]
  · iexists (Y 5); isplitr; (· ipureintro; exact fun _ => rfl); iapply (own_close c (M := st0_5 t) (hstage0_5 ((cfg0.slots t 5).cast nbuf0_5)) f5 hf5); iexact H5
  isplitl [H6]
  · iexists (Y 6); isplitr; (· ipureintro; exact fun _ => rfl); iapply (own_close c (M := st0_6 t) (hstage0_6 ((cfg0.slots t 6).cast nbuf0_6)) f6 hf6); iexact H6
  isplitl [H7]
  · iexists (Y 7); isplitr; (· ipureintro; exact fun _ => rfl); iapply (own_close c (M := st0_7 t) (hstage0_7 ((cfg0.slots t 7).cast nbuf0_7)) f7 hf7); iexact H7
  isplitl [H8]
  · iexists _; isplitr; swap; (· iapply (own_close c (M := st0_8 t) (hstage0_8 ((cfg0.slots t 8).cast nbuf0_8)) g8 rfl); iexact H8); ipureintro; exact fun h => absurd h Bool.noConfusion
  iexists _; isplitr; swap; (· iapply (own_close c (M := st0_9 t) (hstage0_9 ((cfg0.slots t 9).cast nbuf0_9)) g9 rfl); iexact H9); ipureintro; exact fun h => absurd h Bool.noConfusion

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y _ => by
  rw [bigSep_W0, bigSep_W0, defs₀_row]
  exact triple_restated (sound_body m c t Y) rfl .rfl fun _ => .rfl

theorem A_eq (c : Dev nD) (w : Fin cfg0.W) : (rdat m c).A w = V m c (Pipeline.arrRef spec0 w) := by
  dsimp only [rdat]

set_option backward.isDefEq.respectTransparency.types false in
set_option maxHeartbeats 800000 in
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared cfgs (0 : Fin 1) launch₀0 defs₀ Variants.none (rdat m) m ρ main
    (hbody := body_obligation m) (hq := fun _ _ _ => rfl) (howed := fun _ _ => rfl) (V := V m)
    (hmain := hmain m Variants.none) (hA := A_eq m) (hin := fun _ => .rfl) (hout := fun _ => .rfl)
    (Q' := _) (hQ' := fun _ h => h)

/-- What a final state of the run holds in the arguments. -/
theorem args_of {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 6 rfl).trans ((A_eq m c 6).trans (V_main_arg6 m c))⟩

/-- The frame: every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_of m h.1, h.2⟩) (run_main m ρ)

end Cert.Kernel.Body

end
-- ==== Proof.KernelIdeal.Cuts.lean ====
/-
  The kernel body of `KernelIdeal`, run symbolically: it is cut at its branches into stretches, each stretch is run once over
  buffers held whole, and the stretches are put together again (`body_run`). The inputs come back as they were; the
  results' staging buffers and the scratch buffers at some contents.
-/
module

public import proofs.«01_k».proof.Proof.Gen.KernelIdeal.Skeleton
public import proofs.«01_k».proof.Proof.Gen.KernelIdeal.Frame
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

open_calls r := cc0_selective_attention_skel [k0_part195, k0_part196]
cut_chain s := r at 2, 3, 12, 13, 14, 15, 16, 17, 18, 19, 20, 21

end Cert.KernelIdeal.Body
-- ==== Proof.KernelIdeal.Generic.lean ====
/-
  `KernelIdeal`: the arithmetic of one block of queries against the last `w` keys, at any width `w`.

  The kernel states this arithmetic eight times, at the widths 128, 256, …, 1024. Here it is stated once, so that
  its values are proved once.
-/
module

public import proofs.«01_k».proof.Proof.Gen.KernelIdeal.Skeleton
public import Idealize.ShloMosaic.Lib.Pipeline.FrameBody
public import Idealize.ShloMosaic.Lib.WritesUnit

@[expose] public section

noncomputable section

namespace Cert.KernelIdeal.Value

open Cert.KernelIdeal
open Idealize.ShloMosaic

variable {F : FTy → Type} [FloatOps F] [Named F]

/-- A rank-two shape. -/
abbrev Sh2 (a b : ℕ) : Shape := ⟨2, ![a, b]⟩
/-- A row of `w` scalars, as it is loaded. -/
abbrev Row (w : ℕ) : Shape := ⟨3, ![1, 1, w]⟩
/-- The codes of `w` positions of one head, as they are loaded. -/
abbrev Codes (w : ℕ) : Shape := ⟨4, ![1, 1, w, 128]⟩

/-- The shape relations that the block's operations take, at width `w`. -/
class Geo (w : ℕ) : Prop where
  row : (Row w).ShapeCasts (Sh2 1 w)
  codes : (Codes w).ShapeCasts (Sh2 w 128)
  rows : (Sh2 1 w).Broadcasts (Sh2 128 w)
  cols : (Sh2 128 1).Broadcasts (Sh2 128 w)
  red : (Sh2 128 w).Reduces [1] ⟨1, ![128]⟩
  cat : Shape.Concatenates [Sh2 128 w, Sh2 128 w, Sh2 128 w] (Sh2 384 w) 0
  top : (Sh2 144 w).Slices ![0, 0] (Sh2 128 w)
  bottom : (Sh2 144 w).Slices ![128, 0] (Sh2 8 w)
  first : (Sh2 8 w).Slices ![0, 0] (Sh2 1 w)
  eight : (Sh2 8 w).ShapeCasts (Sh2 8 w)

instance : Geo 128 := by constructor <;> decide
instance : Geo 256 := by constructor <;> decide
instance : Geo 384 := by constructor <;> decide
instance : Geo 512 := by constructor <;> decide
instance : Geo 640 := by constructor <;> decide
instance : Geo 768 := by constructor <;> decide
instance : Geo 896 := by constructor <;> decide
instance : Geo 1024 := by constructor <;> decide

/-- The queries' scales, one column per head. -/
def qcols (qs : Vec F S1x20x128 .f32) : FVec F S128x20 .f32 :=
  transpose S128x20 [1, 0] (shapeCast S20x128 qs (by decide)) (by decide)

/-- Each key's position: `t + 1 - n` blocks come before the first. -/
def kpos (w : ℕ) (t n : BitVec 32) : IVec (Sh2 1 w) 32 :=
  addi (broadcast (Sh2 1 w) (Scalar.muli (Scalar.subi (Scalar.addi t 1#32) n) 128#32))
    (iota .tc (Sh2 1 w) 32 [1] ⟨List.nodup_singleton _, by simp, by simp⟩)

/-- Each query's position. -/
def qpos (t : BitVec 32) : IVec (Sh2 128 1) 32 :=
  addi (broadcast (Sh2 128 1) (Scalar.muli t 128#32)) (iota .tc (Sh2 128 1) 32 [0] (by decide))

variable (w : ℕ) [Geo w]

/-- Query and key are of one document. -/
def same (dk : Vec F (Row w) .i32) (dq : Vec F S1x8x128 .i32) : IVec (Sh2 128 w) 1 :=
  cmpi .eq
    (broadcastTo (Sh2 128 w)
      (extractStridedSlice (Sh2 128 1) ![0, 0]
        (transpose S128x8 [1, 0] (shapeCast S8x128 dq (by decide)) (by decide)) (by decide)) Geo.cols)
    (broadcastTo (Sh2 128 w) (shapeCast (Sh2 1 w) dk Geo.row) Geo.rows)

/-- The keys that a query attends to. -/
def visible (t n : BitVec 32) (dk : Vec F (Row w) .i32) (dq : Vec F S1x8x128 .i32) : IVec (Sh2 128 w) 1 :=
  andi (same w dk dq)
    (cmpi .sle (broadcastTo (Sh2 128 w) (kpos w t n) Geo.rows) (broadcastTo (Sh2 128 w) (qpos t) Geo.cols))

/-- The keys that a query's selection touches. -/
def selectable (t n : BitVec 32) (dk : Vec F (Row w) .i32) (dq : Vec F S1x8x128 .i32) (st : Vec F (Row w) .i32) :
    IVec (Sh2 128 w) 1 :=
  andi
    (andi (same w dk dq)
      (cmpi .slt (broadcastTo (Sh2 128 w) (kpos w t n) Geo.rows) (broadcastTo (Sh2 128 w) (qpos t) Geo.cols)))
    (broadcastTo (Sh2 128 w) (cmpi .eq (shapeCast (Sh2 1 w) st Geo.row) (broadcast (Sh2 1 w) 0#32)) Geo.rows)

/-- The products of queries and keys. -/
def acc (q : Vec F S1x1x128x128 .fp8e4m3) (k : Vec F (Codes w) .fp8e4m3) : FVec F (Sh2 128 w) .f32 :=
  matmul (DotDims.transposedRhs 128 128 w) none (shapeCast (Sh2 128 128) q (by decide))
    (shapeCast (Sh2 w 128) k Geo.codes) (constant (Sh2 128 w) .f32 0x00000000#32)

/-- A row of `w` scalars over all queries. -/
def over (x : Vec F (Row w) .f32) : FVec F (Sh2 128 w) .f32 :=
  broadcastTo (Sh2 128 w) (shapeCast (Sh2 1 w) x Geo.row) Geo.rows

/-- The selection scores, before they are summed over earlier queries. -/
def score (qc : FVec F S128x20 .f32) (sel : IVec (Sh2 128 w) 1) (q : Vec F S1x1x128x128 .fp8e4m3)
    (k : Vec F (Codes w) .fp8e4m3) (ks : Vec F (Row w) .f32) : FVec F (Sh2 128 w) .f32 :=
  select sel
    (maximumf
      (mulf
        (mulf (mulf (acc w q k) (broadcastTo (Sh2 128 w) (extractStridedSlice (Sh2 128 1) ![0, 0] qc (by decide)) Geo.cols))
          (over w ks))
        (broadcast (Sh2 128 w) (Scalar.ofBits .f32 0x3DB504F3#32)))
      (broadcast (Sh2 128 w) (Scalar.ofBits .f32 0x00000000#32)))
    (broadcast (Sh2 128 w) (Scalar.ofBits .f32 0x00000000#32))

/-- The scores, split in three bf16 parts that lie one below the other. -/
def split3 (s : FVec F (Sh2 128 w) .f32) : FVec F (Sh2 384 w) .bf16 :=
  have hi : FVec F (Sh2 128 w) .bf16 := truncf .bf16 s (by decide)
  have rest : FVec F (Sh2 128 w) .f32 := subf s (extf .f32 hi (by decide))
  have mid : FVec F (Sh2 128 w) .bf16 := truncf .bf16 rest (by decide)
  have low : FVec F (Sh2 128 w) .bf16 := truncf .bf16 (subf rest (extf .f32 mid (by decide))) (by decide)
  concatenate (Sh2 384 w) 0 [⟨Sh2 128 w, hi⟩, ⟨Sh2 128 w, mid⟩, ⟨Sh2 128 w, low⟩] Geo.cat

omit [Geo w] in
/-- The column of the split scores, counted within its part. -/
def part : IVec (Sh2 144 384) 32 :=
  have c : IVec (Sh2 144 384) 32 := iota .tc (Sh2 144 384) 32 [1] (by decide)
  have d : BitVec 32 := Scalar.select (Scalar.cmpi .eq 128#32 0#32) 1#32 128#32
  have r : IVec (Sh2 144 384) 32 := remsi c (broadcast (Sh2 144 384) d)
  have ne : IVec (Sh2 144 384) 1 := cmpi .ne r (broadcast (Sh2 144 384) 0#32)
  have neg : IVec (Sh2 144 384) 1 := cmpi .slt r (broadcast (Sh2 144 384) 0#32)
  have flip : IVec (Sh2 144 384) 1 :=
    broadcastTo (Sh2 144 384) (broadcast (Sh2 144 384) (Scalar.cmpi .slt d 0#32)) (by decide)
  select (andi (xori neg flip) ne) (addi r (broadcast (Sh2 144 384) d)) r

/-- Row `r` sums the scores of the queries before `r`. -/
def sums (parts : FVec F (Sh2 384 w) .bf16) : FVec F (Sh2 144 w) .f32 :=
  matmul (DotDims.plain 144 384 w) none
    (truncf .bf16 (sitofp .f32 (extui 32 (cmpi .slt part (iota .tc (Sh2 144 384) 32 [0] (by decide))) (by decide)))
      (by decide))
    parts (constant (Sh2 144 w) .f32 0x00000000#32)

/-- The sums carried on to the next block of queries. -/
def carryNext (parts : FVec F (Sh2 384 w) .bf16) (carry : Vec F (Sh2 8 w) .f32) : FVec F (Sh2 8 w) .f32 :=
  shapeCast (Sh2 8 w) (addf carry (extractStridedSlice (Sh2 8 w) ![128, 0] (sums w parts) Geo.bottom)) Geo.eight

/-- What is taken from the logits, in the base-two exponent. -/
def taken (vis : IVec (Sh2 128 w) 1) (parts : FVec F (Sh2 384 w) .bf16) (carry : Vec F (Sh2 8 w) .f32) :
    FVec F (Sh2 128 w) .f32 :=
  select vis
    (mulf
      (addf (extractStridedSlice (Sh2 128 w) ![0, 0] (sums w parts) Geo.top)
        (broadcastTo (Sh2 128 w) (extractStridedSlice (Sh2 1 w) ![0, 0] carry Geo.first) Geo.rows))
      (broadcast (Sh2 128 w) (Named.named κ "log2e" 0x3FB8AA3B#32)))
    (broadcast (Sh2 128 w) (Scalar.ofBits .f32 0x7F800000#32))

/-- One head's exponents. -/
def expo (h : ℕ) (hh : S128x20.Slices ![0, h] (Sh2 128 1)) (qc : FVec F S128x20 .f32) (q : Vec F S1x1x128x128 .fp8e4m3)
    (k : Vec F (Codes w) .fp8e4m3) (ks : Vec F (Row w) .f32) (fm : FVec F (Sh2 128 w) .f32) : FVec F (Sh2 128 w) .f32 :=
  subf
    (mulf
      (mulf (acc w q k)
        (broadcastTo (Sh2 128 w)
          (mulf (extractStridedSlice (Sh2 128 1) ![0, h] qc hh)
            (broadcast (Sh2 128 1) (Named.named κ "sm_log2e" 0x3E0293EE#32))) Geo.cols))
      (over w ks))
    fm

/-- The exponentials, each row's greatest being one. -/
def expos (z : FVec F (Sh2 128 w) .f32) : FVec F (Sh2 128 w) .f32 :=
  exp2 (subf z (broadcastTo (Sh2 128 w)
    (shapeCast (Sh2 128 1) (multiReduction .maximumf [1] ⟨1, ![128]⟩ z 0xFF800000#32 Geo.red (.inl rfl) rfl) (by decide))
    Geo.cols))

/-- One head's output, from its exponentials. -/
def mix (p : FVec F (Sh2 128 w) .f32) (vs : Vec F (Row w) .f32) (v : Vec F (Codes w) .fp8e4m3) :
    FVec F S1x128x128 .bf16 :=
  shapeCast S1x128x128
    (truncf .bf16
      (mulf
        (matmul (DotDims.plain 128 w 128) none (truncf .bf16 (mulf p (over w vs)) (by decide))
          (shapeCast (Sh2 w 128) v Geo.codes) (constant (Sh2 128 128) .f32 0x00000000#32))
        (broadcastTo (Sh2 128 128)
          (divf (broadcast (Sh2 128 1) (Scalar.ofBits .f32 0x3F800000#32))
            (shapeCast (Sh2 128 1) (multiReduction .add [1] ⟨1, ![128]⟩ p 0x00000000#32 Geo.red (.inl rfl) rfl)
              (by decide)))
          (by decide)))
      (by decide))
    (by decide)

/-- One head's output. -/
def head (h : ℕ) (hh : S128x20.Slices ![0, h] (Sh2 128 1)) (qc : FVec F S128x20 .f32) (q : Vec F S1x1x128x128 .fp8e4m3)
    (k : Vec F (Codes w) .fp8e4m3) (ks : Vec F (Row w) .f32) (fm : FVec F (Sh2 128 w) .f32) (vs : Vec F (Row w) .f32)
    (v : Vec F (Codes w) .fp8e4m3) : FVec F S1x128x128 .bf16 :=
  mix w (expos w (expo w h hh qc q k ks fm)) vs v

/-! ## From what the buffers hold

Batch `b`, block of queries from `q0` on, keys from `k0` on. -/

omit [Geo w] in
theorem inb_row {R b h k0 : ℕ} (hb : b < 2) (hh : h < R) (hk : k0 + w ≤ 1024) :
    ∀ a, (![b, h, k0] : Fin 3 → ℕ) a + (Row w).size a ≤ (⟨3, ![2, R, 1024]⟩ : Shape).size a := by
  intro a; fin_cases a <;> simp <;> omega

omit [Geo w] in
theorem inb_codes {h k0 : ℕ} (hh : h < 20) (hk : k0 + w ≤ 1024) :
    ∀ a, (![0, h, k0, 0] : Fin 4 → ℕ) a + (Codes w).size a ≤ S1x20x1024x128.size a := by
  intro a; fin_cases a <;> simp <;> omega

theorem inb_queries {h : ℕ} (hh : h < 20) :
    ∀ a, (![0, h, 0, 0] : Fin 4 → ℕ) a + S1x1x128x128.size a ≤ S1x20x128x128.size a := by
  intro a; fin_cases a <;> simp <;> omega

theorem inb_qs {b q0 : ℕ} (hb : b < 2) (hq : q0 + 128 ≤ 1024) :
    ∀ a, (![b, 0, q0] : Fin 3 → ℕ) a + S1x20x128.size a ≤ S2x20x1024.size a := by
  intro a; fin_cases a <;> simp <;> omega

theorem inb_dq {b q0 : ℕ} (hb : b < 2) (hq : q0 + 128 ≤ 1024) :
    ∀ a, (![b, 0, q0] : Fin 3 → ℕ) a + S1x8x128.size a ≤ S2x8x1024.size a := by
  intro a; fin_cases a <;> simp <;> omega

omit [Geo w] in
theorem inb_carry {k0 : ℕ} (hk : k0 + w ≤ 1024) :
    ∀ a, (![0, k0] : Fin 2 → ℕ) a + (Sh2 8 w).size a ≤ S8x1024.size a := by
  intro a; fin_cases a <;> simp <;> omega

theorem inb_out {h : ℕ} (hh : h < 20) :
    ∀ a, (![0, 0, 128 * h] : Fin 3 → ℕ) a + S1x128x128.size a ≤ S1x128x2560.size a := by
  intro a; fin_cases a <;> simp <;> omega

theorem slice_col {h : ℕ} (hh : h < 20) : S128x20.Slices ![0, h] (Sh2 128 1) :=
  ⟨rfl, by intro a; fin_cases a <;> simp <;> omega⟩

omit [Geo w] in
/-- A head's scales of the keys. -/
def ldScale {b h k0 : ℕ} (hb : b < 2) (hh : h < 20) (hk : k0 + w ≤ 1024) (X : Vec F S2x20x1024 .f32) :
    Vec F (Row w) .f32 :=
  View.ld X (Rect.unit (s := S2x20x1024) ![b, h, k0] (Row w).size (inb_row w hb hh hk))

omit [Geo w] in
/-- The keys' words. -/
def ldWord {b k0 : ℕ} (hb : b < 2) (hk : k0 + w ≤ 1024) (X : Vec F S2x8x1024 .i32) : Vec F (Row w) .i32 :=
  View.ld X (Rect.unit (s := S2x8x1024) ![b, 0, k0] (Row w).size (inb_row w hb (by omega) hk))

omit [Geo w] in
/-- A head's codes of the keys. -/
def ldCodes {h k0 : ℕ} (hh : h < 20) (hk : k0 + w ≤ 1024) (X : Vec F S1x20x1024x128 .fp8e4m3) :
    Vec F (Codes w) .fp8e4m3 :=
  View.ld X (Rect.unit (s := S1x20x1024x128) ![0, h, k0, 0] (Codes w).size (inb_codes w hh hk))

/-- A head's codes of the queries. -/
def ldQueries {h : ℕ} (hh : h < 20) (X : Vec F S1x20x128x128 .fp8e4m3) : Vec F S1x1x128x128 .fp8e4m3 :=
  View.ld X (Rect.unit (s := S1x20x128x128) ![0, h, 0, 0] S1x1x128x128.size (inb_queries hh))

/-- The queries' scales. -/
def ldQs {b q0 : ℕ} (hb : b < 2) (hq : q0 + 128 ≤ 1024) (X : Vec F S2x20x1024 .f32) : FVec F S128x20 .f32 :=
  qcols (View.ld X (Rect.unit (s := S2x20x1024) ![b, 0, q0] S1x20x128.size (inb_qs hb hq)))

/-- The queries' documents. -/
def ldDq {b q0 : ℕ} (hb : b < 2) (hq : q0 + 128 ≤ 1024) (X : Vec F S2x8x1024 .i32) : Vec F S1x8x128 .i32 :=
  View.ld X (Rect.unit (s := S2x8x1024) ![b, 0, q0] S1x8x128.size (inb_dq hb hq))

omit [Geo w] in
/-- The carried sums of the keys. -/
def ldCarry {k0 : ℕ} (hk : k0 + w ≤ 1024) (X : Vec F S8x1024 .f32) : Vec F (Sh2 8 w) .f32 :=
  View.ld X (Rect.unit (s := S8x1024) ![0, k0] (Sh2 8 w).size (inb_carry w hk))

/-- The parts of the scores of block `t`, from what the buffers hold. -/
def partsAt (t n : BitVec 32) {b q0 k0 : ℕ} (hb : b < 2) (hq : q0 + 128 ≤ 1024) (hk : k0 + w ≤ 1024)
    (X2 : Vec F S1x20x128x128 .fp8e4m3) (X3 : Vec F S1x20x1024x128 .fp8e4m3) (X12 X13 : Vec F S2x20x1024 .f32)
    (X15 X16 : Vec F S2x8x1024 .i32) : FVec F (Sh2 384 w) .bf16 :=
  split3 w (score w (ldQs hb hq X12)
    (selectable w t n (ldWord w hb hk X15) (ldDq hb hq X15) (ldWord w hb hk X16))
    (ldQueries (h := 0) (by omega) X2) (ldCodes w (h := 0) (by omega) hk X3) (ldScale w (h := 0) hb (by omega) hk X13))

/-- Head `h`'s output for block `t`, from what the buffers hold. -/
def headAt (t n : BitVec 32) {b q0 k0 : ℕ} (hb : b < 2) (hq : q0 + 128 ≤ 1024) (hk : k0 + w ≤ 1024)
    (X2 : Vec F S1x20x128x128 .fp8e4m3) (X3 X4 : Vec F S1x20x1024x128 .fp8e4m3) (X12 X13 X14 : Vec F S2x20x1024 .f32)
    (X15 X16 : Vec F S2x8x1024 .i32) (X17 : Vec F S8x1024 .f32) (h : ℕ) (hh : h < 20) : FVec F S1x128x128 .bf16 :=
  head w h (slice_col hh) (ldQs hb hq X12) (ldQueries hh X2) (ldCodes w hh hk X3) (ldScale w hb hh hk X13)
    (taken w (visible w t n (ldWord w hb hk X15) (ldDq hb hq X15))
      (partsAt w t n hb hq hk X2 X3 X12 X13 X15 X16) (ldCarry w hk X17))
    (ldScale w hb hh hk X14) (ldCodes w hh hk X4)

/-- The carried sums after block `t`, from what the buffers hold. -/
def carryAt (t n : BitVec 32) {b q0 k0 : ℕ} (hb : b < 2) (hq : q0 + 128 ≤ 1024) (hk : k0 + w ≤ 1024)
    (X2 : Vec F S1x20x128x128 .fp8e4m3) (X3 : Vec F S1x20x1024x128 .fp8e4m3) (X12 X13 : Vec F S2x20x1024 .f32)
    (X15 X16 : Vec F S2x8x1024 .i32) (X17 : Vec F S8x1024 .f32) : FVec F (Sh2 8 w) .f32 :=
  carryNext w (partsAt w t n hb hq hk X2 X3 X12 X13 X15 X16) (ldCarry w hk X17)

/-! ## The stored pieces -/

/-- The output tile's pieces, one per head, the last stored first. -/
def pieces (pay : ∀ h, h < 20 → FVec F S1x128x128 .bf16) : ∀ n, n ≤ 20 → List (View.Piece (Elt F) S1x128x2560 .bf16)
  | 0, _ => []
  | n + 1, hn => ⟨Rect.unit (s := S1x128x2560) ![0, 0, 128 * n] S1x128x128.size (inb_out hn), pay n hn⟩ :: pieces pay n (by omega)

variable {sig : RefSig} {κ' : Kind} {sp : Space}

omit [Named F] in
/-- Column `128 h + d` of the output tile holds head `h`'s piece. -/
theorem read_pieces (v : View sig κ' sp S1x128x2560 .bf16) (f : v.ty.Contents (Elt F))
    (pay : ∀ h, h < 20 → FVec F S1x128x128 .bf16) (h : ℕ) (hh : h < 20) (x : S1x128x128.Idx) (y : S1x128x2560.Idx)
    (h0 : (y 0).val = (x 0).val) (h1 : (y 1).val = (x 1).val) (h2 : (y 2).val = 128 * h + (x 2).val) :
    ∀ n (hn : n ≤ 20), h < n → v.read (Elt F) (v.writes (Elt F) f (pieces pay n hn)) y = pay h hh x
  | 0, _, hlt => absurd hlt (by omega)
  | n + 1, hn, hlt => by
    have hx : (x 2).val < 128 := (x 2).isLt
    rw [pieces]
    by_cases e : h = n
    · subst e
      exact View.read_writes_cons_unit_of_mem v f _ _ _ y x rfl (by
          intro a; fin_cases a
          · simpa using h0
          · simpa using h1
          · simpa using h2)
    · rw [View.read_writes_cons_unit_of_not_mem v f _ _ _ y rfl 2 (by left; rw [h2]; show _ < 128 * n; omega)]
      exact read_pieces v f pay h hh x y h0 h1 h2 n (by omega) (by omega)

end Cert.KernelIdeal.Value
-- ==== Proof.KernelIdeal.Check.lean ====
module

public import proofs.«01_k».proof.Proof.Gen.KernelIdeal.Skeleton
public import Idealize.ShloMosaic.Lib.Tactic

/-!
The check a grid point makes before its eight cases: in the case of `n` blocks, the block of keys
starting at `(i + 1 - n) * 128` lies within the arrays.  `n` counts the query block itself and the
earlier blocks of its document, so `n ≤ i + 1`, whatever the documents are.
-/

@[expose] public section

open Idealize.ShloMosaic Idealize.SL

namespace Cert.KernelIdeal.Body

/-- How many blocks of keys a query block reads: itself, and each earlier block whose bit is set. -/
def blocks (x : Fin 8) (e : Fin 7 → BitVec 1) : BitVec 32 :=
  let t (j : Fin 7) : BitVec 32 :=
    Scalar.extui (Scalar.andi (Scalar.cmpi .sgt (BitVec.ofNat 32 x.val) (BitVec.ofNat 32 j.val)) (e j))
  [0, 1, 2, 3, 4, 5, 6].foldl (fun s j => Scalar.addi s (t j)) 1#32

theorem blocks_le (x : Fin 8) (e : Fin 7 → BitVec 1) : (blocks x e).toNat ≤ x.val + 1 := by
  have h : ∀ (x : Fin 8) (e0 e1 e2 e3 e4 e5 e6 : BitVec 1),
      (blocks x ![e0, e1, e2, e3, e4, e5, e6]).toNat ≤ x.val + 1 := by decide +kernel
  have := h x (e 0) (e 1) (e 2) (e 3) (e 4) (e 5) (e 6)
  exact this

theorem le_blocks (x : Fin 8) (e : Fin 7 → BitVec 1) : 1 ≤ (blocks x e).toNat := by
  have h : ∀ (x : Fin 8) (e0 e1 e2 e3 e4 e5 e6 : BitVec 1),
      1 ≤ (blocks x ![e0, e1, e2, e3, e4, e5, e6]).toNat := by decide +kernel
  have := h x (e 0) (e 1) (e 2) (e 3) (e 4) (e 5) (e 6)
  exact this

theorem test_eq {a b : BitVec 32}
    (h : Scalar.cmpi .ne (Scalar.extui (Scalar.cmpi .eq a b) : BitVec 32) 0#32 = 1#1) : a = b := by
  by_contra hne
  have : Scalar.cmpi .eq a b = 0#1 := by simp [Scalar.cmpi, IntOp.cmpi, beq_eq_false_iff_ne.mpr hne]
  rw [this] at h
  exact absurd h (by decide)

/-- The bits of the count: whether a block starts in the document of the query block. -/
def bitsOf (v11 v14 v21 v28 v35 v42 v49 v56 : BitVec 32) : Fin 7 → BitVec 1 :=
  ![Scalar.cmpi .eq v14 v11, Scalar.cmpi .eq v21 v11, Scalar.cmpi .eq v28 v11,
    Scalar.cmpi .eq v35 v11, Scalar.cmpi .eq v42 v11, Scalar.cmpi .eq v49 v11,
    Scalar.cmpi .eq v56 v11]

theorem cond4_blocks {i : grid0.Coords} {v11 v14 v21 v28 v35 v42 v49 v56 : BitVec 32}
    (h : k0_cond4 i v11 v14 v21 v28 v35 v42 v49 v56 = 1#1) :
    blocks (i 1) (bitsOf v11 v14 v21 v28 v35 v42 v49 v56) = 2#32 := test_eq h

theorem cond4_le {i : grid0.Coords} {v11 v14 v21 v28 v35 v42 v49 v56 : BitVec 32}
    (h : k0_cond4 i v11 v14 v21 v28 v35 v42 v49 v56 = 1#1) : 1 ≤ (i 1).val := by
  have := blocks_le (i 1) (bitsOf v11 v14 v21 v28 v35 v42 v49 v56)
  rw [cond4_blocks h] at this
  exact Nat.le_of_succ_le_succ this

theorem cond5_blocks {i : grid0.Coords} {v11 v14 v21 v28 v35 v42 v49 v56 : BitVec 32}
    (h : k0_cond5 i v11 v14 v21 v28 v35 v42 v49 v56 = 1#1) :
    blocks (i 1) (bitsOf v11 v14 v21 v28 v35 v42 v49 v56) = 3#32 := test_eq h

theorem cond5_le {i : grid0.Coords} {v11 v14 v21 v28 v35 v42 v49 v56 : BitVec 32}
    (h : k0_cond5 i v11 v14 v21 v28 v35 v42 v49 v56 = 1#1) : 2 ≤ (i 1).val := by
  have := blocks_le (i 1) (bitsOf v11 v14 v21 v28 v35 v42 v49 v56)
  rw [cond5_blocks h] at this
  exact Nat.le_of_succ_le_succ this

theorem cond6_blocks {i : grid0.Coords} {v11 v14 v21 v28 v35 v42 v49 v56 : BitVec 32}
    (h : k0_cond6 i v11 v14 v21 v28 v35 v42 v49 v56 = 1#1) :
    blocks (i 1) (bitsOf v11 v14 v21 v28 v35 v42 v49 v56) = 4#32 := test_eq h

theorem cond6_le {i : grid0.Coords} {v11 v14 v21 v28 v35 v42 v49 v56 : BitVec 32}
    (h : k0_cond6 i v11 v14 v21 v28 v35 v42 v49 v56 = 1#1) : 3 ≤ (i 1).val := by
  have := blocks_le (i 1) (bitsOf v11 v14 v21 v28 v35 v42 v49 v56)
  rw [cond6_blocks h] at this
  exact Nat.le_of_succ_le_succ this

theorem cond7_blocks {i : grid0.Coords} {v11 v14 v21 v28 v35 v42 v49 v56 : BitVec 32}
    (h : k0_cond7 i v11 v14 v21 v28 v35 v42 v49 v56 = 1#1) :
    blocks (i 1) (bitsOf v11 v14 v21 v28 v35 v42 v49 v56) = 5#32 := test_eq h

theorem cond7_le {i : grid0.Coords} {v11 v14 v21 v28 v35 v42 v49 v56 : BitVec 32}
    (h : k0_cond7 i v11 v14 v21 v28 v35 v42 v49 v56 = 1#1) : 4 ≤ (i 1).val := by
  have := blocks_le (i 1) (bitsOf v11 v14 v21 v28 v35 v42 v49 v56)
  rw [cond7_blocks h] at this
  exact Nat.le_of_succ_le_succ this

theorem cond8_blocks {i : grid0.Coords} {v11 v14 v21 v28 v35 v42 v49 v56 : BitVec 32}
    (h : k0_cond8 i v11 v14 v21 v28 v35 v42 v49 v56 = 1#1) :
    blocks (i 1) (bitsOf v11 v14 v21 v28 v35 v42 v49 v56) = 6#32 := test_eq h

theorem cond8_le {i : grid0.Coords} {v11 v14 v21 v28 v35 v42 v49 v56 : BitVec 32}
    (h : k0_cond8 i v11 v14 v21 v28 v35 v42 v49 v56 = 1#1) : 5 ≤ (i 1).val := by
  have := blocks_le (i 1) (bitsOf v11 v14 v21 v28 v35 v42 v49 v56)
  rw [cond8_blocks h] at this
  exact Nat.le_of_succ_le_succ this

theorem cond9_blocks {i : grid0.Coords} {v11 v14 v21 v28 v35 v42 v49 v56 : BitVec 32}
    (h : k0_cond9 i v11 v14 v21 v28 v35 v42 v49 v56 = 1#1) :
    blocks (i 1) (bitsOf v11 v14 v21 v28 v35 v42 v49 v56) = 7#32 := test_eq h

theorem cond9_le {i : grid0.Coords} {v11 v14 v21 v28 v35 v42 v49 v56 : BitVec 32}
    (h : k0_cond9 i v11 v14 v21 v28 v35 v42 v49 v56 = 1#1) : 6 ≤ (i 1).val := by
  have := blocks_le (i 1) (bitsOf v11 v14 v21 v28 v35 v42 v49 v56)
  rw [cond9_blocks h] at this
  exact Nat.le_of_succ_le_succ this

theorem cond10_blocks {i : grid0.Coords} {v11 v14 v21 v28 v35 v42 v49 v56 : BitVec 32}
    (h : k0_cond10 i v11 v14 v21 v28 v35 v42 v49 v56 = 1#1) :
    blocks (i 1) (bitsOf v11 v14 v21 v28 v35 v42 v49 v56) = 8#32 := test_eq h

theorem cond10_le {i : grid0.Coords} {v11 v14 v21 v28 v35 v42 v49 v56 : BitVec 32}
    (h : k0_cond10 i v11 v14 v21 v28 v35 v42 v49 v56 = 1#1) : 7 ≤ (i 1).val := by
  have := blocks_le (i 1) (bitsOf v11 v14 v21 v28 v35 v42 v49 v56)
  rw [cond10_blocks h] at this
  exact Nat.le_of_succ_le_succ this

attribute [local irreducible] k0_cond4 k0_cond5 k0_cond6 k0_cond7 k0_cond8 k0_cond9 k0_cond10

theorem chk0_all (i : grid0.Coords) (v11 v14 v21 v28 v35 v42 v49 v56 : BitVec 32) :
    k0_chk1_0 i v11 v14 v21 v28 v35 v42 v49 v56 := by
  unfold k0_chk1_0
  repeat' apply And.intro
  all_goals
    intro h
    replace h := cond4_le h
    clear v11 v14 v21 v28 v35 v42 v49 v56
    revert i
    decide +kernel

theorem chk1_all (i : grid0.Coords) (v11 v14 v21 v28 v35 v42 v49 v56 : BitVec 32) :
    k0_chk1_1 i v11 v14 v21 v28 v35 v42 v49 v56 := by
  unfold k0_chk1_1
  repeat' apply And.intro
  all_goals
    intro h
    first | replace h := cond4_le h | replace h := cond5_le h
    clear v11 v14 v21 v28 v35 v42 v49 v56
    revert i
    decide +kernel

theorem chk2_all (i : grid0.Coords) (v11 v14 v21 v28 v35 v42 v49 v56 : BitVec 32) :
    k0_chk1_2 i v11 v14 v21 v28 v35 v42 v49 v56 := by
  unfold k0_chk1_2
  repeat' apply And.intro
  all_goals
    intro h
    first | replace h := cond5_le h | replace h := cond6_le h
    clear v11 v14 v21 v28 v35 v42 v49 v56
    revert i
    decide +kernel

theorem chk3_all (i : grid0.Coords) (v11 v14 v21 v28 v35 v42 v49 v56 : BitVec 32) :
    k0_chk1_3 i v11 v14 v21 v28 v35 v42 v49 v56 := by
  unfold k0_chk1_3
  repeat' apply And.intro
  all_goals
    intro h
    first | replace h := cond6_le h | replace h := cond7_le h
    clear v11 v14 v21 v28 v35 v42 v49 v56
    revert i
    decide +kernel

theorem chk4_all (i : grid0.Coords) (v11 v14 v21 v28 v35 v42 v49 v56 : BitVec 32) :
    k0_chk1_4 i v11 v14 v21 v28 v35 v42 v49 v56 := by
  unfold k0_chk1_4
  repeat' apply And.intro
  all_goals
    intro h
    replace h := cond7_le h
    clear v11 v14 v21 v28 v35 v42 v49 v56
    revert i
    decide +kernel

theorem chk5_all (i : grid0.Coords) (v11 v14 v21 v28 v35 v42 v49 v56 : BitVec 32) :
    k0_chk1_5 i v11 v14 v21 v28 v35 v42 v49 v56 := by
  unfold k0_chk1_5
  repeat' apply And.intro
  all_goals
    intro h
    first | replace h := cond7_le h | replace h := cond8_le h
    clear v11 v14 v21 v28 v35 v42 v49 v56
    revert i
    decide +kernel

theorem chk6_all (i : grid0.Coords) (v11 v14 v21 v28 v35 v42 v49 v56 : BitVec 32) :
    k0_chk1_6 i v11 v14 v21 v28 v35 v42 v49 v56 := by
  unfold k0_chk1_6
  repeat' apply And.intro
  all_goals
    intro h
    first | replace h := cond8_le h | replace h := cond9_le h
    clear v11 v14 v21 v28 v35 v42 v49 v56
    revert i
    decide +kernel

theorem chk7_all (i : grid0.Coords) (v11 v14 v21 v28 v35 v42 v49 v56 : BitVec 32) :
    k0_chk1_7 i v11 v14 v21 v28 v35 v42 v49 v56 := by
  unfold k0_chk1_7
  repeat' apply And.intro
  all_goals
    intro h
    first | replace h := cond9_le h | replace h := cond10_le h
    clear v11 v14 v21 v28 v35 v42 v49 v56
    revert i
    decide +kernel

theorem chk8_all (i : grid0.Coords) (v11 v14 v21 v28 v35 v42 v49 v56 : BitVec 32) :
    k0_chk1_8 i v11 v14 v21 v28 v35 v42 v49 v56 := by
  unfold k0_chk1_8
  repeat' apply And.intro
  all_goals
    intro h
    replace h := cond10_le h
    clear v11 v14 v21 v28 v35 v42 v49 v56
    revert i
    decide +kernel

theorem chk9_all (i : grid0.Coords) (v11 v14 v21 v28 v35 v42 v49 v56 : BitVec 32) :
    k0_chk1_9 i v11 v14 v21 v28 v35 v42 v49 v56 := by
  unfold k0_chk1_9
  repeat' apply And.intro
  all_goals
    intro h
    replace h := cond10_le h
    clear v11 v14 v21 v28 v35 v42 v49 v56
    revert i
    decide +kernel

/-- The check holds for every document. -/
theorem chk_all (i : grid0.Coords) (v11 v14 v21 v28 v35 v42 v49 v56 : BitVec 32) :
    k0_chk1 i v11 v14 v21 v28 v35 v42 v49 v56 :=
  ⟨chk0_all i v11 v14 v21 v28 v35 v42 v49 v56, chk1_all i v11 v14 v21 v28 v35 v42 v49 v56, chk2_all i v11 v14 v21 v28 v35 v42 v49 v56, chk3_all i v11 v14 v21 v28 v35 v42 v49 v56, chk4_all i v11 v14 v21 v28 v35 v42 v49 v56, chk5_all i v11 v14 v21 v28 v35 v42 v49 v56, chk6_all i v11 v14 v21 v28 v35 v42 v49 v56, chk7_all i v11 v14 v21 v28 v35 v42 v49 v56, chk8_all i v11 v14 v21 v28 v35 v42 v49 v56, chk9_all i v11 v14 v21 v28 v35 v42 v49 v56⟩

end Cert.KernelIdeal.Body
-- ==== Proof.KernelIdeal.Spec.lean ====
/-
  `KernelIdeal`: what the stretch that handles `n` blocks of keys leaves in the output tile and in the carried sums.
-/
module

public import proofs.«01_k».proof.Proof.KernelIdeal.Generic
public import proofs.«01_k».proof.Proof.KernelIdeal.Check

@[expose] public section

noncomputable section

namespace Cert.KernelIdeal.Value

open Cert.KernelIdeal Cert.KernelIdeal.Body
open Idealize.ShloMosaic

variable {F : FTy → Type} [FloatOps F] [Named F]

/-- The batch, as the kernel computes it. -/
def wb (i : grid0.Coords) : ℕ := (Scalar.indexCast (BitVec.ofNat 32 (i 0).val)).toNat
/-- The first query of the block, as the kernel computes it. -/
def wq (i : grid0.Coords) : ℕ := (Scalar.indexCast (Scalar.muli (BitVec.ofNat 32 (i 1).val) 128#32)).toNat
/-- The first key of `n` blocks, as the kernel computes it. -/
def wk (i : grid0.Coords) (n : BitVec 32) : ℕ :=
  (Scalar.indexCast
    (Scalar.muli (Scalar.subi (Scalar.addi (BitVec.ofNat 32 (i 1).val) 1#32) n) 128#32)).toNat

theorem wb_eq : ∀ i : grid0.Coords, wb i = (i 0).val := by decide +kernel
theorem wq_eq : ∀ i : grid0.Coords, wq i = 128 * (i 1).val := by decide +kernel
theorem wk_eq (i : grid0.Coords) (k : Fin 9) (h0 : k.val ≤ (i 1).val + 1) :
    wk i (BitVec.ofNat 32 k.val) + 128 * k.val = 128 * ((i 1).val + 1) := by
  revert i k; decide +kernel
theorem wb_lt (i : grid0.Coords) : wb i < 2 := by rw [wb_eq]; exact (i 0).isLt
theorem wq_le (i : grid0.Coords) : wq i + 128 ≤ 1024 := by
  have : (i 1).val < 8 := (i 1).isLt
  rw [wq_eq]; omega
theorem wk_le (i : grid0.Coords) (k : Fin 9) (h0 : k.val ≤ (i 1).val + 1) :
    wk i (BitVec.ofNat 32 k.val) + 128 * k.val ≤ 1024 := by
  have : (i 1).val < 8 := (i 1).isLt
  rw [wk_eq i k h0]; omega

theorem wk_eq' (w : ℕ) (i : grid0.Coords) (k : ℕ) (h0 : k ≤ (i 1).val + 1) (hw : w = 128 * k) :
    wk i (BitVec.ofNat 32 k) + w = 128 * ((i 1).val + 1) := by
  have : (i 1).val < 8 := (i 1).isLt
  subst hw
  exact wk_eq i ⟨k, by omega⟩ h0
theorem wk_le' (w : ℕ) (i : grid0.Coords) (k : ℕ) (h0 : k ≤ (i 1).val + 1) (hw : w = 128 * k) :
    wk i (BitVec.ofNat 32 k) + w ≤ 1024 := by
  have : (i 1).val < 8 := (i 1).isLt
  rw [wk_eq' w i k h0 hw]; omega

theorem test_of_eq {a b : BitVec 32} (h : a = b) :
    Scalar.cmpi .ne (Scalar.extui (Scalar.cmpi .eq a b) : BitVec 32) 0#32 = 1#1 := by
  subst h
  have : Scalar.cmpi .eq a a = 1#1 := by simp [Scalar.cmpi, IntOp.cmpi]
  rw [this]; decide

/-- The block was handled with the last `w` keys: the output tile holds each head's output, and the carried sums
of those keys have been taken on. -/
def Did (w : ℕ) [Geo w] (n : BitVec 32) (i : grid0.Coords)
    (X2 : Vec F S1x20x128x128 .fp8e4m3) (X3 X4 : Vec F S1x20x1024x128 .fp8e4m3) (X12 X13 X14 : Vec F S2x20x1024 .f32)
    (X15 X16 : Vec F S2x8x1024 .i32) (X17 : Vec F S8x1024 .f32)
    (Y10 : Vec F S1x128x2560 .bf16) (Y17 : Vec F S8x1024 .f32) : Prop :=
  ∃ (b q0 k0 : ℕ) (hb : b < 2) (hq : q0 + 128 ≤ 1024) (hk : k0 + w ≤ 1024),
    b = (i 0).val ∧ q0 = 128 * (i 1).val ∧ k0 + w = 128 * ((i 1).val + 1)
    ∧ (∀ (h : ℕ) (hh : h < 20) (x : S1x128x128.Idx) (y : S1x128x2560.Idx), (y 0).val = (x 0).val →
        (y 1).val = (x 1).val → (y 2).val = 128 * h + (x 2).val →
        Y10 y = headAt w (BitVec.ofNat 32 (i 1).val) n hb hq hk X2 X3 X4 X12 X13 X14 X15 X16 X17 h hh x)
    ∧ (∀ (x : (Sh2 8 w).Idx) (y : S8x1024.Idx), (y 0).val = (x 0).val → (y 1).val = k0 + (x 1).val →
        Y17 y = carryAt w (BitVec.ofNat 32 (i 1).val) n hb hq hk X2 X3 X12 X13 X15 X16 X17 x)
    ∧ (∀ y : S8x1024.Idx, (y 1).val < k0 ∨ k0 + w ≤ (y 1).val → Y17 y = X17 y)

variable {sig : RefSig} {κ' : Kind} {sp : Space}

/-- The stretch's writes do that. -/
theorem did_of_writes (w : ℕ) [Geo w] (k : ℕ) (i : grid0.Coords) (h0 : k ≤ (i 1).val + 1) (hw : w = 128 * k)
    (X2 : Vec F S1x20x128x128 .fp8e4m3) (X3 X4 : Vec F S1x20x1024x128 .fp8e4m3) (X12 X13 X14 : Vec F S2x20x1024 .f32)
    (X15 X16 : Vec F S2x8x1024 .i32)
    (v10 : View sig κ' sp S1x128x2560 .bf16) (f10 : v10.ty.Contents (Elt F)) (L10 : List (View.Piece (Elt F) S1x128x2560 .bf16))
    (v17 : View sig κ' sp S8x1024 .f32) (f17 : v17.ty.Contents (Elt F)) (L17 : List (View.Piece (Elt F) S8x1024 .f32))
    (hL10 : L10 = pieces (headAt w (BitVec.ofNat 32 (i 1).val) (BitVec.ofNat 32 k) (wb_lt i) (wq_le i) (wk_le' w i k h0 hw)
      X2 X3 X4 X12 X13 X14 X15 X16 (v17.read (Elt F) f17)) 20 (le_refl _))
    (hL17 : L17 = [⟨Rect.unit (s := S8x1024) ![0, wk i (BitVec.ofNat 32 k)] (Sh2 8 w).size (inb_carry _ (wk_le' w i k h0 hw)),
      carryAt w (BitVec.ofNat 32 (i 1).val) (BitVec.ofNat 32 k) (wb_lt i) (wq_le i) (wk_le' w i k h0 hw)
        X2 X3 X12 X13 X15 X16 (v17.read (Elt F) f17)⟩]) :
    Did w (BitVec.ofNat 32 k) i X2 X3 X4 X12 X13 X14 X15 X16 (v17.read (Elt F) f17)
      (v10.read (Elt F) (v10.writes (Elt F) f10 L10)) (v17.read (Elt F) (v17.writes (Elt F) f17 L17)) := by
  refine ⟨_, _, _, wb_lt i, wq_le i, wk_le' w i k h0 hw, wb_eq i, wq_eq i, wk_eq' w i k h0 hw, ?_, ?_, ?_⟩
  · intro h hh x y h0 h1 h2
    rw [hL10]
    exact read_pieces v10 f10 _ h hh x y h0 h1 h2 20 _ hh
  · intro x y h0 h1
    rw [hL17]
    refine View.read_writes_cons_unit_of_mem v17 f17 _ _ _ y x rfl ?_
    intro a; fin_cases a
    · simpa using h0
    · simpa using h1
  · intro y hy
    rw [hL17, View.read_writes_cons_unit_of_not_mem v17 f17 _ _ _ y rfl 1 hy]
    rfl

end Cert.KernelIdeal.Value
-- ==== Proof.KernelIdeal.Case8.lean ====
/-
  `KernelIdeal`: the stretch of the body that handles 8 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 11 of the body: 8 blocks of keys are handled when there are so many. -/
theorem s11_spec : over_args% (@s11 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 8#32 →
          Did 1024 8#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 8#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s11
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    have hle : 7 ≤ (i 1).val := cond10_le hc
    refine did_of_writes (F := F) 1024 8 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.Case7.lean ====
/-
  `KernelIdeal`: the stretch of the body that handles 7 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 10 of the body: 7 blocks of keys are handled when there are so many. -/
theorem s10_spec : over_args% (@s10 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 7#32 →
          Did 896 7#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 7#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s10
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    have hle : 6 ≤ (i 1).val := cond9_le hc
    refine did_of_writes (F := F) 896 7 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.Case6.lean ====
/-
  `KernelIdeal`: the stretch of the body that handles 6 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 9 of the body: 6 blocks of keys are handled when there are so many. -/
theorem s9_spec : over_args% (@s9 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 6#32 →
          Did 768 6#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 6#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s9
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    have hle : 5 ≤ (i 1).val := cond8_le hc
    refine did_of_writes (F := F) 768 6 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.Case5.lean ====
/-
  `KernelIdeal`: the stretch of the body that handles 5 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 8 of the body: 5 blocks of keys are handled when there are so many. -/
theorem s8_spec : over_args% (@s8 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 5#32 →
          Did 640 5#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 5#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s8
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    have hle : 4 ≤ (i 1).val := cond7_le hc
    refine did_of_writes (F := F) 640 5 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.Case4.lean ====
/-
  `KernelIdeal`: the stretch of the body that handles 4 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 7 of the body: 4 blocks of keys are handled when there are so many. -/
theorem s7_spec : over_args% (@s7 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 4#32 →
          Did 512 4#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 4#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s7
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    have hle : 3 ≤ (i 1).val := cond6_le hc
    refine did_of_writes (F := F) 512 4 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.Case3.lean ====
/-
  `KernelIdeal`: the stretch of the body that handles 3 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 6 of the body: 3 blocks of keys are handled when there are so many. -/
theorem s6_spec : over_args% (@s6 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 3#32 →
          Did 384 3#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 3#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s6
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    have hle : 2 ≤ (i 1).val := cond5_le hc
    refine did_of_writes (F := F) 384 3 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.Case2.lean ====
/-
  `KernelIdeal`: the stretch of the body that handles 2 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 5 of the body: 2 blocks of keys are handled when there are so many. -/
theorem s5_spec : over_args% (@s5 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 2#32 →
          Did 256 2#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 2#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s5
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    have hle : 1 ≤ (i 1).val := cond4_le hc
    refine did_of_writes (F := F) 256 2 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.Case1.lean ====
/-
  `KernelIdeal`: the stretch of the body that handles 1 blocks of keys.
-/
module

public import proofs.«01_k».proof.Proof.Gen.KernelIdeal.Skeleton
public import proofs.«01_k».proof.Proof.KernelIdeal.Cuts
public import proofs.«01_k».proof.Proof.KernelIdeal.Spec
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 4 of the body: 1 block of keys is handled when there are so many. -/
theorem s4_spec : over_args% (@s4 F _ _) as prog => ∀ (c : Dev nD) (f2 : Bf (F := F) c arg2) (f3 : Bf (F := F) c arg3) (f4 : Bf (F := F) c arg4) (f10 : Bf (F := F) c arg10) (f12 : Bf (F := F) c arg12) (f13 : Bf (F := F) c arg13) (f14 : Bf (F := F) c arg14) (f15 : Bf (F := F) c arg15) (f16 : Bf (F := F) c arg16) (f17 : Bf (F := F) c arg17) {Q : R → sProp 𝕄},
    iprop(pt c arg2 f2 ∗ pt c arg3 f3 ∗ pt c arg4 f4 ∗ pt c arg10 f10 ∗ pt c arg12 f12 ∗ pt c arg13 f13 ∗ pt c arg14 f14 ∗ pt c arg15 f15 ∗ pt c arg16 f16 ∗ pt c arg17 f17)
    ⊢ iprop(((∃ g10 g17, ⌜(blocks (i 1) (bitsOf v11 v14 v21 v28 v35 v42 v49 v56) = 1#32 →
          Did 128 1#32 i (arg2.view.read (Elt F) f2) (arg3.view.read (Elt F) f3) (arg4.view.read (Elt F) f4) (arg12.view.read (Elt F) f12) (arg13.view.read (Elt F) f13) (arg14.view.read (Elt F) f14) (arg15.view.read (Elt F) f15) (arg16.view.read (Elt F) f16) (arg17.view.read (Elt F) f17) (arg10.view.read (Elt F) g10) (arg17.view.read (Elt F) g17))
          ∧ (blocks (i 1) (bitsOf v11 v14 v21 v28 v35 v42 v49 v56) ≠ 1#32 → g10 = f10 ∧ g17 = f17)⌝ ∗ (pt c arg2 f2 ∗ pt c arg3 f3 ∗ pt c arg4 f4 ∗ pt c arg10 g10 ∗ pt c arg12 f12 ∗ pt c arg13 f13 ∗ pt c arg14 f14 ∗ pt c arg15 f15 ∗ pt c arg16 f16 ∗ pt c arg17 g17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H2, H3, H4, H10, H12, H13, H14, H15, H16, H17⟩ Hκ
  unfold s4
  split_ifs with hc
  · sl_exec_parts
    iapply Hκ
    iexists _, _
    isplitr
    rotate_left
    · isplitl [H2]; · iexact H2
      isplitl [H3]; · iexact H3
      isplitl [H4]; · iexact H4
      isplitl [H10]; · iexact H10
      isplitl [H12]; · iexact H12
      isplitl [H13]; · iexact H13
      isplitl [H14]; · iexact H14
      isplitl [H15]; · iexact H15
      isplitl [H16]; · iexact H16
      iexact H17
    ipureintro
    refine ⟨fun _ => ?_, fun hn => absurd (test_eq hc) hn⟩
    refine did_of_writes (F := F) 128 1 i (by omega) rfl _ _ _ _ _ _ _ _ _ _ _ _ _ _ ?_ ?_
    · simp only [pieces]
      sl_open_run
      sl_open_pay
      rfl
    · sl_open_run
      sl_open_pay
      rfl
  · sl_exec
    iapply Hκ
    iexists f10, f17
    isplitr
    · ipureintro
      exact ⟨fun hn => absurd (test_of_eq hn) hc, fun _ => ⟨rfl, rfl⟩⟩
    isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17

end Cert.KernelIdeal.Body
-- ==== Proof.KernelIdeal.EdgeValues.lean ====
/-
  `KernelIdeal`: what the first point of the grid leaves in the five buffers that stay as they are from then on: the
  transposed scales, the documents and the documents' starts.
-/
module

public import proofs.«01_k».proof.Proof.Gen.KernelIdeal.Skeleton
public import Idealize.ShloMosaic.Lib.Pipeline.FrameBody
public import Idealize.ShloMosaic.Lib.WritesUnit
public import Idealize.ShloMosaic.Lib.Pointwise

@[expose] public section

noncomputable section

namespace Cert.KernelIdeal.Value

open Cert.KernelIdeal Cert.KernelIdeal.Gen
open Idealize.ShloMosaic

variable {F : FTy → Type} [FloatOps F]

/-- The scales as they lie in the scratch buffer: batch, head, position. -/
def ScaleOf (X : Vec F S20x2x1024 .f32) (Y : Vec F S2x20x1024 .f32) : Prop :=
  ∀ (z : S20x2x1024.Idx) (y : S2x20x1024.Idx), (y 0).val = (z 1).val → (y 1).val = (z 0).val → (y 2).val = (z 2).val →
    Y y = X z

/-- The documents, repeated over eight rows. -/
def DocOf (X : Vec F S2x1024 .i32) (Y : Vec F S2x8x1024 .i32) : Prop :=
  ∀ (z : S2x1024.Idx) (y : S2x8x1024.Idx), (y 0).val = (z 0).val → (y 2).val = (z 1).val → Y y = X z

/-- Where a document starts, repeated over eight rows; `z'` is the position before `z`, the last one before the first. -/
def StartOf (X : Vec F S2x1024 .i32) (Y : Vec F S2x8x1024 .i32) : Prop :=
  ∀ (z z' : S2x1024.Idx) (y : S2x8x1024.Idx), (z' 0).val = (z 0).val → (z' 1).val = ((z 1).val + 1023) % 1024 →
    (y 0).val = (z 0).val → (y 2).val = (z 1).val → Y y = if (z 1).val = 0 ∨ X z ≠ X z' then 1#32 else 0#32

theorem pay_scale (v : Vec F S20x1x1024 .f32) (h : Fin 20) (j : Fin 1024) : k0_pay4 v (ix3 0 h j) = v (ix3 h 0 j) := by
  pointwise [k0_pay4]

theorem pay_doc (v : Vec F S1x1024 .i32) (r : Fin 8) (j : Fin 1024) : k0_pay8 v (ix3 0 r j) = v (ix2 0 j) := by
  pointwise [k0_pay8, k0_pay7]

theorem pay_start (v : Vec F S1x1024 .i32) (r : Fin 8) (j : Fin 1024) :
    k0_pay10 (k0_pay9 v) (ix3 0 r j)
      = if j.val = 0 ∨ v (ix2 0 j) ≠ v (ix2 0 ⟨(j.val + 1023) % 1024, by omega⟩) then 1#32 else 0#32 := by
  pointwise [k0_pay10, k0_pay9, k0_pay7]
  have e : (⟨(j.val + 1024 - 1) % 1024, by omega⟩ : Fin 1024) = ⟨(j.val + 1023) % 1024, by omega⟩ := rfl
  have h0 : (BitVec.ofNat 32 j.val = 0#32) ↔ j.val = 0 := by
    constructor
    · intro h
      have := congrArg BitVec.toNat h
      simp only [BitVec.toNat_ofNat] at this
      omega
    · intro h; rw [h]
  rw [e]
  by_cases hj : j.val = 0
  · simp [hj, IntOp.ori, IntOp.cmpi]
    generalize (v (ix2 0 j) != v (ix2 0 1023)) = b
    cases b <;> rfl
  · have hne : (BitVec.ofNat 32 j.val == 0#32) = false := by simpa using fun h => hj (h0.mp h)
    by_cases hv : v (ix2 0 j) = v (ix2 0 ⟨(j.val + 1023) % 1024, by omega⟩)
    · simp [hj, hv, IntOp.ori, IntOp.cmpi, hne]
    · have hvb : (v (ix2 0 j) != v (ix2 0 ⟨(j.val + 1023) % 1024, by omega⟩)) = true := by simpa using hv
      simp [hj, hv, IntOp.ori, IntOp.cmpi, hne, hvb]

variable {sig : RefSig} {κ' : Kind} {sp : Space}

/-- Two batches written one after the other. -/
theorem read_two {R : ℕ} {e : EltTy} (v : View sig κ' sp ⟨3, ![2, R, 1024]⟩ e) (f : v.ty.Contents (Elt F))
    (i1 i0) (p0 p1 : Vec F ⟨3, ![1, R, 1024]⟩ e) (y : (⟨3, ![2, R, 1024]⟩ : Shape).Idx) (h : Fin R) (j : Fin 1024)
    (hy1 : (y 1).val = h.val) (hy2 : (y 2).val = j.val) :
    v.read (Elt F) (v.writes (Elt F) f
      [⟨Rect.unit (s := ⟨3, ![2, R, 1024]⟩) ![1, 0, 0] (⟨3, ![1, R, 1024]⟩ : Shape).size i1, p1⟩,
       ⟨Rect.unit (s := ⟨3, ![2, R, 1024]⟩) ![0, 0, 0] (⟨3, ![1, R, 1024]⟩ : Shape).size i0, p0⟩]) y
      = if (y 0).val = 0 then p0 (ix3 0 h j) else p1 (ix3 0 h j) := by
  have h2 : (y 0).val < 2 := (y 0).isLt
  split_ifs with h0
  · rw [View.read_writes_cons_unit_of_not_mem v f _ _ _ y rfl 0 (by left; show _ < 1; omega)]
    refine View.read_writes_cons_unit_of_mem v f _ _ _ y (ix3 0 h j) rfl ?_
    intro a; fin_cases a
    · simpa using h0
    · simpa using hy1
    · simpa using hy2
  · refine View.read_writes_cons_unit_of_mem v f _ _ _ y (ix3 0 h j) rfl ?_
    intro a; fin_cases a
    · show (y 0).val = 1 + 0; omega
    · simpa using hy1
    · simpa using hy2

/-- The transposed scales. -/
theorem scale_writes (v5 : View sig κ' sp S20x2x1024 .f32) (f5 : v5.ty.Contents (Elt F))
    (v : View sig κ' sp S2x20x1024 .f32) (f : v.ty.Contents (Elt F)) (i1 i0 j1 j0) :
    ScaleOf (v5.read (Elt F) f5) (v.read (Elt F) (v.writes (Elt F) f
      [⟨Rect.unit (s := S2x20x1024) ![1, 0, 0] S1x20x1024.size i1,
          k0_pay4 (v5.readAt (Elt F) (Rect.unit (s := S20x2x1024) ![0, 1, 0] S20x1x1024.size j1).toLoadRect f5)⟩,
       ⟨Rect.unit (s := S2x20x1024) ![0, 0, 0] S1x20x1024.size i0,
          k0_pay4 (v5.readAt (Elt F) (Rect.unit (s := S20x2x1024) ![0, 0, 0] S20x1x1024.size j0).toLoadRect f5)⟩])) := by
  intro z y h0 h1 h2
  have hb : (z 1).val < 2 := (z 1).isLt
  rw [read_two v f i1 i0 _ _ y (z 0) (z 2) h1 h2]
  by_cases h : (y 0).val = 0
  on_goal 1 => rw [if_pos h]
  on_goal 2 => rw [if_neg h]
  all_goals
    refine (pay_scale _ (z 0) (z 2)).trans ?_
    rw [View.readAt_eq_ld]
    refine congrArg (v5.read (Elt F) f5) (funext fun a => Fin.ext ?_)
    fin_cases a
    · exact Nat.zero_add _ |>.trans (Nat.one_mul _)
    · show _ + 1 * 0 = (z 1).val
      first | (show 0 + 1 * 0 = _; omega) | (show 1 + 1 * 0 = _; omega)
    · exact Nat.zero_add _ |>.trans (Nat.one_mul _)

/-- The documents. -/
theorem doc_writes (v8 : View sig κ' sp S2x1024 .i32) (f8 : v8.ty.Contents (Elt F))
    (v : View sig κ' sp S2x8x1024 .i32) (f : v.ty.Contents (Elt F)) (i1 i0 j1 j0) :
    DocOf (v8.read (Elt F) f8) (v.read (Elt F) (v.writes (Elt F) f
      [⟨Rect.unit (s := S2x8x1024) ![1, 0, 0] S1x8x1024.size i1,
          k0_pay8 (v8.readAt (Elt F) (Rect.unit (s := S2x1024) ![1, 0] S1x1024.size j1).toLoadRect f8)⟩,
       ⟨Rect.unit (s := S2x8x1024) ![0, 0, 0] S1x8x1024.size i0,
          k0_pay8 (v8.readAt (Elt F) (Rect.unit (s := S2x1024) ![0, 0] S1x1024.size j0).toLoadRect f8)⟩])) := by
  intro z y h0 h2
  have hb : (z 0).val < 2 := (z 0).isLt
  rw [read_two v f i1 i0 _ _ y (y 1) (z 1) rfl h2]
  by_cases h : (y 0).val = 0
  on_goal 1 => rw [if_pos h]
  on_goal 2 => rw [if_neg h]
  all_goals
    refine (pay_doc _ (y 1) (z 1)).trans ?_
    rw [View.readAt_eq_ld]
    refine congrArg (v8.read (Elt F) f8) (funext fun a => Fin.ext ?_)
    fin_cases a
    · first | (show 0 + 1 * 0 = (z 0).val; omega) | (show 1 + 1 * 0 = (z 0).val; omega)
    · exact Nat.zero_add _ |>.trans (Nat.one_mul _)

/-- The documents' starts. -/
theorem start_writes (v8 : View sig κ' sp S2x1024 .i32) (f8 : v8.ty.Contents (Elt F))
    (v : View sig κ' sp S2x8x1024 .i32) (f : v.ty.Contents (Elt F)) (i1 i0 j1 j0) :
    StartOf (v8.read (Elt F) f8) (v.read (Elt F) (v.writes (Elt F) f
      [⟨Rect.unit (s := S2x8x1024) ![1, 0, 0] S1x8x1024.size i1,
          k0_pay10 (k0_pay9 (v8.readAt (Elt F) (Rect.unit (s := S2x1024) ![1, 0] S1x1024.size j1).toLoadRect f8))⟩,
       ⟨Rect.unit (s := S2x8x1024) ![0, 0, 0] S1x8x1024.size i0,
          k0_pay10 (k0_pay9 (v8.readAt (Elt F) (Rect.unit (s := S2x1024) ![0, 0] S1x1024.size j0).toLoadRect f8))⟩])) := by
  intro z z' y h0' h1' h0 h2
  have hb : (z 0).val < 2 := (z 0).isLt
  rw [read_two v f i1 i0 _ _ y (y 1) (z 1) rfl h2]
  by_cases h : (y 0).val = 0
  on_goal 1 => rw [if_pos h]
  on_goal 2 => rw [if_neg h]
  all_goals
    refine (pay_start _ (y 1) (z 1)).trans ?_
    rw [View.readAt_eq_ld]
    refine if_congr (or_congr Iff.rfl (not_congr (Eq.congr (congrArg (v8.read (Elt F) f8) (funext fun a => Fin.ext ?_))
      (congrArg (v8.read (Elt F) f8) (funext fun a => Fin.ext ?_))))) rfl rfl
    · fin_cases a
      · first | (show 0 + 1 * 0 = (z 0).val; omega) | (show 1 + 1 * 0 = (z 0).val; omega)
      · exact Nat.zero_add _ |>.trans (Nat.one_mul _)
    · fin_cases a
      · first | (show 0 + 1 * 0 = (z' 0).val; omega) | (show 1 + 1 * 0 = (z' 0).val; omega)
      · exact (Nat.zero_add _ |>.trans (Nat.one_mul _)).trans h1'.symm

/-- Row `b` is the sums' first row, the other rows are as they were. -/
def RowOf (b : ℕ) (X : Vec F S8x1024 .f32) (Y0 Y : Vec F S2x1024 .f32) : Prop :=
  ∀ y : S2x1024.Idx, ((y 0).val = b → ∀ x : S8x1024.Idx, (x 0).val = 0 → (x 1).val = (y 1).val → Y y = X x)
    ∧ ((y 0).val ≠ b → Y y = Y0 y)

theorem row_writes {κ'' : Kind} {sp'' : Space} (b : ℕ) (hb : b < 2) (v17 : View sig κ'' sp'' S8x1024 .f32)
    (f17 : v17.ty.Contents (Elt F)) (v : View sig κ' sp S2x1024 .f32) (f : v.ty.Contents (Elt F)) (i0 j0) :
    RowOf b (v17.read (Elt F) f17) (v.read (Elt F) f) (v.read (Elt F) (v.writes (Elt F) f
      [⟨Rect.unit (s := S2x1024) ![b, 0] S1x1024.size i0,
        v17.readAt (Elt F) (Rect.unit (s := S8x1024) ![0, 0] S1x1024.size j0).toLoadRect f17⟩])) := by
  intro y
  have hy : (y 0).val < 2 := (y 0).isLt
  refine ⟨fun h x hx0 hx1 => ?_, fun h => ?_⟩
  · have hx : ∀ a, (y a).val = (![b, 0] : Fin 2 → ℕ) a + (ix2 (0 : Fin 1) (y 1) a).val := by
      intro a; fin_cases a
      · exact h
      · exact (Nat.zero_add _).symm
    refine (View.read_writes_cons_unit_of_mem v f _ _ _ y (ix2 (0 : Fin 1) (y 1)) rfl hx).trans ?_
    rw [View.readAt_eq_ld]
    refine congrArg (v17.read (Elt F) f17) (funext fun a => Fin.ext ?_)
    fin_cases a
    · exact hx0.symm
    · exact (Nat.zero_add _ |>.trans (Nat.one_mul _)).trans hx1.symm
  · rw [View.read_writes_cons_unit_of_not_mem v f _ _ _ y rfl 0 (by
      show (y 0).val < b ∨ b + 1 ≤ (y 0).val; omega)]
    rfl

/-- The sums set to zero. -/
theorem zero_writes (v : View sig κ' sp S8x1024 .f32) (f : v.ty.Contents (Elt F)) (i0) (y : S8x1024.Idx) :
    v.read (Elt F) (v.writes (Elt F) f [⟨Rect.unit (s := S8x1024) ![0, 0] S8x1024.size i0, k0_pay594⟩]) y
      = Scalar.ofBits .f32 0x00000000#32 := by
  refine (View.read_writes_cons_unit_of_mem v f _ _ _ y y rfl (by
      intro a; fin_cases a <;> exact (Nat.zero_add _).symm)).trans ?_
  obtain ⟨a, b, rfl⟩ : ∃ (a : Fin 8) (b : Fin 1024), y = ix2 a b := ⟨y 0, y 1, by funext a; fin_cases a <;> rfl⟩
  pointwise [k0_pay594]

/-- The documents that a point looks up, in batch `i 0`: the one of its first query, and the last of each block. -/
def Looked (i : grid0.Coords) (X : Vec F S2x1024 .i32) (v11 v14 v21 v28 v35 v42 v49 v56 : BitVec 32) : Prop :=
  ∀ z : S2x1024.Idx, (z 0).val = (i 0).val →
    ((z 1).val = 128 * (i 1).val → v11 = X z) ∧ ((z 1).val = 127 → v14 = X z) ∧ ((z 1).val = 255 → v21 = X z)
    ∧ ((z 1).val = 383 → v28 = X z) ∧ ((z 1).val = 511 → v35 = X z) ∧ ((z 1).val = 639 → v42 = X z)
    ∧ ((z 1).val = 767 → v49 = X z) ∧ ((z 1).val = 895 → v56 = X z)

theorem look {κ'' : Kind} {sp'' : Space} (v : View sig κ'' sp'' S2x1024 .i32) (f : v.ty.Contents (Elt F)) (off : Fin 2 → ℕ)
    (i0 : ∀ a, off a + S1x1.size a ≤ S2x1024.size a) (hn : 0 < S1x1.numel) {b p : ℕ} (ho : off 0 = b ∧ off 1 = p)
    (z : S2x1024.Idx) (h0 : (z 0).val = b) (h1 : (z 1).val = p) :
    v.readAt (Elt F) (Rect.unit (s := S2x1024) off S1x1.size i0).toLoadRect f (Shape.Idx.first hn) = v.read (Elt F) f z := by
  rw [View.readAt_eq_ld]
  refine congrArg (v.read (Elt F) f) (funext fun a => Fin.ext ?_)
  fin_cases a
  · exact ho.1.trans h0.symm
  · exact ho.2.trans h1.symm

theorem off1_eq : ∀ i : grid0.Coords, k0_off1 i 0 = (i 0).val ∧ k0_off1 i 1 = 128 * (i 1).val := by decide +kernel
theorem off2_eq : ∀ i : grid0.Coords, k0_off2 i 0 = (i 0).val ∧ k0_off2 i 1 = 127 := by decide +kernel
theorem off3_eq : ∀ i : grid0.Coords, k0_off3 i 0 = (i 0).val ∧ k0_off3 i 1 = 255 := by decide +kernel
theorem off4_eq : ∀ i : grid0.Coords, k0_off4 i 0 = (i 0).val ∧ k0_off4 i 1 = 383 := by decide +kernel
theorem off5_eq : ∀ i : grid0.Coords, k0_off5 i 0 = (i 0).val ∧ k0_off5 i 1 = 511 := by decide +kernel
theorem off6_eq : ∀ i : grid0.Coords, k0_off6 i 0 = (i 0).val ∧ k0_off6 i 1 = 639 := by decide +kernel
theorem off7_eq : ∀ i : grid0.Coords, k0_off7 i 0 = (i 0).val ∧ k0_off7 i 1 = 767 := by decide +kernel
theorem off8_eq : ∀ i : grid0.Coords, k0_off8 i 0 = (i 0).val ∧ k0_off8 i 1 = 895 := by decide +kernel

theorem first_iff : ∀ i : grid0.Coords,
    (Scalar.cmpi .ne (Scalar.extui (Scalar.andi (Scalar.cmpi .eq (BitVec.ofNat 32 (i 0).val) 0#32)
      (Scalar.cmpi .eq (BitVec.ofNat 32 (i 1).val) 0#32)) : BitVec 32) 0#32 = 1#1) ↔ ((i 0).val = 0 ∧ (i 1).val = 0) := by
  decide +kernel
theorem start_iff : ∀ i : grid0.Coords,
    (Scalar.cmpi .ne (Scalar.extui (Scalar.cmpi .eq (BitVec.ofNat 32 (i 1).val) 0#32) : BitVec 32) 0#32 = 1#1)
      ↔ (i 1).val = 0 := by
  decide +kernel
theorem last0_iff : ∀ i : grid0.Coords, k0_cond11 i = 1#1 ↔ ((i 0).val = 0 ∧ (i 1).val = 7) := by decide +kernel
theorem last1_iff : ∀ i : grid0.Coords, k0_cond12 i = 1#1 ↔ ((i 0).val = 1 ∧ (i 1).val = 7) := by decide +kernel

end Cert.KernelIdeal.Value
-- ==== Proof.KernelIdeal.Edges.lean ====
/-
  `KernelIdeal`: the stretches of the body before and after the eight cases.
-/
module

public import proofs.«01_k».proof.Proof.Gen.KernelIdeal.Skeleton
public import proofs.«01_k».proof.Proof.KernelIdeal.Cuts
public import proofs.«01_k».proof.Proof.KernelIdeal.Spec
public import proofs.«01_k».proof.Proof.KernelIdeal.EdgeValues
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option sl_exec.resultNames true in
/-- Stretch 1 of the body: the first point fills the buffers of scales, documents and starts. -/
theorem s1_spec : over_args% (@s1 F) as prog => ∀ (c : Dev nD) (f5 : Bf (F := F) c arg5) (f6 : Bf (F := F) c arg6) (f7 : Bf (F := F) c arg7) (f8 : Bf (F := F) c arg8) (f12 : Bf (F := F) c arg12) (f13 : Bf (F := F) c arg13) (f14 : Bf (F := F) c arg14) (f15 : Bf (F := F) c arg15) (f16 : Bf (F := F) c arg16) {Q : R → sProp 𝕄},
    iprop(pt c arg5 f5 ∗ pt c arg6 f6 ∗ pt c arg7 f7 ∗ pt c arg8 f8 ∗ pt c arg12 f12 ∗ pt c arg13 f13 ∗ pt c arg14 f14 ∗ pt c arg15 f15 ∗ pt c arg16 f16)
    ⊢ iprop(((∃ g12 g13 g14 g15 g16, ⌜((i 0).val = 0 ∧ (i 1).val = 0 →
          ScaleOf (arg5.view.read (Elt F) f5) (arg12.view.read (Elt F) g12) ∧ ScaleOf (arg6.view.read (Elt F) f6) (arg13.view.read (Elt F) g13) ∧ ScaleOf (arg7.view.read (Elt F) f7) (arg14.view.read (Elt F) g14)
          ∧ DocOf (arg8.view.read (Elt F) f8) (arg15.view.read (Elt F) g15) ∧ StartOf (arg8.view.read (Elt F) f8) (arg16.view.read (Elt F) g16))
          ∧ (¬((i 0).val = 0 ∧ (i 1).val = 0) → g12 = f12 ∧ g13 = f13 ∧ g14 = f14 ∧ g15 = f15 ∧ g16 = f16)⌝
          ∗ (pt c arg5 f5 ∗ pt c arg6 f6 ∗ pt c arg7 f7 ∗ pt c arg8 f8 ∗ pt c arg12 g12 ∗ pt c arg13 g13 ∗ pt c arg14 g14 ∗ pt c arg15 g15 ∗ pt c arg16 g16))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H5, H6, H7, H8, H12, H13, H14, H15, H16⟩ Hκ
  unfold s1
  split_ifs with hc
  · sl_exec_parts
    iapply Hκ
    iexists _, _, _, _, _
    isplitr
    rotate_left
    · isplitl [H5]; · iexact H5
      isplitl [H6]; · iexact H6
      isplitl [H7]; · iexact H7
      isplitl [H8]; · iexact H8
      isplitl [H12]; · iexact H12
      isplitl [H13]; · iexact H13
      isplitl [H14]; · iexact H14
      isplitl [H15]; · iexact H15
      iexact H16
    ipureintro
    refine ⟨fun _ => ⟨?_, ?_, ?_, ?_, ?_⟩, fun hn => absurd ((first_iff i).mp hc) hn⟩
    · sl_open_run
      exact scale_writes _ _ _ _ _ _ _ _
    · sl_open_run
      exact scale_writes _ _ _ _ _ _ _ _
    · sl_open_run
      exact scale_writes _ _ _ _ _ _ _ _
    · sl_open_run
      exact doc_writes _ _ _ _ _ _ _ _
    · sl_open_run
      exact start_writes _ _ _ _ _ _ _ _
  · sl_exec
    iapply Hκ
    iexists f12, f13, f14, f15, f16
    isplitr
    · ipureintro
      exact ⟨fun hn => absurd ((first_iff i).mpr hn) hc, fun _ => ⟨rfl, rfl, rfl, rfl, rfl⟩⟩
    isplitl [H5]; · iexact H5
    isplitl [H6]; · iexact H6
    isplitl [H7]; · iexact H7
    isplitl [H8]; · iexact H8
    isplitl [H12]; · iexact H12
    isplitl [H13]; · iexact H13
    isplitl [H14]; · iexact H14
    isplitl [H15]; · iexact H15
    iexact H16

set_option sl_exec.resultNames true in
/-- Stretch 2 of the body: the sums are zero at a batch's first point. -/
theorem s2_spec : over_args% (@s2 F _) as prog => ∀ (c : Dev nD) (f17 : Bf (F := F) c arg17) {Q : R → sProp 𝕄},
    iprop(pt c arg17 f17)
    ⊢ iprop(((∃ g17, ⌜((i 1).val = 0 → ∀ y, arg17.view.read (Elt F) g17 y = Scalar.ofBits .f32 0x00000000#32)
          ∧ (¬(i 1).val = 0 → g17 = f17)⌝ ∗ pt c arg17 g17)
        -∗ wp frame (wpE (defs₀ (F := F)) Variants.none (c : Thread nD τ) none) Set.univ κ Q)
      -∗ wp frame (wpE (defs₀ (F := F)) Variants.none (c : Thread nD τ) none) Set.univ prog Q) := by
  intro_named
  iintro H17 Hκ
  unfold s2
  split_ifs with hc
  · sl_exec_parts
    iapply Hκ
    iexists _
    isplitr
    rotate_left
    · iexact H17
    ipureintro
    refine ⟨fun _ y => ?_, fun hn => absurd ((start_iff i).mp hc) hn⟩
    sl_open_run
    exact zero_writes _ _ _ _
  · sl_exec
    iapply Hκ
    iexists f17
    isplitr
    · ipureintro
      exact ⟨fun hn => absurd ((start_iff i).mpr hn) hc, fun _ => rfl⟩
    iexact H17

set_option sl_exec.resultNames true in
/-- Stretch 3 of the body: the eight documents it looks up. -/
theorem s3_spec : over_args% (@s3 F) as prog => ∀ (c : Dev nD) (f9 : Bf (F := F) c arg9) {Q : R → sProp 𝕄},
    iprop(pt c arg9 f9)
    ⊢ iprop((over_outs% κ as next => (⌜Looked i (arg9.view.read (Elt F) f9) v11 v14 v21 v28 v35 v42 v49 v56⌝ ∗ pt c arg9 f9)
        -∗ wp frame (wpE (defs₀ (F := F)) Variants.none (c : Thread nD τ) none) Set.univ next Q)
      -∗ wp frame (wpE (defs₀ (F := F)) Variants.none (c : Thread nD τ) none) Set.univ prog Q) := by
  intro_named
  iintro H9 Hκ
  unfold s3
  have hchk := chk_all i
  sl_exec
  iapply Hκ
  isplitr
  · ipureintro
    sl_open_run
    intro z h0
    exact ⟨fun h1 => look _ _ _ _ _ (off1_eq i) z h0 h1, fun h1 => look _ _ _ _ _ (off2_eq i) z h0 h1, fun h1 => look _ _ _ _ _ (off3_eq i) z h0 h1, fun h1 => look _ _ _ _ _ (off4_eq i) z h0 h1, fun h1 => look _ _ _ _ _ (off5_eq i) z h0 h1, fun h1 => look _ _ _ _ _ (off6_eq i) z h0 h1, fun h1 => look _ _ _ _ _ (off7_eq i) z h0 h1, fun h1 => look _ _ _ _ _ (off8_eq i) z h0 h1⟩
  iexact H9

set_option sl_exec.resultNames true in
/-- Stretch 12 of the body: at the last point of batch 0 the sums go out. -/
theorem s12_spec : over_args% (@s12 F) as prog => ∀ (c : Dev nD) (f11 : Bf (F := F) c arg11) (f17 : Bf (F := F) c arg17) {Q : R → sProp 𝕄},
    iprop(pt c arg11 f11 ∗ pt c arg17 f17)
    ⊢ iprop(((∃ g11, ⌜((i 0).val = 0 ∧ (i 1).val = 7 → RowOf 0 (arg17.view.read (Elt F) f17) (arg11.view.read (Elt F) f11) (arg11.view.read (Elt F) g11))
          ∧ (¬((i 0).val = 0 ∧ (i 1).val = 7) → g11 = f11)⌝ ∗ (pt c arg11 g11 ∗ pt c arg17 f17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H11, H17⟩ Hκ
  unfold s12
  split_ifs with hc
  · sl_exec_parts
    iapply Hκ
    iexists _
    isplitr
    rotate_left
    · isplitl [H11]; · iexact H11
      iexact H17
    ipureintro
    refine ⟨fun _ => ?_, fun hn => absurd ((last0_iff i).mp hc) hn⟩
    sl_open_run
    exact row_writes (F := F) _ (by omega) _ _ _ _ _ _
  · sl_exec
    iapply Hκ
    iexists f11
    isplitr
    · ipureintro
      exact ⟨fun hn => absurd ((last0_iff i).mpr hn) hc, fun _ => rfl⟩
    isplitl [H11]; · iexact H11
    iexact H17

set_option sl_exec.resultNames true in
/-- Stretch 13 of the body: at the last point of batch 1 the sums go out. -/
theorem s13_spec : over_args% (@s13 F) as prog => ∀ (c : Dev nD) (f11 : Bf (F := F) c arg11) (f17 : Bf (F := F) c arg17) {Q : R → sProp 𝕄},
    iprop(pt c arg11 f11 ∗ pt c arg17 f17)
    ⊢ iprop(((∃ g11, ⌜((i 0).val = 1 ∧ (i 1).val = 7 → RowOf 1 (arg17.view.read (Elt F) f17) (arg11.view.read (Elt F) f11) (arg11.view.read (Elt F) g11))
          ∧ (¬((i 0).val = 1 ∧ (i 1).val = 7) → g11 = f11)⌝ ∗ (pt c arg11 g11 ∗ pt c arg17 f17))
        -∗ wp frame (wpE (defs₀ (F := F)) Variants.none (c : Thread nD τ) none) Set.univ κ Q)
      -∗ wp frame (wpE (defs₀ (F := F)) Variants.none (c : Thread nD τ) none) Set.univ prog Q) := by
  intro_named
  iintro ⟨H11, H17⟩ Hκ
  unfold s13
  split_ifs with hc
  · sl_exec_parts
    iapply Hκ
    iexists _
    isplitr
    rotate_left
    · isplitl [H11]; · iexact H11
      iexact H17
    ipureintro
    refine ⟨fun _ => ?_, fun hn => absurd ((last1_iff i).mp hc) hn⟩
    sl_open_run
    exact row_writes (F := F) _ (by omega) _ _ _ _ _ _
  · sl_exec
    iapply Hκ
    iexists f11
    isplitr
    · ipureintro
      exact ⟨fun hn => absurd ((last1_iff i).mpr hn) hc, fun _ => rfl⟩
    isplitl [H11]; · iexact H11
    iexact H17

end Cert.KernelIdeal.Body
-- ==== Proof.KernelIdeal.Effect.lean ====
/-
  `KernelIdeal`: what one grid point does to its buffers.
-/
module

public import proofs.«01_k».proof.Proof.KernelIdeal.Spec
public import proofs.«01_k».proof.Proof.KernelIdeal.EdgeValues

@[expose] public section

noncomputable section

namespace Cert.KernelIdeal.Value

open Cert.KernelIdeal Cert.KernelIdeal.Body
open Idealize.ShloMosaic

variable {F : FTy → Type} [FloatOps F] [Named F]

/-- The block was handled with as many keys as `B` blocks have. -/
def Handled (B : BitVec 32) (i : grid0.Coords)
    (X2 : Vec F S1x20x128x128 .fp8e4m3) (X3 X4 : Vec F S1x20x1024x128 .fp8e4m3) (X12 X13 X14 : Vec F S2x20x1024 .f32)
    (X15 X16 : Vec F S2x8x1024 .i32) (X17 : Vec F S8x1024 .f32)
    (Y10 : Vec F S1x128x2560 .bf16) (Y17 : Vec F S8x1024 .f32) : Prop :=
  ∃ (w : ℕ) (_ : Geo w), w = 128 * B.toNat ∧ Did w B i X2 X3 X4 X12 X13 X14 X15 X16 X17 Y10 Y17

/-- After the cases up to `m` blocks: the block was handled, if its case was among them. -/
def Upto (m : ℕ) (B : BitVec 32) (i : grid0.Coords)
    (X2 : Vec F S1x20x128x128 .fp8e4m3) (X3 X4 : Vec F S1x20x1024x128 .fp8e4m3) (X12 X13 X14 : Vec F S2x20x1024 .f32)
    (X15 X16 : Vec F S2x8x1024 .i32) (X17 : Vec F S8x1024 .f32)
    (Y10 : Vec F S1x128x2560 .bf16) (Y17 : Vec F S8x1024 .f32) : Prop :=
  (B.toNat ≤ m → Handled B i X2 X3 X4 X12 X13 X14 X15 X16 X17 Y10 Y17) ∧ (m < B.toNat → Y17 = X17)

section
variable {B : BitVec 32} {i : grid0.Coords}
  {X2 : Vec F S1x20x128x128 .fp8e4m3} {X3 X4 : Vec F S1x20x1024x128 .fp8e4m3} {X12 X13 X14 : Vec F S2x20x1024 .f32}
  {X15 X16 : Vec F S2x8x1024 .i32} {X17 : Vec F S8x1024 .f32}
  {Y10 Z10 : Vec F S1x128x2560 .bf16} {Y17 Z17 : Vec F S8x1024 .f32}

theorem upto_zero (h : 1 ≤ B.toNat) : Upto 0 B i X2 X3 X4 X12 X13 X14 X15 X16 X17 Y10 X17 :=
  ⟨fun h0 => absurd h (by omega), fun _ => rfl⟩

theorem upto_step {m : ℕ} (w : ℕ) [Geo w] (n : BitVec 32) (hn : n.toNat = m + 1) (hw : w = 128 * (m + 1))
    (h : Upto m B i X2 X3 X4 X12 X13 X14 X15 X16 X17 Y10 Y17)
    (hc : (B = n → Did w n i X2 X3 X4 X12 X13 X14 X15 X16 Y17 Z10 Z17) ∧ (B ≠ n → Z10 = Y10 ∧ Z17 = Y17)) :
    Upto (m + 1) B i X2 X3 X4 X12 X13 X14 X15 X16 X17 Z10 Z17 := by
  by_cases e : B = n
  · subst e
    have := hc.1 rfl
    rw [h.2 (by omega)] at this
    exact ⟨fun _ => ⟨w, inferInstance, by omega, this⟩, fun h' => absurd h' (by omega)⟩
  · obtain ⟨rfl, rfl⟩ := hc.2 e
    have hne : B.toNat ≠ m + 1 := fun h' => e (BitVec.eq_of_toNat_eq (h'.trans hn.symm))
    exact ⟨fun h' => h.1 (by omega), fun h' => h.2 (by omega)⟩
end

/-- What one grid point does: `X` is what it finds, `Y` what it leaves. -/
structure Effect (i : grid0.Coords)
    (X2 : Vec F S1x20x128x128 .fp8e4m3) (X3 X4 : Vec F S1x20x1024x128 .fp8e4m3) (X5 X6 X7 : Vec F S20x2x1024 .f32)
    (X8 X9 : Vec F S2x1024 .i32) (X11 : Vec F S2x1024 .f32)
    (X12 X13 X14 : Vec F S2x20x1024 .f32) (X15 X16 : Vec F S2x8x1024 .i32) (X17 : Vec F S8x1024 .f32)
    (Y10 : Vec F S1x128x2560 .bf16) (Y11 : Vec F S2x1024 .f32)
    (Y12 Y13 Y14 : Vec F S2x20x1024 .f32) (Y15 Y16 : Vec F S2x8x1024 .i32) (Y17 : Vec F S8x1024 .f32) : Prop where
  first : (i 0).val = 0 ∧ (i 1).val = 0 →
    ScaleOf X5 Y12 ∧ ScaleOf X6 Y13 ∧ ScaleOf X7 Y14 ∧ DocOf X8 Y15 ∧ StartOf X8 Y16
  later : ¬((i 0).val = 0 ∧ (i 1).val = 0) → Y12 = X12 ∧ Y13 = X13 ∧ Y14 = X14 ∧ Y15 = X15 ∧ Y16 = X16
  block : ∃ (Z17 : Vec F S8x1024 .f32) (v11 v14 v21 v28 v35 v42 v49 v56 : BitVec 32),
    ((i 1).val = 0 → ∀ y, Z17 y = Scalar.ofBits .f32 0x00000000#32) ∧ (¬(i 1).val = 0 → Z17 = X17)
    ∧ Looked i X9 v11 v14 v21 v28 v35 v42 v49 v56
    ∧ Handled (blocks (i 1) (bitsOf v11 v14 v21 v28 v35 v42 v49 v56)) i X2 X3 X4 Y12 Y13 Y14 Y15 Y16 Z17 Y10 Y17
  last : (i 1).val = 7 → RowOf (i 0).val Y17 X11 Y11
  other : ¬(i 1).val = 7 → Y11 = X11

/-- The sums go out at the last point of either batch. -/
theorem row_out {i : grid0.Coords} {X17 : Vec F S8x1024 .f32} {X11 Z11 Y11 : Vec F S2x1024 .f32}
    (h0 : ((i 0).val = 0 ∧ (i 1).val = 7 → RowOf 0 X17 X11 Z11) ∧ (¬((i 0).val = 0 ∧ (i 1).val = 7) → Z11 = X11))
    (h1 : ((i 0).val = 1 ∧ (i 1).val = 7 → RowOf 1 X17 Z11 Y11) ∧ (¬((i 0).val = 1 ∧ (i 1).val = 7) → Y11 = Z11)) :
    ((i 1).val = 7 → RowOf (i 0).val X17 X11 Y11) ∧ (¬(i 1).val = 7 → Y11 = X11) := by
  have hb : (i 0).val < 2 := (i 0).isLt
  refine ⟨fun h7 => ?_, fun h7 => (h1.2 (by omega)).trans (h0.2 (by omega))⟩
  rcases Nat.lt_or_ge (i 0).val 1 with h | h
  · have e : (i 0).val = 0 := by omega
    rw [h1.2 (by omega), e]
    exact h0.1 ⟨e, h7⟩
  · have e : (i 0).val = 1 := by omega
    have := h1.1 ⟨e, h7⟩
    rw [h0.2 (by omega)] at this
    rw [e]
    exact this

/-- The point's effect, put together from the body's stretches. -/
theorem effect_of {i : grid0.Coords}
    {X2 : Vec F S1x20x128x128 .fp8e4m3} {X3 X4 : Vec F S1x20x1024x128 .fp8e4m3} {X5 X6 X7 : Vec F S20x2x1024 .f32}
    {X8 X9 : Vec F S2x1024 .i32} {X11 R1 Y11 : Vec F S2x1024 .f32}
    {X12 X13 X14 Y12 Y13 Y14 : Vec F S2x20x1024 .f32} {X15 X16 Y15 Y16 : Vec F S2x8x1024 .i32}
    {X17 C0 C1 C2 C3 C4 C5 C6 C7 C8 : Vec F S8x1024 .f32} {O0 O1 O2 O3 O4 O5 O6 O7 O8 : Vec F S1x128x2560 .bf16}
    {v11 v14 v21 v28 v35 v42 v49 v56 : BitVec 32}
    (h1 : ((i 0).val = 0 ∧ (i 1).val = 0 →
        ScaleOf X5 Y12 ∧ ScaleOf X6 Y13 ∧ ScaleOf X7 Y14 ∧ DocOf X8 Y15 ∧ StartOf X8 Y16)
      ∧ (¬((i 0).val = 0 ∧ (i 1).val = 0) → Y12 = X12 ∧ Y13 = X13 ∧ Y14 = X14 ∧ Y15 = X15 ∧ Y16 = X16))
    (h2 : ((i 1).val = 0 → ∀ y, C0 y = Scalar.ofBits .f32 0x00000000#32) ∧ (¬(i 1).val = 0 → C0 = X17))
    (h3 : Looked i X9 v11 v14 v21 v28 v35 v42 v49 v56)
    (u1 : (blocks (i 1) (bitsOf v11 v14 v21 v28 v35 v42 v49 v56) = 1#32 → Did 128 1#32 i X2 X3 X4 Y12 Y13 Y14 Y15 Y16 C0 O1 C1)
      ∧ (blocks (i 1) (bitsOf v11 v14 v21 v28 v35 v42 v49 v56) ≠ 1#32 → O1 = O0 ∧ C1 = C0))
    (u2 : (blocks (i 1) (bitsOf v11 v14 v21 v28 v35 v42 v49 v56) = 2#32 → Did 256 2#32 i X2 X3 X4 Y12 Y13 Y14 Y15 Y16 C1 O2 C2)
      ∧ (blocks (i 1) (bitsOf v11 v14 v21 v28 v35 v42 v49 v56) ≠ 2#32 → O2 = O1 ∧ C2 = C1))
    (u3 : (blocks (i 1) (bitsOf v11 v14 v21 v28 v35 v42 v49 v56) = 3#32 → Did 384 3#32 i X2 X3 X4 Y12 Y13 Y14 Y15 Y16 C2 O3 C3)
      ∧ (blocks (i 1) (bitsOf v11 v14 v21 v28 v35 v42 v49 v56) ≠ 3#32 → O3 = O2 ∧ C3 = C2))
    (u4 : (blocks (i 1) (bitsOf v11 v14 v21 v28 v35 v42 v49 v56) = 4#32 → Did 512 4#32 i X2 X3 X4 Y12 Y13 Y14 Y15 Y16 C3 O4 C4)
      ∧ (blocks (i 1) (bitsOf v11 v14 v21 v28 v35 v42 v49 v56) ≠ 4#32 → O4 = O3 ∧ C4 = C3))
    (u5 : (blocks (i 1) (bitsOf v11 v14 v21 v28 v35 v42 v49 v56) = 5#32 → Did 640 5#32 i X2 X3 X4 Y12 Y13 Y14 Y15 Y16 C4 O5 C5)
      ∧ (blocks (i 1) (bitsOf v11 v14 v21 v28 v35 v42 v49 v56) ≠ 5#32 → O5 = O4 ∧ C5 = C4))
    (u6 : (blocks (i 1) (bitsOf v11 v14 v21 v28 v35 v42 v49 v56) = 6#32 → Did 768 6#32 i X2 X3 X4 Y12 Y13 Y14 Y15 Y16 C5 O6 C6)
      ∧ (blocks (i 1) (bitsOf v11 v14 v21 v28 v35 v42 v49 v56) ≠ 6#32 → O6 = O5 ∧ C6 = C5))
    (u7 : (blocks (i 1) (bitsOf v11 v14 v21 v28 v35 v42 v49 v56) = 7#32 → Did 896 7#32 i X2 X3 X4 Y12 Y13 Y14 Y15 Y16 C6 O7 C7)
      ∧ (blocks (i 1) (bitsOf v11 v14 v21 v28 v35 v42 v49 v56) ≠ 7#32 → O7 = O6 ∧ C7 = C6))
    (u8 : (blocks (i 1) (bitsOf v11 v14 v21 v28 v35 v42 v49 v56) = 8#32 → Did 1024 8#32 i X2 X3 X4 Y12 Y13 Y14 Y15 Y16 C7 O8 C8)
      ∧ (blocks (i 1) (bitsOf v11 v14 v21 v28 v35 v42 v49 v56) ≠ 8#32 → O8 = O7 ∧ C8 = C7))
    (h12 : ((i 0).val = 0 ∧ (i 1).val = 7 → RowOf 0 C8 X11 R1) ∧ (¬((i 0).val = 0 ∧ (i 1).val = 7) → R1 = X11))
    (h13 : ((i 0).val = 1 ∧ (i 1).val = 7 → RowOf 1 C8 R1 Y11) ∧ (¬((i 0).val = 1 ∧ (i 1).val = 7) → Y11 = R1)) :
    Effect i X2 X3 X4 X5 X6 X7 X8 X9 X11 X12 X13 X14 X15 X16 X17 O8 Y11 Y12 Y13 Y14 Y15 Y16 C8 := by
  have hB := le_blocks (i 1) (bitsOf v11 v14 v21 v28 v35 v42 v49 v56)
  have hle := blocks_le (i 1) (bitsOf v11 v14 v21 v28 v35 v42 v49 v56)
  have hi : (i 1).val < 8 := (i 1).isLt
  have ho := row_out h12 h13
  have u := upto_step 1024 8#32 rfl rfl (upto_step 896 7#32 rfl rfl (upto_step 768 6#32 rfl rfl (upto_step 640 5#32 rfl rfl (upto_step 512 4#32 rfl rfl (upto_step 384 3#32 rfl rfl (upto_step 256 2#32 rfl rfl (upto_step 128 1#32 rfl rfl (upto_zero (Y10 := O0) hB) u1) u2) u3) u4) u5) u6) u7) u8
  exact ⟨h1.1, h1.2, ⟨C0, v11, v14, v21, v28, v35, v42, v49, v56, h2.1, h2.2, h3, u.1 (by omega)⟩, ho.1, ho.2⟩

section
variable {α β α' β' : Type*} {p q : Prop} {a b : α} {a' b' : α'}
theorem keep1 (r : α → β) (h : p ∧ (q → a = b)) : p ∧ (q → r a = r b) := ⟨h.1, fun e => congrArg r (h.2 e)⟩
theorem keep2 (r : α → β) (r' : α' → β') (h : p ∧ (q → a = b ∧ a' = b')) : p ∧ (q → r a = r b ∧ r' a' = r' b') :=
  ⟨h.1, fun e => ⟨congrArg r (h.2 e).1, congrArg r' (h.2 e).2⟩⟩
end

end Cert.KernelIdeal.Value
-- ==== Proof.KernelIdeal.Body.lean ====
/-
  `KernelIdeal`: the kernel body put together from its stretches.
-/
module

public import proofs.«01_k».proof.Proof.Gen.KernelIdeal.Skeleton
public import proofs.«01_k».proof.Proof.KernelIdeal.Cuts
public import proofs.«01_k».proof.Proof.KernelIdeal.Case8
public import proofs.«01_k».proof.Proof.KernelIdeal.Case7
public import proofs.«01_k».proof.Proof.KernelIdeal.Case6
public import proofs.«01_k».proof.Proof.KernelIdeal.Case5
public import proofs.«01_k».proof.Proof.KernelIdeal.Case4
public import proofs.«01_k».proof.Proof.KernelIdeal.Case3
public import proofs.«01_k».proof.Proof.KernelIdeal.Case2
public import proofs.«01_k».proof.Proof.KernelIdeal.Case1
public import proofs.«01_k».proof.Proof.KernelIdeal.Edges
public import proofs.«01_k».proof.Proof.KernelIdeal.Effect
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Body

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

variable {F : FTy → Type} [FloatOps F] [Named F]

local notation "𝕄" => MT nD τ sig Unit (Elt F) ℕ (UR sig nD τ) ℕ

set_option maxHeartbeats 2000000 in
/-- The whole body: it runs, leaves its inputs as they were, and does to the others what `Effect` says. -/
theorem body_run (c : Dev nD) (i : grid0.Coords) (arg2 : Memref sig .tc .vmem S1x20x128x128 .fp8e4m3) (harg2 : arg2.IsWhole) (arg3 : Memref sig .tc .vmem S1x20x1024x128 .fp8e4m3) (harg3 : arg3.IsWhole) (arg4 : Memref sig .tc .vmem S1x20x1024x128 .fp8e4m3) (harg4 : arg4.IsWhole) (arg5 : Memref sig .tc .vmem S20x2x1024 .f32) (harg5 : arg5.IsWhole) (arg6 : Memref sig .tc .vmem S20x2x1024 .f32) (harg6 : arg6.IsWhole) (arg7 : Memref sig .tc .vmem S20x2x1024 .f32) (harg7 : arg7.IsWhole) (arg8 : Memref sig .tc .vmem S2x1024 .i32) (harg8 : arg8.IsWhole) (arg9 : Memref sig .tc .smem S2x1024 .i32) (harg9 : arg9.IsWhole) (arg10 : Memref sig .tc .vmem S1x128x2560 .bf16) (harg10 : arg10.IsWhole) (arg11 : Memref sig .tc .vmem S2x1024 .f32) (harg11 : arg11.IsWhole) (arg12 : Memref sig .tc .vmem S2x20x1024 .f32) (harg12 : arg12.IsWhole) (arg13 : Memref sig .tc .vmem S2x20x1024 .f32) (harg13 : arg13.IsWhole) (arg14 : Memref sig .tc .vmem S2x20x1024 .f32) (harg14 : arg14.IsWhole) (arg15 : Memref sig .tc .vmem S2x8x1024 .i32) (harg15 : arg15.IsWhole) (arg16 : Memref sig .tc .vmem S2x8x1024 .i32) (harg16 : arg16.IsWhole) (arg17 : Memref sig .tc .vmem S8x1024 .f32) (harg17 : arg17.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17
      ∗ ((∃ g10 g11 g12 g13 g14 g15 g16 g17, ⌜Effect i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg11.view.read (Elt F) f11) (arg12.view.read (Elt F) f12) (arg13.view.read (Elt F) f13) (arg14.view.read (Elt F) f14) (arg15.view.read (Elt F) f15) (arg16.view.read (Elt F) f16) (arg17.view.read (Elt F) f17) (arg10.view.read (Elt F) g10) (arg11.view.read (Elt F) g11) (arg12.view.read (Elt F) g12) (arg13.view.read (Elt F) g13) (arg14.view.read (Elt F) g14) (arg15.view.read (Elt F) g15) (arg16.view.read (Elt F) g16) (arg17.view.read (Elt F) g17)⌝ ∗ pt c arg2 f2 ∗ pt c arg3 f3 ∗ pt c arg4 f4 ∗ pt c arg5 f5 ∗ pt c arg6 f6 ∗ pt c arg7 f7 ∗ pt c arg8 f8 ∗ pt c arg9 f9 ∗ pt c arg10 g10 ∗ pt c arg11 g11 ∗ pt c arg12 g12 ∗ pt c arg13 g13 ∗ pt c arg14 g14 ∗ pt c arg15 g15 ∗ pt c arg16 g16 ∗ pt c arg17 g17) -∗ Q ⟨⟩))
    ⊢ wp frame (wpE (defs₀ (F := F)) Variants.none (c : Thread nD τ) none) Set.univ (cc0_selective_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  iintro ⟨H2, H3, H4, H5, H6, H7, H8, H9, H10, H11, H12, H13, H14, H15, H16, H17, Hk⟩
  rw [cc0_selective_attention_eq_skeleton, r.eq, s1.eq]
  iapply (s1_spec (c := c)) $$ [H5 H6 H7 H8 H12 H13 H14 H15 H16]
  · isplitl [H5]; · iexact H5
    isplitl [H6]; · iexact H6
    isplitl [H7]; · iexact H7
    isplitl [H8]; · iexact H8
    isplitl [H12]; · iexact H12
    isplitl [H13]; · iexact H13
    isplitl [H14]; · iexact H14
    isplitl [H15]; · iexact H15
    iexact H16
  iintro ⟨%g12, %g13, %g14, %g15, %g16, %h1, H5, H6, H7, H8, H12, H13, H14, H15, H16⟩
  rw [s2.eq]
  iapply (s2_spec (c := c)) $$ [H17]
  · iexact H17
  iintro ⟨%g17_3, %h2, H17⟩
  rw [s3.eq]
  iapply (s3_spec (c := c)) $$ [H9]
  · iexact H9
  iintro %v11 %v14 %v21 %v28 %v35 %v42 %v49 %v56 %hw ⟨%h3, H9⟩
  rw [s4.eq]
  iapply (s4_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_4, %g17_4, %h4, H2, H3, H4, H10, H12, H13, H14, H15, H16, H17⟩
  rw [s5.eq]
  iapply (s5_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_5, %g17_5, %h5, H2, H3, H4, H10, H12, H13, H14, H15, H16, H17⟩
  rw [s6.eq]
  iapply (s6_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_6, %g17_6, %h6, H2, H3, H4, H10, H12, H13, H14, H15, H16, H17⟩
  rw [s7.eq]
  iapply (s7_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_7, %g17_7, %h7, H2, H3, H4, H10, H12, H13, H14, H15, H16, H17⟩
  rw [s8.eq]
  iapply (s8_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_8, %g17_8, %h8, H2, H3, H4, H10, H12, H13, H14, H15, H16, H17⟩
  rw [s9.eq]
  iapply (s9_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_9, %g17_9, %h9, H2, H3, H4, H10, H12, H13, H14, H15, H16, H17⟩
  rw [s10.eq]
  iapply (s10_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_10, %g17_10, %h10, H2, H3, H4, H10, H12, H13, H14, H15, H16, H17⟩
  rw [s11.eq]
  iapply (s11_spec (c := c)) $$ [H2 H3 H4 H10 H12 H13 H14 H15 H16 H17]
  · isplitl [H2]; · iexact H2
    isplitl [H3]; · iexact H3
    isplitl [H4]; · iexact H4
    isplitl [H10]; · iexact H10
    isplitl [H12]; · iexact H12
    isplitl [H13]; · iexact H13
    isplitl [H14]; · iexact H14
    isplitl [H15]; · iexact H15
    isplitl [H16]; · iexact H16
    iexact H17
  iintro ⟨%g10_11, %g17_11, %h11, H2, H3, H4, H10, H12, H13, H14, H15, H16, H17⟩
  rw [s12.eq]
  iapply (s12_spec (c := c)) $$ [H11 H17]
  · isplitl [H11]; · iexact H11
    iexact H17
  iintro ⟨%g11_12, %h12, H11, H17⟩
  rw [s13.eq]
  iapply (s13_spec (c := c)) $$ [H11 H17]
  · isplitl [H11]; · iexact H11
    iexact H17
  iintro ⟨%g11_13, %h13, H11, H17⟩
  unfold s13.tail
  sl_exec
  sl_step
  iapply Hk
  iexists g10_11, g11_13, g12, g13, g14, g15, g16, g17_11
  isplitr
  · ipureintro
    refine effect_of ⟨h1.1, fun e => ?_⟩ (keep1 (arg17.view.read (Elt F)) h2) h3
      (keep2 (arg10.view.read (Elt F)) (arg17.view.read (Elt F)) h4)
      (keep2 (arg10.view.read (Elt F)) (arg17.view.read (Elt F)) h5)
      (keep2 (arg10.view.read (Elt F)) (arg17.view.read (Elt F)) h6)
      (keep2 (arg10.view.read (Elt F)) (arg17.view.read (Elt F)) h7)
      (keep2 (arg10.view.read (Elt F)) (arg17.view.read (Elt F)) h8)
      (keep2 (arg10.view.read (Elt F)) (arg17.view.read (Elt F)) h9)
      (keep2 (arg10.view.read (Elt F)) (arg17.view.read (Elt F)) h10)
      (keep2 (arg10.view.read (Elt F)) (arg17.view.read (Elt F)) h11)
      (keep1 (arg11.view.read (Elt F)) h12) (keep1 (arg11.view.read (Elt F)) h13)
    obtain ⟨e1, e2, e3, e4, e5⟩ := h1.2 e
    exact ⟨congrArg (arg12.view.read (Elt F)) e1, congrArg (arg13.view.read (Elt F)) e2, congrArg (arg14.view.read (Elt F)) e3, congrArg (arg15.view.read (Elt F)) e4, congrArg (arg16.view.read (Elt F)) e5⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Cert.KernelIdeal.Body
-- ==== Proof.Math.lean ====
/-
  Selective attention over extended reals, as the mathematics states it: one batch's scores, their running sums over
  earlier queries, and the attention that uses them. No program is mentioned here.
-/
module

public import Idealize.ShloMosaic.PureOps.Ideal
public import Mathlib.Data.EReal.Inv
public import Mathlib.Analysis.SpecialFunctions.Pow.Real

@[expose] public section

noncomputable section

namespace Cert.Math

open Idealize.ShloMosaic
open scoped Classical

/-- The logits' constant factor. -/
def fac : EReal := ((11863283 / 134217728 : ℝ) : EReal)

/-- One batch's inputs, as extended reals: codes and their scales by head and position, and the documents. -/
structure Batch where
  q : Fin 20 → Fin 1024 → Fin 128 → EReal
  k : Fin 20 → Fin 1024 → Fin 128 → EReal
  v : Fin 20 → Fin 1024 → Fin 128 → EReal
  qs : Fin 20 → Fin 1024 → EReal
  ks : Fin 20 → Fin 1024 → EReal
  vs : Fin 20 → Fin 1024 → EReal
  doc : Fin 1024 → BitVec 32

namespace Batch

variable (B : Batch)

def acc (h : Fin 20) (i j : Fin 1024) : EReal := ∑ d, B.q h i d * B.k h j d
def logit (h : Fin 20) (i j : Fin 1024) : EReal := B.acc h i j * B.qs h i * B.ks h j * fac
/-- Query `i` sees key `j`. -/
def vis (i j : Fin 1024) : Prop := B.doc i = B.doc j ∧ j.val ≤ i.val
/-- A document starts at `j`. -/
def start (j : Fin 1024) : Prop := j.val = 0 ∨ B.doc j ≠ B.doc ⟨(j.val + 1023) % 1024, by omega⟩
/-- Query `i` scores key `j`. -/
def sel (i j : Fin 1024) : Prop := (B.doc i = B.doc j ∧ j.val < i.val) ∧ ¬ B.start j
def score (i j : Fin 1024) : EReal := if B.sel i j then max (B.logit 0 i j) 0 else 0
/-- The score that is summed: an infinite one counts as no number. -/
def st (i j : Fin 1024) : EReal := if B.score i j < ⊤ then B.score i j else ⊥
/-- The scores of the first `n` queries, summed. -/
def sum (n : ℕ) (j : Fin 1024) : EReal := ∑ a ∈ Finset.range n, if h : a < 1024 then B.st ⟨a, h⟩ j else 0
def zz (h : Fin 20) (i j : Fin 1024) : EReal := if B.vis i j then B.logit h i j - B.sum i.val j else ⊥
def top (h : Fin 20) (i : Fin 1024) : EReal := Finset.univ.sup (B.zz h i)
def e (h : Fin 20) (i j : Fin 1024) : EReal := Ideal.exp (B.zz h i j - B.top h i)
def den (h : Fin 20) (i : Fin 1024) : EReal := ∑ j, B.e h i j
/-- The attention's output. -/
def out (h : Fin 20) (i : Fin 1024) (d : Fin 128) : EReal :=
  ∑ j, B.e h i j * Ideal.div 1 (B.den h i) * B.vs h j * B.v h j d

theorem score_nonneg (i j : Fin 1024) : 0 ≤ B.score i j := by
  unfold score; split_ifs
  · exact le_max_right _ _
  · exact le_refl _

end Batch

/-! ## Extended reals -/

/-- A nonnegative number with its two remainders of a split in three. -/
theorem split_sum (s : EReal) (h : 0 ≤ s) : s + ((s - s) + ((s - s) - (s - s))) = if s < ⊤ then s else ⊥ := by
  induction s with
  | bot => exact absurd h (by simp)
  | top => simp
  | coe r =>
    have : ((r : EReal) - r) = 0 := by rw [← EReal.coe_sub, sub_self]; rfl
    rw [this]; simp

theorem sub_mul_coe (a b : EReal) {l : ℝ} (hl : 0 < l) : (a - b) * (l : EReal) = a * l - b * l := by
  rw [sub_eq_add_neg, sub_eq_add_neg, mul_comm, EReal.left_distrib_of_nonneg_of_ne_top (by exact_mod_cast hl.le) (EReal.coe_ne_top _),
    mul_comm (l : EReal) a, mul_comm (l : EReal) (-b), EReal.neg_mul]

/-- Exponents in base two. -/
theorem exp2_log2e (a : EReal) : Ideal.exp2 (a * (((Real.log 2)⁻¹ : ℝ) : EReal)) = Ideal.exp a := by
  have hl : 0 < (Real.log 2)⁻¹ := inv_pos.mpr (Real.log_pos (by norm_num))
  induction a with
  | bot => rw [EReal.bot_mul_coe_of_pos hl]; rfl
  | top => rw [EReal.top_mul_coe_of_pos hl]; rfl
  | coe r =>
    rw [← EReal.coe_mul]
    show ((Real.rpow 2 _ : ℝ) : EReal) = ((Real.exp r : ℝ) : EReal)
    congr 1
    show (2 : ℝ) ^ (r * (Real.log 2)⁻¹) = _
    rw [Real.rpow_def_of_pos (by norm_num)]
    congr 1
    have : Real.log 2 ≠ 0 := (Real.log_pos (by norm_num)).ne'
    field_simp

theorem exp_bot : Ideal.exp ⊥ = 0 := rfl

theorem exp_mem (a : EReal) (h : a ≤ 0) : ∃ r : ℝ, 0 ≤ r ∧ Ideal.exp a = r := by
  induction a with
  | bot => exact ⟨0, le_refl _, rfl⟩
  | top => exact absurd h (by simp)
  | coe r => exact ⟨Real.exp r, (Real.exp_pos r).le, rfl⟩

theorem sub_nonpos_of_le {a b : EReal} (h : a ≤ b) : a - b ≤ 0 := by
  induction b with
  | bot => rw [le_bot_iff.mp h]; simp
  | top =>
    induction a with
    | bot => simp
    | top => simp
    | coe r => simp
  | coe r =>
    induction a with
    | bot => simp
    | top => exact absurd h (by simp)
    | coe r' =>
      rw [← EReal.coe_sub]
      have : r' ≤ r := by exact_mod_cast h
      exact_mod_cast sub_nonpos.mpr this

/-- The numbers in a window of `w` from `k0` on. -/
def wix {w k0 : ℕ} (hk : k0 + w ≤ 1024) (c : Fin w) : Fin 1024 := ⟨k0 + c.val, by omega⟩

theorem sum_window {w k0 : ℕ} (hk : k0 + w ≤ 1024) (g : Fin 1024 → EReal)
    (h0 : ∀ j : Fin 1024, j.val < k0 ∨ k0 + w ≤ j.val → g j = 0) : ∑ c : Fin w, g (wix hk c) = ∑ j, g j := by
  have hinj : Function.Injective (wix hk) := fun a b e => Fin.ext (by
    have := congrArg Fin.val e; simp only [wix] at this; omega)
  refine (Finset.sum_map Finset.univ ⟨wix hk, hinj⟩ g).symm.trans ?_
  refine Finset.sum_subset (Finset.subset_univ _) fun j _ hj => h0 j ?_
  by_contra hc
  refine hj (Finset.mem_map.mpr ⟨⟨j.val - k0, by omega⟩, Finset.mem_univ _, Fin.ext ?_⟩)
  show k0 + (j.val - k0) = j.val
  omega

theorem sup_window {w k0 : ℕ} (hk : k0 + w ≤ 1024) (g : Fin 1024 → EReal)
    (h0 : ∀ j : Fin 1024, j.val < k0 ∨ k0 + w ≤ j.val → g j = ⊥) :
    (Finset.univ.sup fun c : Fin w => g (wix hk c)) = Finset.univ.sup g := by
  refine le_antisymm (Finset.sup_le fun c _ => Finset.le_sup (f := g) (Finset.mem_univ _)) (Finset.sup_le fun j _ => ?_)
  by_cases hc : j.val < k0 ∨ k0 + w ≤ j.val
  · rw [h0 j hc]; exact bot_le
  · have e : j = wix hk ⟨j.val - k0, by omega⟩ := Fin.ext (by show j.val = k0 + (j.val - k0); omega)
    conv_lhs => rw [e]
    exact Finset.le_sup (f := fun c : Fin w => g (wix hk c)) (Finset.mem_univ _)

theorem sup_mul {ι : Type*} (s : Finset ι) (g : ι → EReal) {l : ℝ} (hl : 0 < l) :
    (s.sup fun c => g c * (l : EReal)) = s.sup g * (l : EReal) := by
  have hmono : Monotone fun x : EReal => x * (l : EReal) := fun a b h => mul_le_mul_of_nonneg_right h (by exact_mod_cast hl.le)
  refine (Finset.comp_sup_eq_sup_comp (fun x : EReal => x * (l : EReal)) (fun a b => hmono.map_sup a b) (EReal.bot_mul_coe_of_pos hl)).symm

theorem sum_mul_of {ι : Type*} (s : Finset ι) (g : ι → EReal) {r : EReal} (h0 : 0 ≤ r) (ht : r ≠ ⊤) :
    (∑ c ∈ s, g c) * r = ∑ c ∈ s, g c * r := by
  induction s using Finset.induction_on with
  | empty => simp
  | insert a s ha ih =>
    rw [Finset.sum_insert ha, Finset.sum_insert ha, ← ih, mul_comm, EReal.left_distrib_of_nonneg_of_ne_top h0 ht, mul_comm r, mul_comm r]

theorem coe_sum {ι : Type*} (s : Finset ι) (r : ι → ℝ) : ((∑ c ∈ s, r c : ℝ) : EReal) = ∑ c ∈ s, (r c : EReal) := by
  induction s using Finset.induction_on with
  | empty => simp
  | insert a s ha ih => rw [Finset.sum_insert ha, Finset.sum_insert ha, EReal.coe_add, ih]

/-- A normalised sum: the reciprocal of the exponentials' sum may be taken out. -/
theorem normalise {ι : Type*} [Fintype ι] (e a : ι → EReal) (he : ∀ c, ∃ r : ℝ, 0 ≤ r ∧ e c = r) :
    (∑ c, e c * a c) * Ideal.div 1 (∑ c, e c) = ∑ c, e c * Ideal.div 1 (∑ c, e c) * a c := by
  choose r hr hre using he
  have hS : ∑ c, e c = ((∑ c, r c : ℝ) : EReal) := by
    rw [coe_sum]; exact Finset.sum_congr rfl fun c _ => hre c
  have hS0 : 0 ≤ ∑ c, r c := Finset.sum_nonneg fun c _ => hr c
  rcases hS0.eq_or_lt with h | h
  · have hz : ∀ c, e c = 0 := fun c => by
      rw [hre c, (Finset.sum_eq_zero_iff_of_nonneg fun c _ => hr c).mp h.symm c (Finset.mem_univ _)]; rfl
    simp [hz]
  · have hd : Ideal.div 1 (∑ c, e c) = (((∑ c, r c)⁻¹ : ℝ) : EReal) := by
      rw [hS]; unfold Ideal.div
      rw [if_neg (by exact_mod_cast h.ne'), one_mul, EReal.coe_inv]
    rw [hd, sum_mul_of _ _ (by exact_mod_cast (inv_pos.mpr h).le) (EReal.coe_ne_top _)]
    exact Finset.sum_congr rfl fun c _ => by rw [mul_right_comm]

namespace Batch
variable (B : Batch)

theorem zz_le_top (h : Fin 20) (i j : Fin 1024) : B.zz h i j ≤ B.top h i := Finset.le_sup (Finset.mem_univ _)

theorem e_mem (h : Fin 20) (i j : Fin 1024) : ∃ r : ℝ, 0 ≤ r ∧ B.e h i j = r :=
  exp_mem _ (sub_nonpos_of_le (B.zz_le_top h i j))

/-- The output from a window of keys that holds all the keys the query sees, with base-two exponents. -/
theorem out_window {w k0 : ℕ} (hk : k0 + w ≤ 1024) (h : Fin 20) (i : Fin 1024) (d : Fin 128)
    (hv : ∀ j : Fin 1024, j.val < k0 ∨ k0 + w ≤ j.val → ¬ B.vis i j)
    (z : Fin w → EReal) (hz : ∀ c, z c = B.zz h i (wix hk c) * (((Real.log 2)⁻¹ : ℝ) : EReal)) :
    (∑ c, Ideal.exp2 (z c - Finset.univ.sup z) * B.vs h (wix hk c) * B.v h (wix hk c) d)
        * Ideal.div 1 (∑ c, Ideal.exp2 (z c - Finset.univ.sup z)) = B.out h i d := by
  have hl : 0 < (Real.log 2)⁻¹ := inv_pos.mpr (Real.log_pos (by norm_num))
  have hbot : ∀ j : Fin 1024, j.val < k0 ∨ k0 + w ≤ j.val → B.zz h i j = ⊥ := fun j hj => if_neg (hv j hj)
  have htop : Finset.univ.sup z = B.top h i * (((Real.log 2)⁻¹ : ℝ) : EReal) := by
    rw [show z = fun c => B.zz h i (wix hk c) * (((Real.log 2)⁻¹ : ℝ) : EReal) from funext hz, sup_mul _ _ hl, sup_window hk _ hbot]
    rfl
  have he : ∀ c, Ideal.exp2 (z c - Finset.univ.sup z) = B.e h i (wix hk c) := fun c => by
    rw [htop, hz c, ← sub_mul_coe _ _ hl, exp2_log2e]; rfl
  have he0 : ∀ j : Fin 1024, j.val < k0 ∨ k0 + w ≤ j.val → B.e h i j = 0 := fun j hj => by
    unfold e; rw [hbot j hj, EReal.bot_sub]; rfl
  simp only [he]
  have hd : ∑ c : Fin w, B.e h i (wix hk c) = B.den h i := sum_window hk (B.e h i) he0
  have hn : (∑ c : Fin w, B.e h i (wix hk c) * B.vs h (wix hk c) * B.v h (wix hk c) d)
      = ∑ j, B.e h i j * (B.vs h j * B.v h j d) := by
    rw [← sum_window hk (fun j => B.e h i j * (B.vs h j * B.v h j d)) (fun j hj => by rw [he0 j hj, zero_mul])]
    exact Finset.sum_congr rfl fun c _ => mul_assoc _ _ _
  rw [hd, hn]
  unfold out den
  rw [normalise _ _ (B.e_mem h i)]
  exact Finset.sum_congr rfl fun c _ => by rw [← mul_assoc]

/-- The sum over the first `a + n` queries. -/
theorem sum_add (a n : ℕ) (j : Fin 1024) (hn : a + n ≤ 1024) :
    B.sum (a + n) j = B.sum a j + ∑ r : Fin n, B.st ⟨a + r.val, by omega⟩ j := by
  unfold sum
  rw [Finset.sum_range_add, Finset.sum_range (n := n)]
  congr 1
  exact Finset.sum_congr rfl fun r _ => dif_pos (by omega)

theorem sum_zero (j : Fin 1024) : B.sum 0 j = 0 := rfl

/-- The documents do not decrease. -/
def Sorted : Prop := ∀ i j : Fin 1024, i.val ≤ j.val → (B.doc i).toInt ≤ (B.doc j).toInt

/-- Between two equal documents all are equal. -/
theorem Sorted.between {B : Batch} (hs : B.Sorted) {i j l : Fin 1024} (hij : i.val ≤ j.val) (hjl : j.val ≤ l.val)
    (h : B.doc i = B.doc l) : B.doc j = B.doc l :=
  BitVec.eq_of_toInt_eq (le_antisymm (hs j l hjl) (h ▸ hs i j hij))

theorem st_of_not_sel (i j : Fin 1024) (h : ¬ B.sel i j) : B.st i j = 0 := by
  unfold st score; rw [if_neg h, if_pos (EReal.zero_lt_top)]

end Batch

end Cert.Math
-- ==== Proof.KernelIdeal.Values.lean ====
/-
  `KernelIdeal`: the arithmetic of one block of queries against the last `w` keys, read at an index over the extended reals.
-/
module

public import proofs.«01_k».proof.Proof.KernelIdeal.Generic
public import proofs.«01_k».proof.Proof.Math
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.IdealHost
public import Idealize.ShloMosaic.Lib.WordArith
public import Idealize.ShloMosaic.Lib.ShapeFacts

@[expose] public section

noncomputable section

namespace Cert.KernelIdeal.Value

open Cert.KernelIdeal Cert.Math
open Idealize.ShloMosaic Idealize.ShloMosaic.ValueIdx Idealize.ShloMosaic.WordArith

variable (w : ℕ) [Geo w]

omit [Geo w] in
/-- A row cast to a matrix of one row. -/
theorem row_cast {α : Type} (x : (Row w).Idx → α) (h : (Row w).ShapeCasts (Sh2 1 w)) (c : Fin w) :
    shapeCast (Sh2 1 w) x h (ix2 (0 : Fin 1) c) = x (ix3 (0 : Fin 1) (0 : Fin 1) c) :=
  shapeCast_1ab_ab_apply x h (0 : Fin 1) c

/-- A column along the rows. -/
theorem cols_apply {α : Type} {a b : ℕ} (x : (Sh2 a 1).Idx → α) (h : (Sh2 a 1).Broadcasts (Sh2 a b)) (r : Fin a) (c : Fin b) :
    broadcastTo (Sh2 a b) x h (ix2 r c) = x (ix2 r (0 : Fin 1)) := by
  refine broadcastTo_apply x h (ix2 r c) (ix2 r (0 : Fin 1)) fun ax => ?_
  match ax with
  | ⟨0, _⟩ =>
    by_cases ha : a = 1
    · subst ha; simp
    · simp [ha]
  | ⟨1, _⟩ => simp

omit [Geo w] in
theorem codes_cast {α : Type} {n : ℕ} (x : (⟨4, ![1, 1, n, 128]⟩ : Shape).Idx → α)
    (h : (⟨4, ![1, 1, n, 128]⟩ : Shape).ShapeCasts (Sh2 n 128)) (c : Fin n) (d : Fin 128) :
    shapeCast (Sh2 n 128) x h (ix2 c d) = x (ix4 (0 : Fin 1) (0 : Fin 1) c d) :=
  shapeCast_apply x h _ _ (by
    rw [Shape.rowMajor_val_four, Shape.rowMajor_val_two]
    show ((0 * 1 + 0) * n + c.val) * 128 + d.val = c.val * 128 + d.val
    simp)

theorem same_apply {F : FTy → Type} [FloatOps F] (dk : Vec F (Row w) .i32) (dq : Vec F S1x8x128 .i32) (r : Fin 128) (c : Fin w) :
    same w dk dq (ix2 r c) = BitVec.ofBool (decide (dq (ix3 (0 : Fin 1) (0 : Fin 8) r) = dk (ix3 (0 : Fin 1) (0 : Fin 1) c))) := by
  unfold same
  show IntOp.cmpi .eq _ _ = _
  rw [cols_apply, broadcastTo_1b_ab_apply, row_cast,
    slice2_axis1_apply 0 _ _ r (0 : Fin 1) (0 : Fin 8) rfl, transpose_ix2_apply, shapeCast_1ab_ab_apply]
  simp [IntOp.cmpi, beq_eq_decide]

theorem acc_apply (q : Vec Ideal S1x1x128x128 .fp8e4m3) (k : Vec Ideal (Codes w) .fp8e4m3) (r : Fin 128) (c : Fin w) :
    acc w q k (ix2 r c) = ∑ d : Fin 128, q (ix4 (0 : Fin 1) (0 : Fin 1) r d) * k (ix4 (0 : Fin 1) (0 : Fin 1) c d) := by
  unfold acc
  refine (Ideal.matmul_transposedRhs_apply none _ _ _ r c).trans ?_
  rw [constant_apply, Ideal.ofBits_zero_f32, zero_add]
  refine Finset.sum_congr rfl fun d _ => ?_
  rw [codes_cast, codes_cast]

theorem over_apply (x : Vec Ideal (Row w) .f32) (r : Fin 128) (c : Fin w) :
    over w x (ix2 r c) = x (ix3 (0 : Fin 1) (0 : Fin 1) c) := by
  unfold over
  rw [broadcastTo_1b_ab_apply, row_cast]

theorem qcols_apply (qs : Vec Ideal S1x20x128 .f32) (r : Fin 128) (h : Fin 20) :
    qcols qs (ix2 r h) = qs (ix3 (0 : Fin 1) h r) := by
  unfold qcols
  rw [transpose_ix2_apply, shapeCast_1ab_ab_apply]

theorem qcol_apply (qs : Vec Ideal S1x20x128 .f32) (r : Fin 128) (h : Fin 20) (hh : S128x20.Slices ![0, h.val] (Sh2 128 1)) :
    extractStridedSlice (Sh2 128 1) ![0, h.val] (qcols qs) hh (ix2 r (0 : Fin 1)) = qs (ix3 (0 : Fin 1) h r) := by
  rw [slice2_axis1_apply h.val _ _ r (0 : Fin 1) h rfl, qcols_apply]

/-! ## Positions -/

theorem kpos_word {t n k0 m : ℕ} (hw : w = 128 * n) (hn : n + m = t + 1) (ht : t < 8) (hk : k0 = 128 * m) :
    Scalar.muli (Scalar.subi (Scalar.addi (BitVec.ofNat 32 t) 1#32) (BitVec.ofNat 32 n)) 128#32 = BitVec.ofNat 32 k0 := by
  have hn8 : n ≤ 8 := by omega
  have hm : m ≤ 8 := by omega
  subst hk
  obtain ⟨t', rfl⟩ : ∃ t', t' = t := ⟨t, rfl⟩
  have ht' : t' = n + m - 1 := by omega
  subst ht'
  interval_cases n <;> interval_cases m <;> first | omega | rfl

theorem kpos_apply (t n : BitVec 32) {k0 : ℕ}
    (h0 : Scalar.muli (Scalar.subi (Scalar.addi t 1#32) n) 128#32 = BitVec.ofNat 32 k0) (c : Fin w) :
    kpos w t n (ix2 (0 : Fin 1) c) = BitVec.ofNat 32 (k0 + c.val) := by
  unfold kpos
  show IntOp.addi _ _ = _
  rw [broadcast_apply, h0]
  refine (congrArg (IntOp.addi _) (iota_single_apply .tc (Sh2 1 w) 32 1 _ _)).trans ?_
  show BitVec.ofNat 32 k0 + BitVec.ofNat 32 c.val = _
  rw [← BitVec.ofNat_add]

theorem qpos_apply {t : ℕ} (r : Fin 128) :
    qpos (BitVec.ofNat 32 t) (ix2 r (0 : Fin 1)) = BitVec.ofNat 32 (128 * t + r.val) := by
  unfold qpos
  show IntOp.addi _ _ = _
  rw [broadcast_apply]
  refine (congrArg (IntOp.addi _) (iota_single_apply .tc (Sh2 128 1) 32 0 _ _)).trans ?_
  show BitVec.ofNat 32 t * 128#32 + BitVec.ofNat 32 r.val = _
  rw [Nat.mul_comm, BitVec.ofNat_add, BitVec.ofNat_mul]

omit [Geo w] in
theorem sle_small {a b : ℕ} (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  rw [BitVec.sle_eq_decide, toInt_ofNat_small _ ha, toInt_ofNat_small _ hb]
  simp

omit [Geo w] in
theorem slt_small {a b : ℕ} (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt_eq_decide, toInt_ofNat_small _ ha, toInt_ofNat_small _ hb]
  simp

omit [Geo w] in
theorem select_ofBool {α : Type} (p : Prop) [Decidable p] (a b : α) :
    Scalar.select (BitVec.ofBool (decide p)) a b = if p then a else b := by
  by_cases h : p <;> simp [h, Scalar.select]

section Masks

variable {F : FTy → Type} [FloatOps F] {t k0 : ℕ} {n : BitVec 32} (ht : t < 8) (hk : k0 + w ≤ 1024)
  (h0 : Scalar.muli (Scalar.subi (Scalar.addi (BitVec.ofNat 32 t) 1#32) n) 128#32 = BitVec.ofNat 32 k0)
include ht hk h0

theorem visible_apply (dk : Vec F (Row w) .i32) (dq : Vec F S1x8x128 .i32) (r : Fin 128) (c : Fin w) :
    visible w (BitVec.ofNat 32 t) n dk dq (ix2 r c) = BitVec.ofBool (decide
      (dq (ix3 (0 : Fin 1) (0 : Fin 8) r) = dk (ix3 (0 : Fin 1) (0 : Fin 1) c) ∧ k0 + c.val ≤ 128 * t + r.val)) := by
  unfold visible
  show IntOp.andi (same w dk dq (ix2 r c)) (IntOp.cmpi .sle _ _) = _
  rw [same_apply, cols_apply, broadcastTo_1b_ab_apply, kpos_apply w _ _ h0, qpos_apply, sle_small (by omega) (by omega), andi_ofBool,
    Bool.decide_and]

theorem selectable_apply (dk : Vec F (Row w) .i32) (dq : Vec F S1x8x128 .i32) (st : Vec F (Row w) .i32) (r : Fin 128) (c : Fin w) :
    selectable w (BitVec.ofNat 32 t) n dk dq st (ix2 r c) = BitVec.ofBool (decide
      ((dq (ix3 (0 : Fin 1) (0 : Fin 8) r) = dk (ix3 (0 : Fin 1) (0 : Fin 1) c) ∧ k0 + c.val < 128 * t + r.val)
        ∧ st (ix3 (0 : Fin 1) (0 : Fin 1) c) = 0#32)) := by
  unfold selectable
  show IntOp.andi (IntOp.andi (same w dk dq (ix2 r c)) (IntOp.cmpi .slt _ _)) _ = _
  rw [same_apply, cols_apply, broadcastTo_1b_ab_apply, kpos_apply w _ _ h0, qpos_apply, slt_small (by omega) (by omega), andi_ofBool,
    broadcastTo_1b_ab_apply]
  show IntOp.andi _ (IntOp.cmpi .eq _ _) = _
  rw [row_cast, broadcast_apply]
  show IntOp.andi _ (BitVec.ofBool _) = _
  rw [andi_ofBool, Bool.decide_and, Bool.decide_and, beq_eq_decide]

end Masks

/-! ## Scores and their sums -/

omit [Geo w] in
theorem fac_bits : Ideal.ofBits .f32 0x3DB504F3#32 = fac := by
  unfold fac
  simp [Ideal.ofBits, Ideal.ieee, -EReal.coe_mul]
  norm_num

theorem score_apply (qc : FVec Ideal S128x20 .f32) (sel : IVec (Sh2 128 w) 1) (q : Vec Ideal S1x1x128x128 .fp8e4m3)
    (k : Vec Ideal (Codes w) .fp8e4m3) (ks : Vec Ideal (Row w) .f32) (r : Fin 128) (c : Fin w) :
    score w qc sel q k ks (ix2 r c) = Scalar.select (sel (ix2 r c))
      (max (acc w q k (ix2 r c) * qc (ix2 r (0 : Fin 20)) * ks (ix3 (0 : Fin 1) (0 : Fin 1) c) * fac) 0) 0 := by
  unfold score
  rw [select_apply, maximumf_apply, mulf_apply, mulf_apply, mulf_apply, cols_apply, over_apply,
    slice2_axis1_apply 0 _ _ r (0 : Fin 1) (0 : Fin 20) rfl]
  simp only [broadcast_apply]
  show Scalar.select _ (max (_ * Ideal.ofBits .f32 0x3DB504F3#32) (Ideal.ofBits .f32 0x00000000#32)) (Ideal.ofBits .f32 0x00000000#32) = _
  rw [fac_bits, Ideal.ofBits_zero_f32]

omit [Geo w] in
theorem part_apply (r : Fin 144) (k : Fin 384) : part (ix2 r k) = BitVec.ofNat 32 (k.val % 128) := by
  have key : ∀ k : Fin 384, (
      let d : BitVec 32 := Scalar.select (Scalar.cmpi .eq 128#32 0#32) 1#32 128#32
      let x : BitVec 32 := IntOp.remsi .vector (BitVec.ofNat 32 k.val) d
      Scalar.select (IntOp.andi (IntOp.xori (IntOp.cmpi .slt x 0#32) (Scalar.cmpi .slt d 0#32)) (IntOp.cmpi .ne x 0#32))
        (IntOp.addi x d) x) = BitVec.ofNat 32 (k.val % 128) := by decide +kernel
  refine Eq.trans ?_ (key k)
  have hio := iota_single_apply .tc (Sh2 144 384) 32 1 (by decide) (ix2 r k)
  unfold part
  simp only [select_apply]
  show Scalar.select (IntOp.andi (IntOp.xori (IntOp.cmpi .slt (IntOp.remsi _ (iota .tc (Sh2 144 384) 32 [1] _ (ix2 r k)) _) _) _) (IntOp.cmpi .ne (IntOp.remsi _ (iota .tc (Sh2 144 384) 32 [1] _ (ix2 r k)) _) _))
    (IntOp.addi (IntOp.remsi _ (iota .tc (Sh2 144 384) 32 [1] _ (ix2 r k)) _) _) (IntOp.remsi _ (iota .tc (Sh2 144 384) 32 [1] _ (ix2 r k)) _) = _
  rw [hio]
  rfl

omit [Geo w] in
theorem mask_apply (r : Fin 144) (k : Fin 384) :
    (truncf .bf16 (sitofp .f32 (extui 32 (cmpi .slt part (iota .tc (Sh2 144 384) 32 [0] (by decide))) (by decide)))
      (by decide) : FVec Ideal (Sh2 144 384) .bf16) (ix2 r k) = if k.val % 128 < r.val then 1 else 0 := by
  rw [truncf_apply, sitofp_apply, extui_apply]
  show FloatOps.sitofp .f32 ((IntOp.cmpi .slt (part (ix2 r k)) (iota .tc (Sh2 144 384) 32 [0] _ (ix2 r k))).setWidth 32) = _
  rw [part_apply, iota_single_apply .tc (Sh2 144 384) 32 0 (by decide) (ix2 r k)]
  rw [slt_small (by omega) (by show r.val < _; omega)]
  by_cases h : k.val % 128 < r.val
  · simp [h, FloatOps.sitofp]
  · simp [h, FloatOps.sitofp]

theorem cat_apply {α : Type} (x y z : (Sh2 128 w).Idx → α) (r : Fin 128) (c : Fin w)
    (h : Shape.Concatenates [Sh2 128 w, Sh2 128 w, Sh2 128 w] (Sh2 384 w) 0) :
    concatenate (Sh2 384 w) 0 [⟨Sh2 128 w, x⟩, ⟨Sh2 128 w, y⟩, ⟨Sh2 128 w, z⟩] h (ix2 ⟨r.val, by omega⟩ c) = x (ix2 r c)
    ∧ concatenate (Sh2 384 w) 0 [⟨Sh2 128 w, x⟩, ⟨Sh2 128 w, y⟩, ⟨Sh2 128 w, z⟩] h (ix2 ⟨128 + r.val, by omega⟩ c) = y (ix2 r c)
    ∧ concatenate (Sh2 384 w) 0 [⟨Sh2 128 w, x⟩, ⟨Sh2 128 w, y⟩, ⟨Sh2 128 w, z⟩] h (ix2 ⟨256 + r.val, by omega⟩ c) = z (ix2 r c) := by
  have hi : ∀ (j : Fin 384) (b : Fin (Sh2 128 w).rank), b.cast (rfl : (Sh2 128 w).rank = (Sh2 384 w).rank) ≠ (0 : Fin 2) →
      ((ix2 r c : (Sh2 128 w).Idx) b).val = ((ix2 j c : (Sh2 384 w).Idx) (b.cast rfl)).val := fun j b hb => by
    match b with
    | ⟨0, _⟩ => exact absurd rfl hb
    | ⟨1, _⟩ => rfl
  refine ⟨?_, ?_, ?_⟩
  · exact concatenate_apply_piece (t := Sh2 384 w) (0 : Fin 2) [⟨Sh2 128 w, x⟩, ⟨Sh2 128 w, y⟩, ⟨Sh2 128 w, z⟩] h _ 0 (Nat.succ_pos 2)
      (Sh2 128 w) x rfl rfl 0 rfl (ix2 r c) (hi _) (Nat.zero_add _)
  · exact concatenate_apply_piece (t := Sh2 384 w) (0 : Fin 2) [⟨Sh2 128 w, x⟩, ⟨Sh2 128 w, y⟩, ⟨Sh2 128 w, z⟩] h _ 1 (Nat.lt_of_lt_of_le Nat.one_lt_two (Nat.le_succ 2))
      (Sh2 128 w) y rfl rfl 128 rfl (ix2 r c) (hi _) rfl
  · exact concatenate_apply_piece (t := Sh2 384 w) (0 : Fin 2) [⟨Sh2 128 w, x⟩, ⟨Sh2 128 w, y⟩, ⟨Sh2 128 w, z⟩] h _ 2 (Nat.lt_succ_self 2)
      (Sh2 128 w) z rfl rfl 256 rfl (ix2 r c) (hi _) rfl

theorem split3_apply (s : FVec Ideal (Sh2 128 w) .f32) (r : Fin 128) (c : Fin w) :
    split3 w s (ix2 ⟨r.val, by omega⟩ c) = s (ix2 r c)
    ∧ split3 w s (ix2 ⟨128 + r.val, by omega⟩ c) = s (ix2 r c) - s (ix2 r c)
    ∧ split3 w s (ix2 ⟨256 + r.val, by omega⟩ c) = (s (ix2 r c) - s (ix2 r c)) - (s (ix2 r c) - s (ix2 r c)) := by
  unfold split3
  exact cat_apply w _ _ _ r c Geo.cat

/-- The sums over the rows before `r`, of nonnegative scores. -/
theorem sums_apply (s : FVec Ideal (Sh2 128 w) .f32) (h0 : ∀ i, 0 ≤ s i) (r : Fin 144) (c : Fin w) :
    sums w (split3 w s) (ix2 r c)
      = ∑ a : Fin 128, if a.val < r.val then (if s (ix2 a c) < ⊤ then s (ix2 a c) else ⊥) else 0 := by
  unfold sums
  refine (Ideal.matmul_plain_apply none _ _ _ r c).trans ?_
  rw [constant_apply, Ideal.ofBits_zero_f32, zero_add]
  refine (Finset.sum_congr rfl fun k _ => congrArg (· * _) (mask_apply r k)).trans ?_
  have e : ∀ g : Fin 384 → EReal, ∑ k, g k = ∑ a : Fin 128,
      (g ⟨a.val, by omega⟩ + (g ⟨128 + a.val, by omega⟩ + g ⟨256 + a.val, by omega⟩)) := fun g => by
    rw [Finset.sum_add_distrib, Finset.sum_add_distrib]
    refine (Fin.sum_univ_add (a := 128) (b := 256) g).trans ?_
    refine congrArg₂ (· + ·) rfl ?_
    refine (Fin.sum_univ_add (a := 128) (b := 128) fun k : Fin 256 => g (Fin.natAdd 128 k)).trans ?_
    refine congrArg₂ (· + ·) rfl ?_
    refine Finset.sum_congr rfl fun a _ => congrArg g (Fin.ext ?_)
    show 128 + (128 + a.val) = 256 + a.val
    omega
  rw [e]
  refine Finset.sum_congr rfl fun a _ => ?_
  obtain ⟨e1, e2, e3⟩ := split3_apply w s a c
  rw [e1, e2, e3]
  have m1 : a.val % 128 = a.val := Nat.mod_eq_of_lt a.isLt
  have m2 : (128 + a.val) % 128 = a.val := by omega
  have m3 : (256 + a.val) % 128 = a.val := by omega
  simp only [m1, m2, m3]
  by_cases h : a.val < r.val
  · simp only [if_pos h, one_mul]
    exact split_sum _ (h0 _)
  · simp only [if_neg h, zero_mul, add_zero]

theorem carryNext_apply (parts : FVec Ideal (Sh2 384 w) .bf16) (carry : Vec Ideal (Sh2 8 w) .f32) (r : Fin 8) (c : Fin w) :
    carryNext w parts carry (ix2 r c) = carry (ix2 r c) + sums w parts (ix2 ⟨128 + r.val, by omega⟩ c) := by
  unfold carryNext
  refine (shapeCast_apply _ _ (ix2 r c) (ix2 r c) rfl).trans ?_
  rw [addf_apply, slice2_axis0_apply 128 _ _ r c ⟨128 + r.val, by omega⟩ rfl]

omit [Geo w] in
theorem top_bits : Ideal.ofBits .f32 0x7F800000#32 = ⊤ := by
  simp [Ideal.ofBits, Ideal.ieee]

omit [Geo w] in
theorem bot_bits : Ideal.ofBits .f32 0xFF800000#32 = ⊥ := by
  simp [Ideal.ofBits, Ideal.ieee]

theorem taken_apply (vis : IVec (Sh2 128 w) 1) (parts : FVec Ideal (Sh2 384 w) .bf16) (carry : Vec Ideal (Sh2 8 w) .f32)
    (r : Fin 128) (c : Fin w) :
    taken w vis parts carry (ix2 r c) = Scalar.select (vis (ix2 r c))
      ((sums w parts (ix2 ⟨r.val, by omega⟩ c) + carry (ix2 (0 : Fin 8) c)) * (((Real.log 2)⁻¹ : ℝ) : EReal)) ⊤ := by
  unfold taken
  rw [select_apply, mulf_apply, addf_apply, slice2_axis0_apply 0 _ _ r c ⟨r.val, by omega⟩ (by simp), broadcastTo_1b_ab_apply,
    slice2_axis0_apply 0 _ _ (0 : Fin 1) c (0 : Fin 8) rfl]
  simp only [broadcast_apply]
  rw [IdealRules.named_const.ideal_named_scalar κ "log2e" (φ := .f32) 0x3FB8AA3B#32 (((Real.log 2)⁻¹ : ℝ) : EReal) rfl]
  show Scalar.select _ _ (Ideal.ofBits .f32 0x7F800000#32) = _
  rw [top_bits]

/-! ## Exponents, exponentials, and the output -/

theorem expo_apply (h : Fin 20) (hh : S128x20.Slices ![0, h.val] (Sh2 128 1)) (qc : FVec Ideal S128x20 .f32)
    (q : Vec Ideal S1x1x128x128 .fp8e4m3) (k : Vec Ideal (Codes w) .fp8e4m3) (ks : Vec Ideal (Row w) .f32)
    (fm : FVec Ideal (Sh2 128 w) .f32) (r : Fin 128) (c : Fin w) :
    expo w h.val hh qc q k ks fm (ix2 r c)
      = acc w q k (ix2 r c) * (qc (ix2 r h) * (((11863283 / 134217728) * (Real.log 2)⁻¹ : ℝ) : EReal))
          * ks (ix3 (0 : Fin 1) (0 : Fin 1) c) - fm (ix2 r c) := by
  unfold expo
  rw [subf_apply, mulf_apply, mulf_apply, cols_apply, mulf_apply, over_apply, broadcast_apply,
    slice2_axis1_apply h.val _ _ r (0 : Fin 1) h (by simp),
    IdealRules.named_const.ideal_named_scalar κ "sm_log2e" (φ := .f32) 0x3E0293EE#32
      (((11863283 / 134217728) * (Real.log 2)⁻¹ : ℝ) : EReal) rfl]

theorem lift_row (h : (Sh2 128 w).Reduces [1] ⟨1, ![128]⟩) (r : Fin 128) (c : Fin w) : h.lift (ix1 r) c = ix2 r c := by
  funext ax
  refine Fin.ext ?_
  match ax with
  | ⟨0, _⟩ => rfl
  | ⟨1, _⟩ => rfl

theorem rowmax_apply (z : FVec Ideal (Sh2 128 w) .f32) (r : Fin 128) :
    multiReduction .maximumf [1] ⟨1, ![128]⟩ z 0xFF800000#32 Geo.red (.inl rfl) rfl (ix1 r)
      = Finset.univ.sup fun c : Fin w => z (ix2 r c) := by
  refine (Ideal.multiReduction_maximumf_single (a := (1 : Fin 2)) z _ _ _ _ _).trans ?_
  have e : (FloatOps.ofBits (F := Ideal) .f32 0xFF800000#32 : EReal) = ⊥ := bot_bits
  show Finset.fold max (FloatOps.ofBits (F := Ideal) .f32 0xFF800000#32 : EReal) _ _ = _
  rw [e]
  show (Finset.univ : Finset (Fin w)).sup _ = _
  exact Finset.sup_congr rfl fun c _ => congrArg z (lift_row w _ r c)

theorem rowsum_apply (z : FVec Ideal (Sh2 128 w) .f32) (r : Fin 128) :
    multiReduction .add [1] ⟨1, ![128]⟩ z 0x00000000#32 Geo.red (.inl rfl) rfl (ix1 r)
      = ∑ c : Fin w, z (ix2 r c) := by
  refine (Ideal.multiReduction_add_single (s := Sh2 128 w) (t := ⟨1, ![128]⟩) (a := (1 : Fin 2)) z 0x00000000#32 Geo.red (.inl rfl) rfl
    (ix1 r)).trans ?_
  exact Finset.sum_congr rfl fun c _ => congrArg z (lift_row w Geo.red r c)

theorem expos_apply (z : FVec Ideal (Sh2 128 w) .f32) (r : Fin 128) (c : Fin w) :
    expos w z (ix2 r c) = Ideal.exp2 (z (ix2 r c) - Finset.univ.sup fun c : Fin w => z (ix2 r c)) := by
  unfold expos
  show Ideal.exp2 (subf z _ (ix2 r c)) = _
  rw [subf_apply, cols_apply, shapeCast_a_a1_apply, rowmax_apply]

theorem mix_apply (p : FVec Ideal (Sh2 128 w) .f32) (vs : Vec Ideal (Row w) .f32) (v : Vec Ideal (Codes w) .fp8e4m3)
    (r : Fin 128) (d : Fin 128) :
    mix w p vs v (ix3 (0 : Fin 1) r d)
      = (∑ c : Fin w, p (ix2 r c) * vs (ix3 (0 : Fin 1) (0 : Fin 1) c) * v (ix4 (0 : Fin 1) (0 : Fin 1) c d))
        * Ideal.div 1 (∑ c : Fin w, p (ix2 r c)) := by
  unfold mix
  refine (shapeCast_ab_1ab_apply _ _ _ _ _).trans ?_
  rw [truncf_apply, mulf_apply, cols_apply, divf_apply, broadcast_apply, shapeCast_a_a1_apply, rowsum_apply]
  refine congrArg₂ (· * ·) ?_ ?_
  · refine (Ideal.matmul_plain_apply none _ _ _ r d).trans ?_
    rw [constant_apply, Ideal.ofBits_zero_f32, zero_add]
    refine Finset.sum_congr rfl fun c _ => ?_
    rw [truncf_apply, mulf_apply, over_apply, codes_cast]
  · show Ideal.div (Ideal.ofBits .f32 0x3F800000#32) _ = _
    rw [Ideal.ofBits_one_f32]

end Cert.KernelIdeal.Value
-- ==== Proof.KernelIdeal.Block.lean ====
/-
  `KernelIdeal`: what one block of queries computes, in terms of the batch's mathematics. The block sees the last `w` keys before its
  own end; a key outside of them must be one that none of its queries sees.
-/
module

public import proofs.«01_k».proof.Proof.KernelIdeal.Values

@[expose] public section

noncomputable section

namespace Cert.KernelIdeal.Value

open Cert.KernelIdeal Cert.Math
open Idealize.ShloMosaic Idealize.ShloMosaic.ValueIdx Idealize.ShloMosaic.WordArith
open scoped Classical

variable (w : ℕ) [Geo w]

/-! ## Loads at an index -/

section Loads

variable {F : FTy → Type} {b h k0 q0 : ℕ} (hb : b < 2) (hh : h < 20) (hk : k0 + w ≤ 1024) (hq : q0 + 128 ≤ 1024)

omit [Geo w] in
theorem ldScale_apply (X : Vec F S2x20x1024 .f32) (c : Fin w) :
    ldScale w hb hh hk X (ix3 (0 : Fin 1) (0 : Fin 1) c) = X (ix3 (⟨b, hb⟩ : Fin 2) (⟨h, hh⟩ : Fin 20) (wix hk c)) :=
  congrArg X (funext fun ax => Fin.ext (by
    match ax with
    | ⟨0, _⟩ => show b + 1 * 0 = b; omega
    | ⟨1, _⟩ => show h + 1 * 0 = h; omega
    | ⟨2, _⟩ => show k0 + 1 * c.val = k0 + c.val; omega))

omit [Geo w] in
theorem ldWord_apply (X : Vec F S2x8x1024 .i32) (c : Fin w) :
    ldWord w hb hk X (ix3 (0 : Fin 1) (0 : Fin 1) c) = X (ix3 (⟨b, hb⟩ : Fin 2) (0 : Fin 8) (wix hk c)) :=
  congrArg X (funext fun ax => Fin.ext (by
    match ax with
    | ⟨0, _⟩ => show b + 1 * 0 = b; omega
    | ⟨1, _⟩ => rfl
    | ⟨2, _⟩ => show k0 + 1 * c.val = k0 + c.val; omega))

omit [Geo w] in
theorem ldCodes_apply (X : Vec F S1x20x1024x128 .fp8e4m3) (c : Fin w) (d : Fin 128) :
    ldCodes w hh hk X (ix4 (0 : Fin 1) (0 : Fin 1) c d) = X (ix4 (0 : Fin 1) (⟨h, hh⟩ : Fin 20) (wix hk c) d) :=
  congrArg X (funext fun ax => Fin.ext (by
    match ax with
    | ⟨0, _⟩ => rfl
    | ⟨1, _⟩ => show h + 1 * 0 = h; omega
    | ⟨2, _⟩ => show k0 + 1 * c.val = k0 + c.val; omega
    | ⟨3, _⟩ => show 0 + 1 * d.val = d.val; omega))

theorem ldQueries_apply (X : Vec F S1x20x128x128 .fp8e4m3) (r d : Fin 128) :
    ldQueries hh X (ix4 (0 : Fin 1) (0 : Fin 1) r d) = X (ix4 (0 : Fin 1) (⟨h, hh⟩ : Fin 20) r d) :=
  congrArg X (funext fun ax => Fin.ext (by
    match ax with
    | ⟨0, _⟩ => rfl
    | ⟨1, _⟩ => show h + 1 * 0 = h; omega
    | ⟨2, _⟩ => show 0 + 1 * r.val = r.val; omega
    | ⟨3, _⟩ => show 0 + 1 * d.val = d.val; omega))

theorem ldQs_apply (X : Vec Ideal S2x20x1024 .f32) (r : Fin 128) (h : Fin 20) :
    ldQs hb hq X (ix2 r h) = X (ix3 (⟨b, hb⟩ : Fin 2) h (wix hq r)) := by
  unfold ldQs
  rw [qcols_apply]
  exact congrArg X (funext fun ax => Fin.ext (by
    match ax with
    | ⟨0, _⟩ => show b + 1 * 0 = b; omega
    | ⟨1, _⟩ => show 0 + 1 * h.val = h.val; omega
    | ⟨2, _⟩ => show q0 + 1 * r.val = q0 + r.val; omega))

theorem ldDq_apply (X : Vec F S2x8x1024 .i32) (r : Fin 128) :
    ldDq hb hq X (ix3 (0 : Fin 1) (0 : Fin 8) r) = X (ix3 (⟨b, hb⟩ : Fin 2) (0 : Fin 8) (wix hq r)) :=
  congrArg X (funext fun ax => Fin.ext (by
    match ax with
    | ⟨0, _⟩ => show b + 1 * 0 = b; omega
    | ⟨1, _⟩ => rfl
    | ⟨2, _⟩ => show q0 + 1 * r.val = q0 + r.val; omega))

omit [Geo w] in
theorem ldCarry_apply (X : Vec F S8x1024 .f32) (r : Fin 8) (c : Fin w) :
    ldCarry w hk X (ix2 r c) = X (ix2 r (wix hk c)) :=
  congrArg X (funext fun ax => Fin.ext (by
    match ax with
    | ⟨0, _⟩ => show 0 + 1 * r.val = r.val; omega
    | ⟨1, _⟩ => show k0 + 1 * c.val = k0 + c.val; omega))

end Loads

/-- The buffers hold batch `b`, and block `t`'s queries. -/
structure Holds (B : Batch) (b : Fin 2) (t : ℕ) (X2 : Vec Ideal S1x20x128x128 .fp8e4m3) (X3 X4 : Vec Ideal S1x20x1024x128 .fp8e4m3)
    (X12 X13 X14 : Vec Ideal S2x20x1024 .f32) (X15 X16 : Vec Ideal S2x8x1024 .i32) : Prop where
  ht : t < 8
  q : ∀ h (r : Fin 128) d, X2 (ix4 (0 : Fin 1) h r d) = B.q h ⟨128 * t + r.val, by omega⟩ d
  k : ∀ h j d, X3 (ix4 (0 : Fin 1) h j d) = B.k h j d
  v : ∀ h j d, X4 (ix4 (0 : Fin 1) h j d) = B.v h j d
  qs : ∀ h j, X12 (ix3 b h j) = B.qs h j
  ks : ∀ h j, X13 (ix3 b h j) = B.ks h j
  vs : ∀ h j, X14 (ix3 b h j) = B.vs h j
  doc : ∀ j, X15 (ix3 b (0 : Fin 8) j) = B.doc j
  start : ∀ j, X16 (ix3 b (0 : Fin 8) j) = if B.start j then 1#32 else 0#32

section Point

variable {B : Batch} {t b q0 k0 : ℕ} {n : BitVec 32} (hb : b < 2) (hq : q0 + 128 ≤ 1024) (hk : k0 + w ≤ 1024)
  {X2 : Vec Ideal S1x20x128x128 .fp8e4m3} {X3 X4 : Vec Ideal S1x20x1024x128 .fp8e4m3}
  {X12 X13 X14 : Vec Ideal S2x20x1024 .f32} {X15 X16 : Vec Ideal S2x8x1024 .i32} {X17 : Vec Ideal S8x1024 .f32}
  (H : Holds B ⟨b, hb⟩ t X2 X3 X4 X12 X13 X14 X15 X16) (hqt : q0 = 128 * t)
  (h0 : Scalar.muli (Scalar.subi (Scalar.addi (BitVec.ofNat 32 t) 1#32) n) 128#32 = BitVec.ofNat 32 k0)
include H hqt h0

omit h0 [Geo w] in
theorem acc_at [Geo w] (h : Fin 20) (r : Fin 128) (c : Fin w) :
    acc w (ldQueries h.isLt X2) (ldCodes w h.isLt hk X3) (ix2 r c) = B.acc h (wix hq r) (wix hk c) := by
  subst hqt
  rw [acc_apply]
  unfold Batch.acc
  refine Finset.sum_congr rfl fun d _ => ?_
  rw [ldQueries_apply, ldCodes_apply]
  exact congrArg₂ (· * ·) (H.q h r d) (H.k h _ d)

theorem visible_at (r : Fin 128) (c : Fin w) :
    visible w (BitVec.ofNat 32 t) n (ldWord w hb hk X15) (ldDq hb hq X15) (ix2 r c)
      = BitVec.ofBool (decide (B.vis (wix hq r) (wix hk c))) := by
  subst hqt
  rw [visible_apply w H.ht hk h0, ldDq_apply, ldWord_apply, H.doc, H.doc]
  congr 1
  exact decide_eq_decide.mpr Iff.rfl

theorem selectable_at (r : Fin 128) (c : Fin w) :
    selectable w (BitVec.ofNat 32 t) n (ldWord w hb hk X15) (ldDq hb hq X15) (ldWord w hb hk X16) (ix2 r c)
      = BitVec.ofBool (decide (B.sel (wix hq r) (wix hk c))) := by
  subst hqt
  rw [selectable_apply w H.ht hk h0, ldDq_apply, ldWord_apply, ldWord_apply, H.doc, H.doc, H.start]
  congr 1
  refine decide_eq_decide.mpr (and_congr Iff.rfl ?_)
  by_cases e : B.start (wix hk c)
  · simp [e]
  · simp [e]

theorem score_at (r : Fin 128) (c : Fin w) :
    score w (ldQs hb hq X12)
      (selectable w (BitVec.ofNat 32 t) n (ldWord w hb hk X15) (ldDq hb hq X15) (ldWord w hb hk X16))
      (ldQueries (h := 0) (by omega) X2) (ldCodes w (h := 0) (by omega) hk X3) (ldScale w (h := 0) hb (by omega) hk X13) (ix2 r c)
      = B.score (wix hq r) (wix hk c) := by
  rw [score_apply, selectable_at w hb hq hk H hqt h0, select_ofBool]
  refine (congrArg (fun a => ite _ (max (a * _ * _ * _) _) _) (acc_at w hb hq hk H hqt (0 : Fin 20) r c)).trans ?_
  rw [ldQs_apply, ldScale_apply]
  have e1 := H.qs 0 (wix hq r)
  have e2 := H.ks 0 (wix hk c)
  show ite _ (max (_ * X12 _ * X13 (ix3 (⟨b, hb⟩ : Fin 2) (0 : Fin 20) (wix hk c)) * _) _) _ = _
  rw [e1, e2]
  rfl

/-- A row of the sums: the scores of the block's queries before it. -/
theorem sums_at (r : Fin 144) (c : Fin w) :
    sums w (partsAt w (BitVec.ofNat 32 t) n hb hq hk X2 X3 X12 X13 X15 X16) (ix2 r c)
      = ∑ a : Fin 128, if a.val < r.val then B.st (wix hq a) (wix hk c) else 0 := by
  unfold partsAt
  have hs := score_at w hb hq hk H hqt h0
  rw [sums_apply]
  · refine Finset.sum_congr rfl fun a _ => ?_
    rw [hs a c]
    by_cases h : a.val < r.val
    · rw [if_pos h, if_pos h]; rfl
    · rw [if_neg h, if_neg h]
  · intro i
    obtain ⟨a, c', rfl⟩ : ∃ (a : Fin 128) (c' : Fin w), i = ix2 a c' := ⟨i 0, i 1, eq_ix2 i⟩
    exact (hs a c').symm ▸ B.score_nonneg _ _

omit H hqt h0 [Geo w] in
theorem sum_rows (r : ℕ) (hr : r ≤ 128) (j : Fin 1024) :
    B.sum q0 j + (∑ a : Fin 128, if a.val < r then B.st (wix hq a) j else 0) = B.sum (q0 + r) j := by
  rw [B.sum_add q0 r j (by omega)]
  congr 1
  have e := Fin.sum_univ_eq_sum_range (fun a => if a < r then (if h : q0 + a < 1024 then B.st ⟨q0 + a, h⟩ j else 0) else 0) 128
  have e' := Fin.sum_univ_eq_sum_range (fun a => if h : q0 + a < 1024 then B.st ⟨q0 + a, h⟩ j else 0) r
  refine Eq.trans (Finset.sum_congr rfl fun a _ => ?_) (e.trans (Eq.trans ?_ (e'.symm.trans (Finset.sum_congr rfl fun a _ => ?_))))
  · have : q0 + a.val < 1024 := by omega
    rw [dif_pos this]; rfl
  · rw [← Finset.sum_filter]
    refine Finset.sum_congr (Finset.ext fun a => ?_) fun _ _ => rfl
    simp; omega
  · rw [dif_pos (by omega)]

/-- The carried sums have been taken on by the block. -/
theorem carry_at (r : Fin 8) (c : Fin w) (hc : X17 (ix2 r (wix hk c)) = B.sum q0 (wix hk c)) :
    carryAt w (BitVec.ofNat 32 t) n hb hq hk X2 X3 X12 X13 X15 X16 X17 (ix2 r c) = B.sum (q0 + 128) (wix hk c) := by
  unfold carryAt
  rw [carryNext_apply, ldCarry_apply, hc, sums_at w hb hq hk H hqt h0, ← sum_rows hq 128 (le_refl _)]
  congr 1
  refine Finset.sum_congr rfl fun a _ => ?_
  rw [if_pos a.isLt, if_pos (show a.val < 128 + r.val by omega)]

/-- The block's output. -/
theorem head_at (h : ℕ) (hh : h < 20) (r d : Fin 128) (hc : ∀ c, X17 (ix2 (0 : Fin 8) (wix hk c)) = B.sum q0 (wix hk c))
    (hv : ∀ j : Fin 1024, j.val < k0 ∨ k0 + w ≤ j.val → ¬ B.vis (wix hq r) j) :
    headAt w (BitVec.ofNat 32 t) n hb hq hk X2 X3 X4 X12 X13 X14 X15 X16 X17 h hh (ix3 (0 : Fin 1) r d)
      = B.out ⟨h, hh⟩ (wix hq r) d := by
  have hl : 0 < (Real.log 2)⁻¹ := inv_pos.mpr (Real.log_pos (by norm_num))
  unfold headAt head
  rw [mix_apply]
  refine Eq.trans ?_ (B.out_window hk ⟨h, hh⟩ (wix hq r) d hv (fun c => expo w h (slice_col hh) (ldQs hb hq X12) (ldQueries hh X2)
    (ldCodes w hh hk X3) (ldScale w hb hh hk X13)
    (taken w (visible w (BitVec.ofNat 32 t) n (ldWord w hb hk X15) (ldDq hb hq X15))
      (partsAt w (BitVec.ofNat 32 t) n hb hq hk X2 X3 X12 X13 X15 X16) (ldCarry w hk X17)) (ix2 r c)) fun c => ?_)
  · refine congrArg₂ (· * ·) (Finset.sum_congr rfl fun c _ => ?_) (congrArg (Ideal.div 1) (Finset.sum_congr rfl fun c _ => ?_))
    · rw [expos_apply, ldScale_apply, ldCodes_apply, H.vs, H.v]
    · rw [expos_apply]
  · show expo w (⟨h, hh⟩ : Fin 20).val _ _ _ _ _ _ _ = _
    rw [expo_apply, taken_apply, visible_at w hb hq hk H hqt h0, select_ofBool, ldQs_apply, ldScale_apply, H.qs, H.ks,
      sums_at w hb hq hk H hqt h0, ldCarry_apply, hc c]
    have ea := acc_at w hb hq hk H hqt (⟨h, hh⟩ : Fin 20) r c
    refine (congrArg (fun a => a * _ * _ - _) ea).trans ?_
    unfold Batch.zz
    by_cases hvis : B.vis (wix hq r) (wix hk c)
    · rw [if_pos hvis, if_pos hvis, sub_mul_coe _ _ hl]
      refine congrArg₂ (· - ·) ?_ (congrArg (· * _) ?_)
      · unfold Batch.logit fac
        rw [EReal.coe_mul]
        ac_rfl
      · rw [add_comm]
        exact sum_rows hq r.val (by omega) (wix hk c)
    · rw [if_neg hvis, if_neg hvis, EReal.bot_mul_coe_of_pos hl, sub_eq_add_neg, EReal.neg_top, EReal.add_bot]

end Point

end Cert.KernelIdeal.Value
-- ==== Proof.KernelIdeal.Point.lean ====
/-
  `KernelIdeal`: one grid point in terms of the batches' mathematics. Where documents do not decrease, the keys that the point
  leaves out are keys that its queries neither see nor score.
-/
module

public import proofs.«01_k».proof.Proof.KernelIdeal.Block
public import proofs.«01_k».proof.Proof.KernelIdeal.Effect

@[expose] public section

noncomputable section

namespace Cert.KernelIdeal.Value

open Cert.KernelIdeal Cert.KernelIdeal.Gen Cert.KernelIdeal.Body Cert.Math
open Idealize.ShloMosaic hiding ix1 ix2 ix3 ix4
open Idealize.ShloMosaic.ValueIdx Idealize.ShloMosaic.WordArith
open scoped Classical

/-- If all bits from `J0` on are set, the blocks from `J0` on are counted. -/
theorem blocks_ge (x : Fin 8) (e : Fin 7 → BitVec 1) (J0 : Fin 8) (h : ∀ J : Fin 7, J0.val ≤ J.val → J.val < x.val → e J = 1#1) :
    x.val + 1 - J0.val ≤ (blocks x e).toNat := by
  have key : ∀ (x J0 : Fin 8) (e0 e1 e2 e3 e4 e5 e6 : BitVec 1),
      (∀ J : Fin 7, J0.val ≤ J.val → J.val < x.val → ![e0, e1, e2, e3, e4, e5, e6] J = 1#1) →
      x.val + 1 - J0.val ≤ (blocks x ![e0, e1, e2, e3, e4, e5, e6]).toNat := by decide +kernel
  have he : e = ![e 0, e 1, e 2, e 3, e 4, e 5, e 6] := by
    funext J; fin_cases J <;> rfl
  rw [he] at h ⊢
  exact key x J0 _ _ _ _ _ _ _ h

theorem bit_eq {a b : BitVec 32} (h : a = b) : Scalar.cmpi .eq a b = 1#1 := by
  subst h; simp [Scalar.cmpi, IntOp.cmpi]

section

variable {B : Batch} (hs : B.Sorted) {i : grid0.Coords} {X9 : Vec Ideal S2x1024 .i32}
  (h9 : ∀ j, X9 (ix2 (i 0 : Fin 2) j) = B.doc j)
  {v11 v14 v21 v28 v35 v42 v49 v56 : BitVec 32} (hl : Looked i X9 v11 v14 v21 v28 v35 v42 v49 v56)
include hs h9 hl

/-- A key before the window is of another document than the block's queries. -/
theorem other_doc {k0 : ℕ} (hk : k0 + 128 * (blocks (i 1) (bitsOf v11 v14 v21 v28 v35 v42 v49 v56)).toNat = 128 * ((i 1).val + 1))
    (a j : Fin 1024) (ha : 128 * (i 1).val ≤ a.val) (hj : j.val < k0) : B.doc a ≠ B.doc j := by
  intro hd
  have hx : (i 1).val < 8 := (i 1).isLt
  have h1 := le_blocks (i 1) (bitsOf v11 v14 v21 v28 v35 v42 v49 v56)
  have hjx : j.val < 128 * (i 1).val := by omega
  have e11 : v11 = B.doc ⟨128 * (i 1).val, by omega⟩ :=
    ((hl (ix2 (i 0 : Fin 2) (⟨128 * (i 1).val, by omega⟩ : Fin 1024)) rfl).1 rfl).trans (h9 _)
  have d11 : v11 = B.doc a := e11.trans (hs.between (i := j) (l := a) (by show j.val ≤ 128 * (i 1).val; omega) ha hd.symm)
  have dJ : ∀ (J : ℕ) (hJ : J < 8), j.val / 128 ≤ J → J < (i 1).val → B.doc ⟨128 * J + 127, by omega⟩ = v11 := fun J hJ h h' =>
    (hs.between (i := j) (l := a) (by show j.val ≤ 128 * J + 127; omega) (by show 128 * J + 127 ≤ a.val; omega) hd.symm).trans d11.symm
  have hz := fun (J : Fin 8) => hl (ix2 (i 0 : Fin 2) (⟨128 * J.val + 127, by omega⟩ : Fin 1024)) rfl
  have hb := blocks_ge (i 1) (bitsOf v11 v14 v21 v28 v35 v42 v49 v56) ⟨j.val / 128, by omega⟩ (by
    intro J h h'
    change j.val / 128 ≤ J.val at h
    fin_cases J
    · exact bit_eq (((hz 0).2.1 rfl).trans ((h9 _).trans (dJ 0 (by omega) h h')))
    · exact bit_eq (((hz 1).2.2.1 rfl).trans ((h9 _).trans (dJ 1 (by omega) h h')))
    · exact bit_eq (((hz 2).2.2.2.1 rfl).trans ((h9 _).trans (dJ 2 (by omega) h h')))
    · exact bit_eq (((hz 3).2.2.2.2.1 rfl).trans ((h9 _).trans (dJ 3 (by omega) h h')))
    · exact bit_eq (((hz 4).2.2.2.2.2.1 rfl).trans ((h9 _).trans (dJ 4 (by omega) h h')))
    · exact bit_eq (((hz 5).2.2.2.2.2.2.1 rfl).trans ((h9 _).trans (dJ 5 (by omega) h h')))
    · exact bit_eq (((hz 6).2.2.2.2.2.2.2 rfl).trans ((h9 _).trans (dJ 6 (by omega) h h'))))
  change (i 1).val + 1 - j.val / 128 ≤ _ at hb
  omega

end

/-- The scratch buffers hold all batches' scales, documents and starts. -/
structure Scratch (B : Fin 2 → Batch) (X12 X13 X14 : Vec Ideal S2x20x1024 .f32) (X15 X16 : Vec Ideal S2x8x1024 .i32) : Prop where
  qs : ∀ b h j, X12 (ix3 b h j) = (B b).qs h j
  ks : ∀ b h j, X13 (ix3 b h j) = (B b).ks h j
  vs : ∀ b h j, X14 (ix3 b h j) = (B b).vs h j
  doc : ∀ b j, X15 (ix3 b (0 : Fin 8) j) = (B b).doc j
  start : ∀ b j, X16 (ix3 b (0 : Fin 8) j) = if (B b).start j then 1#32 else 0#32

/-- The point's inputs hold the batches. -/
structure Inputs (B : Fin 2 → Batch) (i : grid0.Coords) (X2 : Vec Ideal S1x20x128x128 .fp8e4m3) (X3 X4 : Vec Ideal S1x20x1024x128 .fp8e4m3)
    (X5 X6 X7 : Vec Ideal S20x2x1024 .f32) (X8 X9 : Vec Ideal S2x1024 .i32) : Prop where
  q : ∀ h (r : Fin 128) d j, j.val = 128 * (i 1).val + r.val → X2 (ix4 (0 : Fin 1) h r d) = (B (i 0)).q h j d
  k : ∀ h j d, X3 (ix4 (0 : Fin 1) h j d) = (B (i 0)).k h j d
  v : ∀ h j d, X4 (ix4 (0 : Fin 1) h j d) = (B (i 0)).v h j d
  qs : ∀ b h j, X5 (ix3 h b j) = (B b).qs h j
  ks : ∀ b h j, X6 (ix3 h b j) = (B b).ks h j
  vs : ∀ b h j, X7 (ix3 h b j) = (B b).vs h j
  doc : ∀ b j, X8 (ix2 b j) = (B b).doc j
  doc' : ∀ b j, X9 (ix2 b j) = (B b).doc j

section

variable {B : Fin 2 → Batch} {i : grid0.Coords}
    {X2 : Vec Ideal S1x20x128x128 .fp8e4m3} {X3 X4 : Vec Ideal S1x20x1024x128 .fp8e4m3} {X5 X6 X7 : Vec Ideal S20x2x1024 .f32}
    {X8 X9 : Vec Ideal S2x1024 .i32} {X11 : Vec Ideal S2x1024 .f32}
    {X12 X13 X14 : Vec Ideal S2x20x1024 .f32} {X15 X16 : Vec Ideal S2x8x1024 .i32} {X17 : Vec Ideal S8x1024 .f32}
    {Y10 : Vec Ideal S1x128x2560 .bf16} {Y11 : Vec Ideal S2x1024 .f32}
    {Y12 Y13 Y14 : Vec Ideal S2x20x1024 .f32} {Y15 Y16 : Vec Ideal S2x8x1024 .i32} {Y17 : Vec Ideal S8x1024 .f32}
    (E : Effect i X2 X3 X4 X5 X6 X7 X8 X9 X11 X12 X13 X14 X15 X16 X17 Y10 Y11 Y12 Y13 Y14 Y15 Y16 Y17)
    (I : Inputs B i X2 X3 X4 X5 X6 X7 X8 X9)
    (hS : ¬((i 0).val = 0 ∧ (i 1).val = 0) → Scratch B X12 X13 X14 X15 X16)
include E I hS

/-- After any point the scratch buffers hold the batches. -/
theorem scratch_of : Scratch B Y12 Y13 Y14 Y15 Y16 := by
  by_cases h : (i 0).val = 0 ∧ (i 1).val = 0
  · obtain ⟨e12, e13, e14, e15, e16⟩ := E.first h
    refine ⟨fun b h j => (e12 (ix3 h b j) (ix3 b h j) rfl rfl rfl).trans (I.qs b h j),
      fun b h j => (e13 (ix3 h b j) (ix3 b h j) rfl rfl rfl).trans (I.ks b h j),
      fun b h j => (e14 (ix3 h b j) (ix3 b h j) rfl rfl rfl).trans (I.vs b h j),
      fun b j => (e15 (ix2 b j) (ix3 b (0 : Fin 8) j) rfl rfl).trans (I.doc b j), fun b j => ?_⟩
    refine (e16 (ix2 b j) (ix2 b (⟨(j.val + 1023) % 1024, by omega⟩ : Fin 1024)) (ix3 b (0 : Fin 8) j) rfl rfl rfl rfl).trans ?_
    rw [I.doc, I.doc]
    by_cases hst : (B b).start j
    · rw [if_pos hst]; exact if_pos hst
    · rw [if_neg hst]; exact if_neg hst
  · obtain ⟨rfl, rfl, rfl, rfl, rfl⟩ := E.later h
    exact hS h

/-- The block's output and its sums, where the documents are in order. -/
theorem block_of (hs : (B (i 0)).Sorted)
    (hc : ¬(i 1).val = 0 → ∀ (r : Fin 8) (j : Fin 1024), X17 (ix2 r j) = (B (i 0)).sum (128 * (i 1).val) j) :
    (∀ (r : Fin 8) (j : Fin 1024), Y17 (ix2 r j) = (B (i 0)).sum (128 * ((i 1).val + 1)) j)
    ∧ ∀ (h : Fin 20) (r d : Fin 128) (a : Fin 1024) (y : S1x128x2560.Idx), (y 0).val = 0 → (y 1).val = r.val →
        (y 2).val = 128 * h.val + d.val → a.val = 128 * (i 1).val + r.val → Y10 y = (B (i 0)).out h a d := by
  have hS' := scratch_of E I hS
  have hx : (i 1).val < 8 := (i 1).isLt
  obtain ⟨Z17, v11, v14, v21, v28, v35, v42, v49, v56, hz0, hz1, hl, w, geo, hw, b, q0, k0, hb, hq, hk, rfl, rfl, hkw, ho, hcar, hout⟩ :=
    E.block
  have hZ : ∀ (r : Fin 8) (j : Fin 1024), Z17 (ix2 r j) = (B (i 0)).sum (128 * (i 1).val) j := fun r j => by
    by_cases h : (i 1).val = 0
    · rw [hz0 h, h]
      exact Ideal.ofBits_zero_f32
    · rw [hz1 h]; exact hc h r j
  have hH : Holds (B (i 0)) ⟨(i 0).val, hb⟩ (i 1).val X2 X3 X4 Y12 Y13 Y14 Y15 Y16 :=
    ⟨hx, fun h r d => I.q h r d _ rfl, I.k, I.v, hS'.qs (i 0), hS'.ks (i 0), hS'.vs (i 0), hS'.doc (i 0), hS'.start (i 0)⟩
  have hle := blocks_le (i 1) (bitsOf v11 v14 v21 v28 v35 v42 v49 v56)
  have hge := le_blocks (i 1) (bitsOf v11 v14 v21 v28 v35 v42 v49 v56)
  have hdoc := other_doc hs (I.doc' (i 0)) hl (k0 := k0) (by omega)
  have hword : Scalar.muli (Scalar.subi (Scalar.addi (BitVec.ofNat 32 (i 1).val) 1#32)
      (blocks (i 1) (bitsOf v11 v14 v21 v28 v35 v42 v49 v56))) 128#32 = BitVec.ofNat 32 k0 := by
    have := kpos_word w (t := (i 1).val) (n := (blocks (i 1) (bitsOf v11 v14 v21 v28 v35 v42 v49 v56)).toNat) (k0 := k0)
      (m := (i 1).val + 1 - (blocks (i 1) (bitsOf v11 v14 v21 v28 v35 v42 v49 v56)).toNat) hw (by omega) hx (by omega)
    rwa [BitVec.ofNat_toNat, BitVec.setWidth_eq] at this
  refine ⟨fun r j => ?_, fun h r d a y h0 h1 h2 ha => ?_⟩
  · by_cases hj : j.val < k0 ∨ k0 + w ≤ j.val
    · rw [hout (ix2 r j) hj, hZ, Nat.mul_add, (B (i 0)).sum_add _ _ j (by omega), Finset.sum_eq_zero, add_zero]
      intro a _
      refine Batch.st_of_not_sel _ _ _ fun hsel => ?_
      rcases hj with hj | hj
      · exact hdoc ⟨128 * (i 1).val + a.val, by omega⟩ j (by show _ ≤ 128 * (i 1).val + a.val; omega) hj hsel.1.1
      · have := hsel.1.2
        change j.val < 128 * (i 1).val + a.val at this
        omega
    · have e : j = wix hk (⟨j.val - k0, by omega⟩ : Fin w) := Fin.ext (by show j.val = k0 + (j.val - k0); omega)
      rw [e]
      refine (hcar (ix2 r (⟨j.val - k0, by omega⟩ : Fin w)) _ rfl rfl).trans ?_
      exact carry_at w hb hq hk hH rfl hword r _ (hZ r _)
  · have e : a = wix hq r := Fin.ext ha
    subst e
    refine (ho h.val h.isLt (ix3 (0 : Fin 1) r d) y h0 h1 h2).trans ?_
    refine head_at w hb hq hk hH rfl hword h.val h.isLt r d (fun c => hZ 0 _) fun j hj hvis => ?_
    rcases hj with hj | hj
    · exact hdoc (wix hq r) j (by show 128 * (i 1).val ≤ 128 * (i 1).val + r.val; omega) hj hvis.1
    · have := hvis.2
      change j.val ≤ 128 * (i 1).val + r.val at this
      omega

end

end Cert.KernelIdeal.Value
-- ==== Proof.Inputs.lean ====
/-
  The batches of the problem, read off its seven arguments.
-/
module

public import proofs.«01_k».proof.Proof.Math
public import Idealize.ShloMosaic.Lib.ValueIdx

@[expose] public section

noncomputable section

namespace Cert.Math

open Idealize.ShloMosaic Idealize.ShloMosaic.ValueIdx

/-- The codes' shape, the scales' and the documents'. -/
abbrev SCodes : Shape := ⟨4, ![2, 1024, 20, 128]⟩
abbrev SScales : Shape := ⟨3, ![2, 1024, 20]⟩
abbrev SDocs : Shape := ⟨2, ![2, 1024]⟩

/-- Batch `b` of the arguments. -/
def batch (q : SCodes.Idx → EReal) (qs : SScales.Idx → EReal) (k : SCodes.Idx → EReal) (ks : SScales.Idx → EReal)
    (v : SCodes.Idx → EReal) (vs : SScales.Idx → EReal) (doc : SDocs.Idx → BitVec 32) (b : Fin 2) : Batch where
  q h i d := q (ix4 b i h d)
  k h i d := k (ix4 b i h d)
  v h i d := v (ix4 b i h d)
  qs h i := qs (ix3 b i h)
  ks h i := ks (ix3 b i h)
  vs h i := vs (ix3 b i h)
  doc i := doc (ix2 b i)

end Cert.Math
-- ==== Proof.KernelIdeal.Arrays.lean ====
/-
  `KernelIdeal`: the blocks that the grid points read, in terms of the program's arguments. The host transposes codes and
  scales; a point's blocks are then rows of its batch.
-/
module

public import proofs.«01_k».proof.Proof.Gen.KernelIdeal.Frame
public import proofs.«01_k».proof.Proof.KernelIdeal.Point
public import proofs.«01_k».proof.Proof.Inputs
public import Idealize.ShloMosaic.Lib.Pipeline.ValueKit.Geometry
public import Idealize.ShloMosaic.Lib.Pipeline.ValueKit.Point
public import Idealize.ShloMosaic.Lib.Claim
public import Idealize.ShloMosaic.Lib.Pointwise

@[expose] public section

set_option maxRecDepth 65536

noncomputable section

namespace Cert.KernelIdeal.Value

open Cert.KernelIdeal Cert.KernelIdeal.Gen Cert.KernelIdeal.Body Cert.Math
open Idealize.ShloMosaic hiding ix1 ix2 ix3 ix4
open Idealize.ShloMosaic.ValueIdx
open Idealize.ShloMosaic.TcCoe Idealize.SL

variable (m : (ℓ : Loc nD τ sig) → Buf (Elt Ideal) ℓ)

/-- The batches of core `c`'s arguments. -/
def bat (c : Dev nD) : Fin 2 → Batch :=
  batch (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem coords_eq : ∀ t : Fin grid0.N, (grid0.coords t 0).val = t.val / 8 ∧ (grid0.coords t 1).val = t.val % 8 := by decide +kernel

theorem index0 : ∀ t : Fin cfg0.N, win0_0.index t = ![(grid0.coords t 0).val, 0, (grid0.coords t 1).val, 0] :=
  (by decide +kernel : ∀ t : Fin grid0.N, _)
theorem index1 : ∀ t : Fin cfg0.N, win0_1.index t = ![(grid0.coords t 0).val, 0, 0, 0] :=
  (by decide +kernel : ∀ t : Fin grid0.N, _)
theorem index2 : ∀ t : Fin cfg0.N, win0_2.index t = ![(grid0.coords t 0).val, 0, 0, 0] :=
  (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![(grid0.coords t 0).val, (grid0.coords t 1).val, 0] :=
  (by decide +kernel : ∀ t : Fin grid0.N, _)

variable (c : Dev nD) (t : Fin cfg0.N)

theorem block0 (h : Fin 20) (r d : Fin 128) (j : Fin 1024) (hj : j.val = 128 * (grid0.coords t 1).val + r.val) :
    iblk m c 0 t (ix4 (0 : Fin 1) h r d) = (bat m c (grid0.coords t 0)).q h j d := by
  blk_simp [iblk]
  entry_read
  pointwise
  show _ = m ((c.tc : Thread nD τ).loc main_arg0) (ix4 (grid0.coords t 0 : Fin 2) j h d)
  blk_ext [index0 t, hj]
  show (grid0.coords t 1).val * 128 + r.val = 128 * (grid0.coords t 1).val + r.val
  omega

theorem block1 (h : Fin 20) (j : Fin 1024) (d : Fin 128) :
    iblk m c 1 t (ix4 (0 : Fin 1) h j d) = (bat m c (grid0.coords t 0)).k h j d := by
  blk_simp [iblk]
  entry_read
  pointwise
  show _ = m ((c.tc : Thread nD τ).loc main_arg2) (ix4 (grid0.coords t 0 : Fin 2) j h d)
  blk_ext [index1 t]

theorem block2 (h : Fin 20) (j : Fin 1024) (d : Fin 128) :
    iblk m c 2 t (ix4 (0 : Fin 1) h j d) = (bat m c (grid0.coords t 0)).v h j d := by
  blk_simp [iblk]
  entry_read
  pointwise
  show _ = m ((c.tc : Thread nD τ).loc main_arg4) (ix4 (grid0.coords t 0 : Fin 2) j h d)
  blk_ext [index2 t]

theorem block3 (b : Fin 2) (h : Fin 20) (j : Fin 1024) : iblk m c 3 t (ix3 h b j) = (bat m c b).qs h j := by
  blk_simp [iblk]
  entry_read
  pointwise
  show _ = m ((c.tc : Thread nD τ).loc main_arg1) (ix3 b j h)
  blk_ext [index3 t]

theorem block4 (b : Fin 2) (h : Fin 20) (j : Fin 1024) : iblk m c 4 t (ix3 h b j) = (bat m c b).ks h j := by
  blk_simp [iblk]
  entry_read
  pointwise
  show _ = m ((c.tc : Thread nD τ).loc main_arg3) (ix3 b j h)
  blk_ext [index4 t]

theorem block5 (b : Fin 2) (h : Fin 20) (j : Fin 1024) : iblk m c 5 t (ix3 h b j) = (bat m c b).vs h j := by
  blk_simp [iblk]
  entry_read
  pointwise
  show _ = m ((c.tc : Thread nD τ).loc main_arg5) (ix3 b j h)
  blk_ext [index5 t]

theorem block6 (b : Fin 2) (j : Fin 1024) : iblk m c 6 t (ix2 b j) = (bat m c b).doc j := by
  blk_simp [iblk]
  entry_read
  show _ = m ((c.tc : Thread nD τ).loc main_arg6) (ix2 b j)
  blk_ext [index6 t]

theorem block7 (b : Fin 2) (j : Fin 1024) : iblk m c 7 t (ix2 b j) = (bat m c b).doc j := by
  blk_simp [iblk]
  entry_read
  show _ = m ((c.tc : Thread nD τ).loc main_arg6) (ix2 b j)
  blk_ext [index7 t]

/-- The blocks of a grid point hold the batches. -/
theorem inputs_at : Inputs (bat m c) (grid0.coords t) (iblk m c 0 t) (iblk m c 1 t) (iblk m c 2 t) (iblk m c 3 t) (iblk m c 4 t)
    (iblk m c 5 t) (iblk m c 6 t) (iblk m c 7 t) :=
  ⟨fun h r d j hj => block0 m c t h r d j hj, block1 m c t, block2 m c t, block3 m c t, block4 m c t, block5 m c t, block6 m c t, block7 m c t⟩

end Cert.KernelIdeal.Value

end
-- ==== Proof.KernelIdeal.Run.lean ====
/-
  `KernelIdeal`: the run of the whole program over the extended reals. Two windows share the array of documents, and what a
  point leaves depends on the documents' order, so the proof data is relational: the body leaves each input's buffer as found,
  the output's block at the attention's output (`OutBlock`) and the sums' row once it is complete (`SumRow`). Between points the scratch
  buffers hold the scales, the documents and the sums so far (`Held`). The run ends with the arguments as they were and every semaphore at
  zero (`frame`).
-/
module

public import proofs.«01_k».proof.Proof.Gen.KernelIdeal.Skeleton
public import proofs.«01_k».proof.Proof.KernelIdeal.Body
public import proofs.«01_k».proof.Proof.KernelIdeal.Arrays
public import Idealize.ShloMosaic.Lib.Pipeline.Frame
public import Idealize.ShloMosaic.Lib.Pipeline.FrameBody
public import Idealize.ShloMosaic.Lib.Tactic
public import Idealize.ShloMosaic.Lib.Tactic.Stretches
public import Idealize.ShloMosaic.Lib.Tactic.OpenCalls
public import Idealize.ShloMosaic.Lib.Tactic.OverArgs
public import Idealize.ShloMosaic.Lib.Pipeline.Kit

@[expose] public section

set_option maxRecDepth 65536

noncomputable section

namespace Cert.KernelIdeal.Run

open Cert.KernelIdeal Cert.KernelIdeal.Gen Cert.KernelIdeal.Body Cert.KernelIdeal.Value Cert.Math
open Idealize.ShloMosaic hiding ix1 ix2 ix3 ix4
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Stretches

local notation "𝕄" => MT nD τ sig Unit (Elt Ideal) ℕ (UR sig nD τ) ℕ

open Idealize.ShloMosaic.Pipeline (RDat)

variable (m : (ℓ : Loc nD τ sig) → Buf (Elt Ideal) ℓ) (ρ : Dev nD → PrngReg)

/-! ## What one grid point leaves -/

/-- The scratch buffers before point `n`: the scales and documents after the first point, the sums within a batch. -/
def Held (c : Dev nD) (n : ℕ) (X12 X13 X14 : Vec Ideal S2x20x1024 .f32) (X15 X16 : Vec Ideal S2x8x1024 .i32)
    (X17 : Vec Ideal S8x1024 .f32) : Prop :=
  (n ≠ 0 → Scratch (bat m c) X12 X13 X14 X15 X16)
  ∧ ∀ b : Fin 2, b.val = n / 8 → n % 8 ≠ 0 → (bat m c b).Sorted →
      ∀ k, k = 128 * (n % 8) → ∀ (r : Fin 8) (j : Fin 1024), X17 (ix2 r j) = (bat m c b).sum k j

/-- The block of outputs that point `t` leaves. -/
def OutBlock (c : Dev nD) (t : Fin cfg0.N) (X : Vec Ideal S1x128x2560 .bf16) : Prop :=
  (bat m c (grid0.coords t 0)).Sorted → ∀ (h : Fin 20) (r d : Fin 128) (a : Fin 1024) (y : S1x128x2560.Idx), (y 0).val = 0 →
    (y 1).val = r.val → (y 2).val = 128 * h.val + d.val → a.val = 128 * (grid0.coords t 1).val + r.val →
      X y = (bat m c (grid0.coords t 0)).out h a d

/-- The sums that point `t` leaves, having found `Y`: a batch's last point writes its row. -/
def SumRow (c : Dev nD) (t : Fin cfg0.N) (Y X : Vec Ideal S2x1024 .f32) : Prop :=
  ∀ (b : Fin 2) (j : Fin 1024), (t.val = 8 * b.val + 7 → (bat m c b).Sorted → X (ix2 b j) = (bat m c b).sum 1024 j)
    ∧ (t.val ≠ 8 * b.val + 7 → X (ix2 b j) = Y (ix2 b j))

theorem step (c : Dev nD) (t : Fin cfg0.N)
    {X2 : Vec Ideal S1x20x128x128 .fp8e4m3} {X3 X4 : Vec Ideal S1x20x1024x128 .fp8e4m3} {X5 X6 X7 : Vec Ideal S20x2x1024 .f32}
    {X8 X9 : Vec Ideal S2x1024 .i32} {X11 : Vec Ideal S2x1024 .f32}
    {X12 X13 X14 : Vec Ideal S2x20x1024 .f32} {X15 X16 : Vec Ideal S2x8x1024 .i32} {X17 : Vec Ideal S8x1024 .f32}
    {Y10 : Vec Ideal S1x128x2560 .bf16} {Y11 : Vec Ideal S2x1024 .f32}
    {Y12 Y13 Y14 : Vec Ideal S2x20x1024 .f32} {Y15 Y16 : Vec Ideal S2x8x1024 .i32} {Y17 : Vec Ideal S8x1024 .f32}
    (E : Effect (grid0.coords t) X2 X3 X4 X5 X6 X7 X8 X9 X11 X12 X13 X14 X15 X16 X17 Y10 Y11 Y12 Y13 Y14 Y15 Y16 Y17)
    (h2 : X2 = (iblk m c 0 t : Vec Ideal S1x20x128x128 .fp8e4m3))
    (h3 : X3 = (iblk m c 1 t : Vec Ideal S1x20x1024x128 .fp8e4m3))
    (h4 : X4 = (iblk m c 2 t : Vec Ideal S1x20x1024x128 .fp8e4m3))
    (h5 : X5 = (iblk m c 3 t : Vec Ideal S20x2x1024 .f32))
    (h6 : X6 = (iblk m c 4 t : Vec Ideal S20x2x1024 .f32))
    (h7 : X7 = (iblk m c 5 t : Vec Ideal S20x2x1024 .f32))
    (h8 : X8 = (iblk m c 6 t : Vec Ideal S2x1024 .i32))
    (h9 : X9 = (iblk m c 7 t : Vec Ideal S2x1024 .i32))
    (H : Held m c t.val X12 X13 X14 X15 X16 X17) :
    Held m c (t.val + 1) Y12 Y13 Y14 Y15 Y16 Y17 ∧ OutBlock m c t Y10 ∧ SumRow m c t X11 Y11 := by
  subst h2 h3 h4 h5 h6 h7 h8 h9
  have I := inputs_at m c t
  have ht : t.val < 16 := t.isLt
  obtain ⟨e0, e1⟩ := coords_eq t
  have hS : ¬((grid0.coords t 0).val = 0 ∧ (grid0.coords t 1).val = 0) → Scratch (bat m c) X12 X13 X14 X15 X16 :=
    fun h => H.1 fun h0 => h (by omega)
  have hB := fun hs => block_of E I hS hs fun h r j => H.2 (grid0.coords t 0) e0 (by omega) hs _ (by omega) r j
  refine ⟨⟨fun _ => scratch_of E I hS, fun b hb hn hs k hk r j => ?_⟩, fun hs => (hB hs).2, fun b j => ⟨fun h hs => ?_, fun h => ?_⟩⟩
  · obtain rfl : b = (grid0.coords t 0 : Fin 2) := Fin.ext (by omega)
    rw [(hB hs).1 r j]
    congr 1; omega
  · obtain rfl : b = (grid0.coords t 0 : Fin 2) := Fin.ext (by omega)
    refine ((E.last (by omega) (ix2 (grid0.coords t 0 : Fin 2) j)).1 rfl (ix2 (0 : Fin 8) j) rfl rfl).trans (((hB hs).1 0 j).trans ?_)
    congr 1; omega
  · by_cases h7 : (grid0.coords t 1).val = 7
    · exact (E.last h7 (ix2 b j)).2 fun e => h (by have e' : b.val = (grid0.coords t 0).val := e; omega)
    · rw [E.other h7]

theorem own_open (c : Dev nD) {sp : Space} {S : Shape} {e : EltTy} {M : Memref sig .tc sp S e} (h : M.IsWhole)
    (X : S.Idx → Elt Ideal e) :
    (owns (c : Thread nD τ) M fullShare X : sProp 𝕄) ⊢ iprop(∃ f : Bf (F := Ideal) c M, ⌜M.view.read (Elt Ideal) f = X⌝ ∗ pt c M f) := by
  unfold owns
  rw [h.set_eq_univ]

theorem own_close (c : Dev nD) {sp : Space} {S : Shape} {e : EltTy} {M : Memref sig .tc sp S e} (h : M.IsWhole)
    (f : Bf (F := Ideal) c M) {X : S.Idx → Elt Ideal e} (hX : M.view.read (Elt Ideal) f = X) :
    (pt c M f : sProp 𝕄) ⊢ owns (c : Thread nD τ) M fullShare X := by
  unfold owns
  rw [h.set_eq_univ]
  iintro H
  iexists f
  isplitr
  · ipureintro; exact hX
  iexact H

/-- What the body keeps between points: the scratch buffers as `Held` says. -/
def inv (c : Dev nD) (n : ℕ) : sProp 𝕄 :=
  iprop((∃ (f0 : Bf (F := Ideal) c (Memref.whole cc0_scratch0)) (f1 : Bf (F := Ideal) c (Memref.whole cc0_scratch1)) (f2 : Bf (F := Ideal) c (Memref.whole cc0_scratch2)) (f3 : Bf (F := Ideal) c (Memref.whole cc0_scratch3)) (f4 : Bf (F := Ideal) c (Memref.whole cc0_scratch4)) (f5 : Bf (F := Ideal) c (Memref.whole cc0_scratch5)), ⌜Held m c n ((Memref.whole cc0_scratch0).view.read (Elt Ideal) f0) ((Memref.whole cc0_scratch1).view.read (Elt Ideal) f1) ((Memref.whole cc0_scratch2).view.read (Elt Ideal) f2) ((Memref.whole cc0_scratch3).view.read (Elt Ideal) f3) ((Memref.whole cc0_scratch4).view.read (Elt Ideal) f4) ((Memref.whole cc0_scratch5).view.read (Elt Ideal) f5)⌝ ∗ pt c (Memref.whole cc0_scratch0) f0 ∗ pt c (Memref.whole cc0_scratch1) f1 ∗ pt c (Memref.whole cc0_scratch2) f2 ∗ pt c (Memref.whole cc0_scratch3) f3 ∗ pt c (Memref.whole cc0_scratch4) f4 ∗ pt c (Memref.whole cc0_scratch5) f5) ∗ ∃ r, prngReg c r)

/-- A window's block, the window named otherwise. -/
def moved {w w' : Fin cfg0.W} (h : w = w') (X : (cfg0.win w).block.Idx → Elt Ideal (cfg0.win w).elt) :
    (cfg0.win w').block.Idx → Elt Ideal (cfg0.win w').elt := h ▸ X

/-- The proof data on core `c`: the arrays as the region finds them; the body leaves an input's buffer as found, a block of
    outputs and a row of sums; the invariant is the scratch buffers'. -/
def rdat (c : Dev nD) : RDat τ (Elt Ideal) Unit ℕ (UR sig nD τ) ℕ cfg0 c where
  A w := V m c (Pipeline.arrRef spec0 w)
  after w t Y X := ((cfg0.win w).isOut = false → X = Y) ∧ (∀ h : w = 8, OutBlock m c t (moved h X)) ∧ (∀ h : w = 9, SumRow m c t (moved h Y) (moved h X))
  Φ n := inv m c n.val
  q w := Pipeline.shareOf spec0 w
  owed _ := 0

theorem found0 (c : Dev nD) (t : Fin cfg0.N) {Y : Vec Ideal S1x20x128x128 .fp8e4m3} (hY : (rdat m c).Finds 0 t Y) : Y = iblk m c 0 t := by
  obtain ⟨d, rfl⟩ := (rdat m c).finds_in_eq_fetched 0 rfl (fun _ _ _ => rfl) (fun _ _ _ h => h.1 rfl) t _ hY
  unfold RDat.fetched RDat.blockOf iblk; rfl

theorem found1 (c : Dev nD) (t : Fin cfg0.N) {Y : Vec Ideal S1x20x1024x128 .fp8e4m3} (hY : (rdat m c).Finds 1 t Y) : Y = iblk m c 1 t := by
  obtain ⟨d, rfl⟩ := (rdat m c).finds_in_eq_fetched 1 rfl (fun _ _ _ => rfl) (fun _ _ _ h => h.1 rfl) t _ hY
  unfold RDat.fetched RDat.blockOf iblk; rfl

theorem found2 (c : Dev nD) (t : Fin cfg0.N) {Y : Vec Ideal S1x20x1024x128 .fp8e4m3} (hY : (rdat m c).Finds 2 t Y) : Y = iblk m c 2 t := by
  obtain ⟨d, rfl⟩ := (rdat m c).finds_in_eq_fetched 2 rfl (fun _ _ _ => rfl) (fun _ _ _ h => h.1 rfl) t _ hY
  unfold RDat.fetched RDat.blockOf iblk; rfl

theorem found3 (c : Dev nD) (t : Fin cfg0.N) {Y : Vec Ideal S20x2x1024 .f32} (hY : (rdat m c).Finds 3 t Y) : Y = iblk m c 3 t := by
  obtain ⟨d, rfl⟩ := (rdat m c).finds_in_eq_fetched 3 rfl (fun _ _ _ => rfl) (fun _ _ _ h => h.1 rfl) t _ hY
  unfold RDat.fetched RDat.blockOf iblk; rfl

theorem found4 (c : Dev nD) (t : Fin cfg0.N) {Y : Vec Ideal S20x2x1024 .f32} (hY : (rdat m c).Finds 4 t Y) : Y = iblk m c 4 t := by
  obtain ⟨d, rfl⟩ := (rdat m c).finds_in_eq_fetched 4 rfl (fun _ _ _ => rfl) (fun _ _ _ h => h.1 rfl) t _ hY
  unfold RDat.fetched RDat.blockOf iblk; rfl

theorem found5 (c : Dev nD) (t : Fin cfg0.N) {Y : Vec Ideal S20x2x1024 .f32} (hY : (rdat m c).Finds 5 t Y) : Y = iblk m c 5 t := by
  obtain ⟨d, rfl⟩ := (rdat m c).finds_in_eq_fetched 5 rfl (fun _ _ _ => rfl) (fun _ _ _ h => h.1 rfl) t _ hY
  unfold RDat.fetched RDat.blockOf iblk; rfl

theorem found6 (c : Dev nD) (t : Fin cfg0.N) {Y : Vec Ideal S2x1024 .i32} (hY : (rdat m c).Finds 6 t Y) : Y = iblk m c 6 t := by
  obtain ⟨d, rfl⟩ := (rdat m c).finds_in_eq_fetched 6 rfl (fun _ _ _ => rfl) (fun _ _ _ h => h.1 rfl) t _ hY
  unfold RDat.fetched RDat.blockOf iblk; rfl

theorem found7 (c : Dev nD) (t : Fin cfg0.N) {Y : Vec Ideal S2x1024 .i32} (hY : (rdat m c).Finds 7 t Y) : Y = iblk m c 7 t := by
  obtain ⟨d, rfl⟩ := (rdat m c).finds_in_eq_fetched 7 rfl (fun _ _ _ => rfl) (fun _ _ _ h => h.1 rfl) t _ hY
  unfold RDat.fetched RDat.blockOf iblk; rfl

set_option maxHeartbeats 1000000 in
/-- The body at any point, on the buffers the pipeline hands it. -/
theorem sound_body (c : Dev nD) (t : Fin cfg0.N) (Y : (w : Fin cfg0.W) → (cfg0.win w).block.Idx → Elt Ideal (cfg0.win w).elt)
    (hY : ∀ w, (rdat m c).Finds w t (Y w)) :
    iprop((rdat m c).Φ t.castSucc ∗ (rdat m c).owesAt () t.castSucc
      ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))
    ⊢ wp frame (wpE (defs₀ (F := Ideal)) Variants.none (c : Thread nD τ) none) Set.univ (bodyAt0 t) fun _ =>
      iprop((rdat m c).Φ t.succ ∗ (rdat m c).owesAt () t.succ
      ∗ (∃ X, ⌜(rdat m c).after 0 t (Y 0) X⌝ ∗ owns (c : Thread nD τ) (st0_0 t) fullShare (X)) ∗ (∃ X, ⌜(rdat m c).after 1 t (Y 1) X⌝ ∗ owns (c : Thread nD τ) (st0_1 t) fullShare (X)) ∗ (∃ X, ⌜(rdat m c).after 2 t (Y 2) X⌝ ∗ owns (c : Thread nD τ) (st0_2 t) fullShare (X)) ∗ (∃ X, ⌜(rdat m c).after 3 t (Y 3) X⌝ ∗ owns (c : Thread nD τ) (st0_3 t) fullShare (X)) ∗ (∃ X, ⌜(rdat m c).after 4 t (Y 4) X⌝ ∗ owns (c : Thread nD τ) (st0_4 t) fullShare (X)) ∗ (∃ X, ⌜(rdat m c).after 5 t (Y 5) X⌝ ∗ owns (c : Thread nD τ) (st0_5 t) fullShare (X)) ∗ (∃ X, ⌜(rdat m c).after 6 t (Y 6) X⌝ ∗ owns (c : Thread nD τ) (st0_6 t) fullShare (X)) ∗ (∃ X, ⌜(rdat m c).after 7 t (Y 7) X⌝ ∗ owns (c : Thread nD τ) (st0_7 t) fullShare (X)) ∗ (∃ X, ⌜(rdat m c).after 8 t (Y 8) X⌝ ∗ owns (c : Thread nD τ) (st0_8 t) fullShare (X)) ∗ (∃ X, ⌜(rdat m c).after 9 t (Y 9) X⌝ ∗ owns (c : Thread nD τ) (st0_9 t) fullShare (X))) := by
  rw [show (rdat m c).owesAt () t.succ = (rdat m c).owesAt () t.castSucc from rfl,
    show (rdat m c).Φ t.castSucc = inv m c t.val from rfl, show (rdat m c).Φ t.succ = inv m c (t.val + 1) from rfl]
  unfold inv
  iintro ⟨⟨⟨%s0, %s1, %s2, %s3, %s4, %s5, %hH, S0, S1, S2, S3, S4, S5⟩, Hg⟩, Howes, H0, H1, H2, H3, H4, H5, H6, H7, H8, H9⟩
  ihave H0 := own_open c (M := st0_0 t) (hstage0_0 ((cfg0.slots t 0).cast nbuf0_0)) (Y 0) $$ H0
  icases H0 with ⟨%f0, %hf0, H0⟩
  ihave H1 := own_open c (M := st0_1 t) (hstage0_1 ((cfg0.slots t 1).cast nbuf0_1)) (Y 1) $$ H1
  icases H1 with ⟨%f1, %hf1, H1⟩
  ihave H2 := own_open c (M := st0_2 t) (hstage0_2 ((cfg0.slots t 2).cast nbuf0_2)) (Y 2) $$ H2
  icases H2 with ⟨%f2, %hf2, H2⟩
  ihave H3 := own_open c (M := st0_3 t) (hstage0_3 ((cfg0.slots t 3).cast nbuf0_3)) (Y 3) $$ H3
  icases H3 with ⟨%f3, %hf3, H3⟩
  ihave H4 := own_open c (M := st0_4 t) (hstage0_4 ((cfg0.slots t 4).cast nbuf0_4)) (Y 4) $$ H4
  icases H4 with ⟨%f4, %hf4, H4⟩
  ihave H5 := own_open c (M := st0_5 t) (hstage0_5 ((cfg0.slots t 5).cast nbuf0_5)) (Y 5) $$ H5
  icases H5 with ⟨%f5, %hf5, H5⟩
  ihave H6 := own_open c (M := st0_6 t) (hstage0_6 ((cfg0.slots t 6).cast nbuf0_6)) (Y 6) $$ H6
  icases H6 with ⟨%f6, %hf6, H6⟩
  ihave H7 := own_open c (M := st0_7 t) (hstage0_7 ((cfg0.slots t 7).cast nbuf0_7)) (Y 7) $$ H7
  icases H7 with ⟨%f7, %hf7, H7⟩
  ihave H8 := own_open c (M := st0_8 t) (hstage0_8 ((cfg0.slots t 8).cast nbuf0_8)) (Y 8) $$ H8
  icases H8 with ⟨%f8, %hf8, H8⟩
  ihave H9 := own_open c (M := st0_9 t) (hstage0_9 ((cfg0.slots t 9).cast nbuf0_9)) (Y 9) $$ H9
  icases H9 with ⟨%f9, %hf9, H9⟩
  unfold bodyAt0
  iapply (body_run (c := c))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨%g8, %g9, %g10, %g11, %g12, %g13, %g14, %g15, %hE, H0, H1, H2, H3, H4, H5, H6, H7, H8, H9, S0, S1, S2, S3, S4, S5⟩
  have hstep := step m c t hE (hf0.trans (found0 m c t (hY 0))) (hf1.trans (found1 m c t (hY 1))) (hf2.trans (found2 m c t (hY 2))) (hf3.trans (found3 m c t (hY 3))) (hf4.trans (found4 m c t (hY 4))) (hf5.trans (found5 m c t (hY 5))) (hf6.trans (found6 m c t (hY 6))) (hf7.trans (found7 m c t (hY 7))) hH
  isplitl [S0 S1 S2 S3 S4 S5 Hg]
  · isplitr [Hg]
    · iexists g10, g11, g12, g13, g14, g15
      isplitr; · ipureintro; exact hstep.1
      isplitl [S0]; · iexact S0
      isplitl [S1]; · iexact S1
      isplitl [S2]; · iexact S2
      isplitl [S3]; · iexact S3
      isplitl [S4]; · iexact S4
      iexact S5
    · iexact Hg
  isplitl [Howes]; · iexact Howes
  isplitl [H0]
  · iexists (Y 0); isplitr; (· ipureintro; exact ⟨fun _ => rfl, fun h => absurd h (by decide), fun h => absurd h (by decide)⟩); iapply (own_close c (M := st0_0 t) (hstage0_0 ((cfg0.slots t 0).cast nbuf0_0)) f0 hf0); iexact H0
  isplitl [H1]
  · iexists (Y 1); isplitr; (· ipureintro; exact ⟨fun _ => rfl, fun h => absurd h (by decide), fun h => absurd h (by decide)⟩); iapply (own_close c (M := st0_1 t) (hstage0_1 ((cfg0.slots t 1).cast nbuf0_1)) f1 hf1); iexact H1
  isplitl [H2]
  · iexists (Y 2); isplitr; (· ipureintro; exact ⟨fun _ => rfl, fun h => absurd h (by decide), fun h => absurd h (by decide)⟩); iapply (own_close c (M := st0_2 t) (hstage0_2 ((cfg0.slots t 2).cast nbuf0_2)) f2 hf2); iexact H2
  isplitl [H3]
  · iexists (Y 3); isplitr; (· ipureintro; exact ⟨fun _ => rfl, fun h => absurd h (by decide), fun h => absurd h (by decide)⟩); iapply (own_close c (M := st0_3 t) (hstage0_3 ((cfg0.slots t 3).cast nbuf0_3)) f3 hf3); iexact H3
  isplitl [H4]
  · iexists (Y 4); isplitr; (· ipureintro; exact ⟨fun _ => rfl, fun h => absurd h (by decide), fun h => absurd h (by decide)⟩); iapply (own_close c (M := st0_4 t) (hstage0_4 ((cfg0.slots t 4).cast nbuf0_4)) f4 hf4); iexact H4
  isplitl [H5]
  · iexists (Y 5); isplitr; (· ipureintro; exact ⟨fun _ => rfl, fun h => absurd h (by decide), fun h => absurd h (by decide)⟩); iapply (own_close c (M := st0_5 t) (hstage0_5 ((cfg0.slots t 5).cast nbuf0_5)) f5 hf5); iexact H5
  isplitl [H6]
  · iexists (Y 6); isplitr; (· ipureintro; exact ⟨fun _ => rfl, fun h => absurd h (by decide), fun h => absurd h (by decide)⟩); iapply (own_close c (M := st0_6 t) (hstage0_6 ((cfg0.slots t 6).cast nbuf0_6)) f6 hf6); iexact H6
  isplitl [H7]
  · iexists (Y 7); isplitr; (· ipureintro; exact ⟨fun _ => rfl, fun h => absurd h (by decide), fun h => absurd h (by decide)⟩); iapply (own_close c (M := st0_7 t) (hstage0_7 ((cfg0.slots t 7).cast nbuf0_7)) f7 hf7); iexact H7
  isplitl [H8]
  · iexists ((st0_8 t).view.read (Elt Ideal) g8); isplitr; swap; (· iapply (own_close c (M := st0_8 t) (hstage0_8 ((cfg0.slots t 8).cast nbuf0_8)) g8 rfl); iexact H8)
    ipureintro; exact ⟨fun h => absurd h Bool.noConfusion, fun _ => hstep.2.1, fun h => absurd h (by decide)⟩
  iexists ((st0_9 t).view.read (Elt Ideal) g9); isplitr; swap; (· iapply (own_close c (M := st0_9 t) (hstage0_9 ((cfg0.slots t 9).cast nbuf0_9)) g9 rfl); iexact H9)
  ipureintro; exact ⟨fun h => absurd h Bool.noConfusion, fun h => absurd h (by decide), fun _ => hf9 ▸ hstep.2.2⟩

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : (rdat m c).BodyObligation (defs₀ (F := Ideal)) Variants.none () Set.univ := fun t Y hY => by
  rw [bigSep_W0, bigSep_W0, defs₀_row]
  exact triple_restated (sound_body m c t Y hY) rfl .rfl fun _ => .rfl

theorem A_eq (c : Dev nD) (w : Fin cfg0.W) : (rdat m c).A w = V m c (Pipeline.arrRef spec0 w) := by
  dsimp only [rdat]

/-- The scratch buffers at the start hold anything. -/
theorem enter (c : Dev nD) : Pipeline.ΦA spec0 c ⊢ (rdat m c).Φ 0 := by
  rw [show (rdat m c).Φ 0 = inv m c 0 from rfl]
  unfold Pipeline.ΦA inv
  rw [scopedRest0_eq]
  iintro ⟨⟨⟨%s0, S0⟩, ⟨%s1, S1⟩, ⟨%s2, S2⟩, ⟨%s3, S3⟩, ⟨%s4, S4⟩, ⟨%s5, S5⟩⟩, Hg⟩
  isplitr [Hg]
  · iexists s0, s1, s2, s3, s4, s5
    isplitr; · ipureintro; exact ⟨fun h => absurd rfl h, fun _ _ h => absurd rfl h⟩
    isplitl [S0]; · iexact S0
    isplitl [S1]; · iexact S1
    isplitl [S2]; · iexact S2
    isplitl [S3]; · iexact S3
    isplitl [S4]; · iexact S4
    iexact S5
  · iexact Hg

theorem leave (c : Dev nD) : (rdat m c).Φ (Fin.last cfg0.N) ⊢ Pipeline.ΦA spec0 c := by
  rw [show (rdat m c).Φ (Fin.last cfg0.N) = inv m c cfg0.N from rfl]
  unfold Pipeline.ΦA inv
  rw [scopedRest0_eq]
  iintro ⟨⟨%s0, %s1, %s2, %s3, %s4, %s5, -, S0, S1, S2, S3, S4, S5⟩, Hg⟩
  isplitr [Hg]
  · isplitl [S0]; · iexists s0; iexact S0
    isplitl [S1]; · iexists s1; iexact S1
    isplitl [S2]; · iexists s2; iexact S2
    isplitl [S3]; · iexists s3; iexact S3
    isplitl [S4]; · iexists s4; iexact S4
    iexists s5; iexact S5
  · iexact Hg

set_option backward.isDefEq.respectTransparency.types false in
set_option maxHeartbeats 800000 in
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame_track_shared cfgs (0 : Fin 1) launch₀0 defs₀ Variants.none (rdat m) m ρ main
    (hbody := body_obligation m) (hq := fun _ _ _ => rfl) (howed := fun _ _ => rfl) (V := V m)
    (hmain := hmain m Variants.none) (hA := A_eq m) (hin := enter m) (hout := leave m)
    (Q' := _) (hQ' := fun _ h => h)

/-- What a final state of the run holds in the arguments. -/
theorem args_of {r : PUnit × MemSt nD τ sig (Elt Ideal)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 6 rfl).trans ((A_eq m c 6).trans (V_main_arg6 m c))⟩

/-- The frame: every execution ends, with the arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_of m h.1, h.2⟩) (run_main m ρ)

end Cert.KernelIdeal.Run

end
-- ==== Proof.KernelIdeal.Result.lean ====
/-
  `KernelIdeal`: the program's results. Where a batch's documents do not decrease, the first result holds its attention's
  output and the second its summed scores.
-/
module

public import proofs.«01_k».proof.Proof.KernelIdeal.Run
public import Idealize.ShloMosaic.Lib.Pipeline.ArrRel

@[expose] public section

set_option maxRecDepth 65536

noncomputable section

namespace Cert.KernelIdeal.Run

open Cert.KernelIdeal Cert.KernelIdeal.Gen Cert.KernelIdeal.Body Cert.KernelIdeal.Value Cert.Math
open Idealize.ShloMosaic hiding ix1 ix2 ix3 ix4
open Idealize.ShloMosaic.ValueIdx
open Idealize.ShloMosaic.TcCoe Idealize.SL Idealize.SL.Sem
open Idealize.ShloMosaic.Pipeline (RDat Dat)

variable (m : (ℓ : Loc nD τ sig) → Buf (Elt Ideal) ℓ)

theorem fetch9 : ∀ t : Fin cfg0.N, (cfg0.win 9).fetch t = false := (by decide +kernel : ∀ t : Fin grid0.N, win0_9.fetch t = false)

theorem whole9 : win0_9.WholeAt (⟨15, by decide⟩ : Fin grid0.N) := by
  unfold Pipeline.Window.WholeAt; decide +kernel

/-- Once a batch's last point has passed, the buffer of the sums holds its row. -/
theorem sums_left (c : Dev nD) : ∀ (n : ℕ) (t : Fin cfg0.N), t.val = n → ∀ X : Vec Ideal S2x1024 .f32, (rdat m c).Leaves 9 t X →
    ∀ b : Fin 2, 8 * b.val + 7 ≤ t.val → (bat m c b).Sorted → ∀ j : Fin 1024, X (ix2 b j) = (bat m c b).sum 1024 j := by
  intro n
  induction n with
  | zero => intro t ht X _ b hb; omega
  | succ n ih =>
    intro t ht X hX b hb hs j
    have htN : t.val < 16 := t.isLt
    obtain ⟨Y, hY, hA⟩ := hX
    have hrow : SumRow m c t Y X := hA.2.2 rfl
    by_cases h : t.val = 8 * b.val + 7
    · exact (hrow b j).1 h hs
    · refine ((hrow b j).2 h).trans ?_
      rcases ((rdat m c).finds_of_pos (fetch9 t) (by omega) Y).mp hY with hf | hL
      · have := (flush0_9 _).mp hf
        have e : (⟨t.val - 1, Nat.lt_of_le_of_lt (Nat.sub_le _ _) t.isLt⟩ : Fin cfg0.N).val = t.val - 1 := rfl
        omega
      · exact ih _ (by show t.val - 1 = n; omega) Y hL b (by show _ ≤ t.val - 1; omega) hs j

variable {r : PUnit × MemSt nD τ sig (Elt Ideal)}

/-- The second result. -/
theorem sums_at (h : RDat.FramePost (cfgs 0) (rdat m) (V m) r) (c : Dev nD) (b : Fin 2) (hs : (bat m c b).Sorted) (j : Fin 1024) :
    r.2.mem ((c.tc : Thread nD τ).loc main_v6_1) (ix2 b j) = (bat m c b).sum 1024 j := by
  have hG := (h c).1 9
  obtain ⟨X, hX, hj⟩ := RDat.ArrAt.emb_eq_of_wholeAt hG (t₀ := (⟨15, by decide⟩ : Fin grid0.N)) whole9
  have hb : b.val < 2 := b.isLt
  refine (hj (ix2 b j)).trans ?_
  exact sums_left m c 15 _ rfl X hX b (by show _ ≤ 15; omega) hs j

/-- The first result. -/
theorem out_at (h : RDat.FramePost (cfgs 0) (rdat m) (V m) r) (c : Dev nD) (b : Fin 2) (hs : (bat m c b).Sorted)
    (a : Fin 1024) (hd : Fin 20) (d : Fin 128) (k : Fin 2560) (hk : k.val = 128 * hd.val + d.val) :
    r.2.mem ((c.tc : Thread nD τ).loc main_v6_0) (ix3 b a k) = (bat m c b).out hd a d := by
  obtain ⟨after, hL, hA⟩ := RDat.FramePost.exists_exact h c
  refine (congrFun (hA 8) (ix3 b a k)).trans ?_
  have key := ((rdat m c).withAfter after).arrAt_forall_of_covers 8
    (fun (i : S2x1024x2560.Idx) (v : EReal) => ∀ (b : Fin 2) (a : Fin 1024) (hd : Fin 20) (d : Fin 128), (i 0).val = b.val →
      (i 1).val = a.val → (i 2).val = 128 * hd.val + d.val → (bat m c b).Sorted → v = (bat m c b).out hd a d)
    (by decide +kernel) ?_ (ix3 b a k)
  · exact key b a hd d rfl rfl hk hs
  intro t hf y b a hd d e0 e1 e2 hs
  obtain ⟨Y, -, hB⟩ := hL 8 t hf
  have hB : OutBlock m c t (after 8 t) := hB.2.1 rfl
  blk_simp [index8 t] at e0 e1 e2
  obtain rfl : b = (grid0.coords t 0 : Fin 2) := Fin.ext (by idx_bounds y; omega)
  idx_bounds y
  refine Eq.trans ?_ (hB hs hd ⟨(y 1).val, (y 1).isLt⟩ d a y (by omega) rfl (by omega) (by show _ = _ + (y 1).val; omega))
  rfl

end Cert.KernelIdeal.Run

end
-- ==== Proof.ReferenceIdeal.Prefix.lean ====
/-
  `ReferenceIdeal`: sums over a window that reaches back over all earlier rows are running sums.
-/
module

public import proofs.«01_k».proof.Proof.Gen.ReferenceIdeal.Frame
public import proofs.«01_k».proof.Proof.Inputs
public import Idealize.ShloMosaic.Lib.Claim
public import Idealize.ShloMosaic.Lib.Pointwise

@[expose] public section

set_option maxRecDepth 65536

noncomputable section

namespace Cert.ReferenceIdeal.Value

open Cert.ReferenceIdeal Cert.ReferenceIdeal.Gen
open Idealize.ShloMosaic hiding ix1 ix2 ix3 ix4
open Idealize.ShloMosaic.ValueIdx

theorem foldl_add {N : ℕ} (f : Fin N → EReal) (v : EReal) : (List.finRange N).foldl (fun r n => r + f n) v = v + ∑ n, f n := by
  have g : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [g, Fin.sum_univ_def]

/-- The window's positions: its second axis alone counts. -/
abbrev Win : Shape := ⟨3, ![1, 1024, 1]⟩

def winEquiv : Fin 1024 ≃ Win.Idx where
  toFun n := ix3 0 n 0
  invFun y := y 1
  left_inv _ := rfl
  right_inv y := by
    funext a
    match a with
    | 0 => exact Subsingleton.elim (α := Fin 1) _ _
    | 1 => rfl
    | 2 => exact Subsingleton.elim (α := Fin 1) _ _

/-- A window of 1024 rows that ends with row `i`, rows before the first counting as zero. -/
theorem window_sum (x : S2x1024x1024.Idx → EReal) (b : Fin 2) (i j : Fin 1024) :
    Host.reduceWindowAdd (F := Ideal) (φ := .f32) ![1, 1024, 1] ![1, 1, 1] ![0, 1023, 0] ![0, 0, 0] x
      (broadcastInDim S_ ![] bcast_S_S_ (constant S_ FTy.f32 0#32))
      reduceWindows_S2x1024x1024_S2x1024x1024_w1s1p0_0_w1024s1p1023_0_w1s1p0_0 h_S_ (ix3 b i j)
    = ∑ a ∈ Finset.range (i.val + 1), if h : a < 1024 then x (ix3 b ⟨a, h⟩ j) else 0 := by
  have hz : (broadcastInDim S_ ![] bcast_S_S_ (constant (F := Ideal) S_ FTy.f32 0#32)) (Shape.Idx.first h_S_) = (0 : EReal) :=
    Ideal.ofBits_zero_f32
  have key : ∀ G : ℕ → EReal, (∀ n < 1023 - i.val, G n = 0) →
      (∀ a (h : a < 1024), a ≤ i.val → G (1023 - i.val + a) = x (ix3 b ⟨a, h⟩ j)) →
      ∑ n : Fin 1024, G n.val = ∑ a ∈ Finset.range (i.val + 1), if h : a < 1024 then x (ix3 b ⟨a, h⟩ j) else 0 := by
    intro G h0 h1
    rw [Fin.sum_univ_eq_sum_range]
    refine (congrArg (fun N => ∑ n ∈ Finset.range N, G n) (by omega : 1024 = (1023 - i.val) + (i.val + 1))).trans ?_
    rw [Finset.sum_range_add,
      Finset.sum_eq_zero (fun n hn => h0 n (Finset.mem_range.mp hn)), zero_add]
    refine Finset.sum_congr rfl fun a ha => ?_
    have ha' := Finset.mem_range.mp ha
    rw [dif_pos (show a < 1024 by omega)]
    exact h1 a _ (by omega)
  unfold Host.reduceWindowAdd
  rw [Ideal.hostReduceWindowAdd_def]
  unfold Ideal.hostReduceWindowAdd Host.reduceWindow
  refine (foldl_add _ _).trans ?_
  refine (congrArg (· + _) hz).trans ?_
  rw [zero_add]
  refine (Equiv.sum_comp (winEquiv.trans Win.rowMajor) _).symm.trans ?_
  refine (Finset.sum_congr rfl fun n _ => ?_).trans
    (key (fun n => if h : 1023 ≤ i.val + n ∧ i.val + n < 2047 then x (ix3 b ⟨i.val + n - 1023, by omega⟩ j) else 0) ?_ ?_)
  · have e : Win.rowMajor.symm ((winEquiv.trans Win.rowMajor) n) = ix3 0 n 0 := Equiv.symm_apply_apply _ _
    have e0 : (Win.rowMajor.symm ((winEquiv.trans Win.rowMajor) n) 0).val = 0 := by rw [e]; rfl
    have e1 : (Win.rowMajor.symm ((winEquiv.trans Win.rowMajor) n) 1).val = n.val := by rw [e]
    have e2 : (Win.rowMajor.symm ((winEquiv.trans Win.rowMajor) n) 2).val = 0 := by rw [e]; rfl
    by_cases h : 1023 ≤ i.val + n.val
    · refine Eq.trans ?_ (dif_pos ⟨h, by omega⟩).symm
      rw [dif_pos]
      rotate_left
      · intro a
        match a with
        | 0 => show 0 ≤ b.val * 1 + (Win.rowMajor.symm ((winEquiv.trans Win.rowMajor) n) 0).val ∧ b.val * 1 + (Win.rowMajor.symm ((winEquiv.trans Win.rowMajor) n) 0).val - 0 < 2; omega
        | 1 => show 1023 ≤ i.val * 1 + (Win.rowMajor.symm ((winEquiv.trans Win.rowMajor) n) 1).val ∧ i.val * 1 + (Win.rowMajor.symm ((winEquiv.trans Win.rowMajor) n) 1).val - 1023 < 1024; omega
        | 2 => show 0 ≤ j.val * 1 + (Win.rowMajor.symm ((winEquiv.trans Win.rowMajor) n) 2).val ∧ j.val * 1 + (Win.rowMajor.symm ((winEquiv.trans Win.rowMajor) n) 2).val - 0 < 1024; omega
      · refine congrArg x (funext fun a => Fin.ext ?_)
        match a with
        | 0 => show b.val * 1 + (Win.rowMajor.symm ((winEquiv.trans Win.rowMajor) n) 0).val - 0 = b.val; omega
        | 1 => show i.val * 1 + (Win.rowMajor.symm ((winEquiv.trans Win.rowMajor) n) 1).val - 1023 = i.val + n.val - 1023; omega
        | 2 => show j.val * 1 + (Win.rowMajor.symm ((winEquiv.trans Win.rowMajor) n) 2).val - 0 = j.val; omega
    · refine Eq.trans ?_ (dif_neg (fun h' => h h'.1)).symm
      rw [dif_neg]
      · exact hz
      intro hin
      have h1 : 1023 ≤ i.val * 1 + (Win.rowMajor.symm ((winEquiv.trans Win.rowMajor) n) 1).val := (hin 1).1
      omega
  · intro n hn
    exact dif_neg (by omega)
  · intro a h ha
    have e : i.val + (1023 - i.val + a) - 1023 = a := by omega
    show dite _ _ _ = _
    rw [dif_pos (by omega)]
    refine congrArg (fun r => x (ix3 b r j)) (Fin.ext e)

end Cert.ReferenceIdeal.Value

end
-- ==== Proof.ReferenceIdeal.Stages.lean ====
/-
  `ReferenceIdeal`: what the reference's host lines compute, stage by stage, each from arbitrary contents before it.
-/
module

public import proofs.«01_k».proof.Proof.ReferenceIdeal.Prefix
public import proofs.«01_k».proof.Proof.KernelIdeal.Values
public import Idealize.ShloMosaic.Lib.StableHlo.RunRead
public import Idealize.ShloMosaic.Lib.StableHlo.ReadAt

@[expose] public section

set_option maxRecDepth 65536

noncomputable section

namespace Cert.ReferenceIdeal.Value

open Cert.ReferenceIdeal Cert.ReferenceIdeal.Gen Cert.Math
open Cert.KernelIdeal.Value (sle_small slt_small select_ofBool top_bits bot_bits fac_bits)
open Idealize.ShloMosaic hiding ix1 ix2 ix3 ix4
open Idealize.ShloMosaic.ValueIdx
open Idealize.ShloMosaic.TcCoe Idealize.SL
open scoped Classical

variable (σ : Valuation τ sig (Elt Ideal))

/-- The batches that contents hold. -/
def bt : Fin 2 → Batch :=
  batch (σ (Proc.devRef .tc main_v0_0)) (σ (Proc.devRef .tc main_arg1)) (σ (Proc.devRef .tc main_v0_1))
    (σ (Proc.devRef .tc main_arg3)) (σ (Proc.devRef .tc main_v0_2)) (σ (Proc.devRef .tc main_arg5))
    (σ (Proc.devRef .tc main_arg6))

/-! ## Logits, masks -/

/-- The lines that compute the logits and the masks. -/
abbrev opsA : List (HloOp τ sig (Elt Ideal)) := hostOps1 ++ hostOps1_1 ++ hostOps1_2

theorem logit_at (b : Fin 2) (h : Fin 20) (i j : Fin 1024) :
    StableHlo.after opsA σ (Proc.devRef .tc main_v19) (ix4 b h i j) = (bt σ b).logit h i j := by
  after_reads_at
  rw [fac_bits]
  rfl

theorem vis_at (b : Fin 2) (i j : Fin 1024) :
    StableHlo.after opsA σ (Proc.devRef .tc main_v32) (ix3 b i j) = BitVec.ofBool (decide ((bt σ b).vis i j)) := by
  after_reads_at
  show IntOp.andi (BitVec.ofBool ((bt σ b).doc i == (bt σ b).doc j)) (IntOp.cmpi .sle (BitVec.ofNat 32 j.val) (BitVec.ofNat 32 i.val)) = _
  rw [sle_small (by omega) (by omega), WordArith.andi_ofBool, beq_eq_decide, ← Bool.decide_and]
  exact congrArg _ (decide_eq_decide.mpr Iff.rfl)

/-- A document starts where the roll by one differs, and at the first position. -/
theorem start_word (D : Fin 1024 → BitVec 32) (j : Fin 1024) :
    IntOp.ori (IntOp.cmpi .eq (BitVec.ofNat 32 j.val) 0#32)
      (IntOp.cmpi .ne (D j) (if h : j.val < 1 then D ⟨1023 + j.val, by omega⟩ else D ⟨j.val - 1, by omega⟩))
    = BitVec.ofBool (decide (j.val = 0 ∨ D j ≠ D ⟨(j.val + 1023) % 1024, by omega⟩)) := by
  by_cases hj : j.val = 0
  · obtain rfl : j = (0 : Fin 1024) := Fin.ext hj
    refine Eq.trans ?_ (congrArg BitVec.ofBool (decide_eq_true (Or.inl rfl))).symm
    show BitVec.ofBool true ||| BitVec.ofBool (D _ != D _) = _
    generalize (D _ != D _) = c
    cases c <;> rfl
  · have e : (⟨j.val - 1, by omega⟩ : Fin 1024) = ⟨(j.val + 1023) % 1024, by omega⟩ := Fin.ext (by show j.val - 1 = _ % _; omega)
    have h0 : (BitVec.ofNat 32 j.val == 0#32) = false := by
      rw [beq_eq_false_iff_ne]
      intro h
      have := congrArg BitVec.toNat h
      simp only [BitVec.toNat_ofNat] at this
      omega
    rw [dif_neg (by omega), e]
    show BitVec.ofBool (BitVec.ofNat 32 j.val == 0#32) ||| BitVec.ofBool (D j != D _) = _
    rw [h0]
    by_cases hv : D j = D ⟨(j.val + 1023) % 1024, by omega⟩
    · simp [hj, hv]
    · have hb : (D j != D ⟨(j.val + 1023) % 1024, by omega⟩) = true := bne_iff_ne.mpr hv
      rw [hb]
      simp [hj, hv]

theorem start_at (b : Fin 2) (j : Fin 1024) :
    StableHlo.after opsA σ (Proc.devRef .tc main_v8) (ix2 b j) = BitVec.ofBool (decide ((bt σ b).start j)) := by
  after_reads_at
  unfold StableHlo.upto
  after_reads_at
  exact (start_word (bt σ b).doc j).trans (congrArg _ (decide_eq_decide.mpr Iff.rfl))

theorem sel_at (b : Fin 2) (i j : Fin 1024) :
    StableHlo.after opsA σ (Proc.devRef .tc main_v44) (ix3 b i j) = BitVec.ofBool (decide ((bt σ b).sel i j)) := by
  after_reads_at
  unfold StableHlo.upto
  after_reads_at
  have hn : ∀ c, ~~~BitVec.ofBool c = BitVec.ofBool (!c) := by decide
  refine (congrArg (fun z => IntOp.andi _ (~~~z)) (start_word (bt σ b).doc j)).trans ?_
  show IntOp.andi (IntOp.andi (BitVec.ofBool ((bt σ b).doc i == (bt σ b).doc j))
    (IntOp.cmpi .slt (BitVec.ofNat 32 j.val) (BitVec.ofNat 32 i.val))) (~~~ BitVec.ofBool _) = _
  rw [slt_small (by omega) (by omega), WordArith.andi_ofBool, beq_eq_decide, ← Bool.decide_and, hn, WordArith.andi_ofBool,
    ← decide_not, ← Bool.decide_and]
  exact congrArg _ (decide_eq_decide.mpr Iff.rfl)

theorem relu_at (b : Fin 2) (i j : Fin 1024) :
    StableHlo.after opsA σ (Proc.devRef .tc main_v48) (ix3 b i j) = max ((bt σ b).logit 0 i j) 0 := by
  after_reads_at
  rw [fac_bits]
  rfl

theorem zero_at : StableHlo.after opsA σ (Proc.devRef .tc main_cst_1) = fun _ => (0 : EReal) := by
  after_reads_simp
  exact funext fun _ => Ideal.ofBits_zero_f32

/-! ## Scores and their sums -/

/-- The lines that pick the scores that are summed. -/
abbrev opsB : List (HloOp τ sig (Elt Ideal)) := hostOps1_3 ++ hostOps1_4 ++ hostOps1_5

theorem nan_bits : Ideal.ofBits .f32 0x7FC00000#32 = ⊥ := by
  simp [Ideal.ofBits, Ideal.ieee]

theorem st_at (B : Fin 2 → Batch)
    (hsel : ∀ b i j, σ (Proc.devRef .tc main_v44) (ix3 b i j) = BitVec.ofBool (decide ((B b).sel i j)))
    (hrelu : ∀ b i j, σ (Proc.devRef .tc main_v48) (ix3 b i j) = max ((B b).logit 0 i j) 0)
    (hzero : σ (Proc.devRef .tc main_cst_1) = fun _ => (0 : EReal)) (b : Fin 2) (i j : Fin 1024) :
    StableHlo.after opsB σ (Proc.devRef .tc main_v52) (ix3 b i j) = (B b).st i j := by
  after_reads_at
  have hs : Scalar.select (σ (Proc.devRef .tc main_v44) (ix3 b i j)) (σ (Proc.devRef .tc main_v48) (ix3 b i j))
      (id (σ (Proc.devRef .tc main_cst_1)) Idealize.ShloMosaic.ix0) = (B b).score i j := by
    rw [hsel, hrelu, hzero, select_ofBool]
    rfl
  rw [hs, top_bits]
  unfold Batch.st
  refine congrArg (fun z => ite _ _ z) nan_bits

/-- The lines that sum the scores of earlier queries. -/
abbrev opsC : List (HloOp τ sig (Elt Ideal)) := hostOps1_6 ++ hostOps1_7

theorem shifted_at (b : Fin 2) (i j : Fin 1024) :
    StableHlo.after (hostOps1_6 (F := Ideal)) σ (Proc.devRef .tc main_v55) (ix3 b i j)
      = if h : i.val < 1 then (0 : EReal) else σ (Proc.devRef .tc main_v52) (ix3 b ⟨i.val - 1, by omega⟩ j) := by
  after_reads_at
  rfl

theorem sum_at (B : Fin 2 → Batch)
    (hst : ∀ b i j, σ (Proc.devRef .tc main_v52) (ix3 b i j) = (B b).st i j) (b : Fin 2) (i j : Fin 1024) :
    StableHlo.after opsC σ (Proc.devRef .tc main_v56) (ix3 b i j) = (B b).sum i.val j := by
  rw [StableHlo.after_append]
  have h55 := shifted_at σ
  generalize StableHlo.after (hostOps1_6 (F := Ideal)) σ = V at h55 ⊢
  after_reads_simp
  refine (window_sum (V (Proc.devRef .tc main_v55)) b i j).trans ?_
  rw [Finset.sum_range_succ']
  unfold Batch.sum
  refine (congrArg₂ (· + ·) (Finset.sum_congr rfl fun a ha => ?_) ?_).trans (add_zero _)
  · have ha' := Finset.mem_range.mp ha
    rw [dif_pos (by omega), dif_pos (by omega), h55, dif_neg (by show ¬ a + 1 < 1; omega)]
    exact hst b _ j
  · rw [dif_pos (by omega), h55, dif_pos (by show 0 < 1; omega)]

/-! ## Attention -/

/-- The lines that mask the logits less the sums. -/
abbrev opsD : List (HloOp τ sig (Elt Ideal)) := hostOps1_8 ++ hostOps1_9

theorem zz_at (B : Fin 2 → Batch)
    (hvis : ∀ b i j, σ (Proc.devRef .tc main_v32) (ix3 b i j) = BitVec.ofBool (decide ((B b).vis i j)))
    (hlogit : ∀ b h i j, σ (Proc.devRef .tc main_v19) (ix4 b h i j) = (B b).logit h i j)
    (hsum : ∀ b i j, σ (Proc.devRef .tc main_v56) (ix3 b i j) = (B b).sum i.val j)
    (b : Fin 2) (h : Fin 20) (i j : Fin 1024) :
    StableHlo.after opsD σ (Proc.devRef .tc main_v61) (ix4 b h i j) = (B b).zz h i j := by
  after_reads_at
  show Scalar.select (σ (Proc.devRef .tc main_v32) (ix3 b i j))
    (@HSub.hSub EReal EReal EReal _ (σ (Proc.devRef .tc main_v19) (ix4 b h i j)) (σ (Proc.devRef .tc main_v56) (ix3 b i j))) _ = _
  rw [hvis, hlogit, hsum, select_ofBool]
  unfold Batch.zz
  refine congrArg (fun z => ite _ _ z) bot_bits

theorem total_at (B : Fin 2 → Batch)
    (hst : ∀ b i j, σ (Proc.devRef .tc main_v52) (ix3 b i j) = (B b).st i j) (b : Fin 2) (j : Fin 1024) :
    StableHlo.after (hostOps1_10 (F := Ideal)) σ (Proc.devRef .tc main_v82) (ix2 b j) = (B b).sum 1024 j := by
  after_reads_at
  unfold Batch.sum
  rw [← Fin.sum_univ_eq_sum_range (fun a => if h : a < 1024 then (B b).st ⟨a, h⟩ j else 0) 1024]
  refine Finset.sum_congr rfl fun a _ => ?_
  rw [dif_pos a.isLt]
  exact hst b a j

theorem fold_max {ι : Type*} (s : Finset ι) (f : ι → EReal) : Finset.fold max ⊥ f s = s.sup f := rfl

theorem out_at (B : Fin 2 → Batch)
    (hzz : ∀ b h i j, σ (Proc.devRef .tc main_v61) (ix4 b h i j) = (B b).zz h i j)
    (hv : ∀ b h j d, σ (Proc.devRef .tc main_v0_2) (ix4 b j h d) = (B b).v h j d)
    (hvs : ∀ b h j, σ (Proc.devRef .tc main_arg5) (ix3 b j h) = (B b).vs h j)
    (b : Fin 2) (i : Fin 1024) (k : Fin 2560) :
    StableHlo.after (hostOps1_10 (F := Ideal)) σ (Proc.devRef .tc main_v81) (ix3 b i k)
      = (B b).out ⟨k.val / 128, by omega⟩ i ⟨k.val % 128, by omega⟩ := by
  have hz : ∀ h, (fun j => (σ (Proc.devRef .tc main_v61) (ix4 b h i j) : EReal)) = (B b).zz h i := fun h => funext (hzz b h i)
  after_reads_at
  have ht : ∀ h, Finset.fold max (Ideal.ofBits FTy.f32 0xFF800000#32) (fun j => (σ (Proc.devRef .tc main_v61) (ix4 b h i j) : EReal)) Finset.univ
      = (B b).top h i := fun h => by
    rw [hz, bot_bits]
    rfl
  have he : ∀ h j, Ideal.exp (@HSub.hSub EReal EReal EReal _ (σ (Proc.devRef .tc main_v61) (ix4 b h i j))
      (Finset.fold max (Ideal.ofBits FTy.f32 0xFF800000#32)
        (fun j => (σ (Proc.devRef .tc main_v61) (ix4 b h i j) : EReal)) Finset.univ)) = (B b).e h i j := fun h j => by
    rw [ht, hzz]
    rfl
  unfold Batch.out
  refine Finset.sum_congr rfl fun j _ => ?_
  refine (mul_comm _ _).trans (congrArg₂ (· * ·) (congrArg₂ (· * ·) (congrArg₂ (· * ·) (he _ j) (congrArg (Ideal.div 1) ?_)) (hvs b _ j)) (hv b _ j _))
  exact Finset.sum_congr rfl fun j _ => he _ j

end Cert.ReferenceIdeal.Value

end
-- ==== Proof.ReferenceIdeal.Result.lean ====
/-
  `ReferenceIdeal`: the reference's two results, from its arguments.
-/
module

public import proofs.«01_k».proof.Proof.ReferenceIdeal.Stages
public import Idealize.ShloMosaic.Lib.Pipeline.ValueKit.Geometry
public import Idealize.ShloMosaic.Lib.Pipeline.ValueKit.Point
public import Idealize.ShloMosaic.Lib.Pipeline.FrameSuffix

@[expose] public section

set_option maxRecDepth 65536

noncomputable section

namespace Cert.ReferenceIdeal.Value

open Cert.ReferenceIdeal Cert.ReferenceIdeal.Gen Cert.Math
open Idealize.ShloMosaic hiding ix1 ix2 ix3 ix4
open Idealize.ShloMosaic.ValueIdx
open Idealize.ShloMosaic.TcCoe Idealize.SL Idealize.SL.Sem
open scoped Classical

variable (m : (ℓ : Loc nD τ sig) → Buf (Elt Ideal) ℓ)

/-- The batches of core `c`'s arguments. -/
def bat (c : Dev nD) : Fin 2 → Batch :=
  batch (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-! ## The decoded codes -/

theorem off_zero : (![0, 0, 0, 0] : Fin S2x1024x20x128.rank → ℕ) = fun _ => 0 := by decide

theorem decoded3 (c : Dev nD) (i : S2x1024x20x128.Idx) :
    (dats m 0 c).arrAt 3 cfg0.N i = m ((c.tc : Thread nD τ).loc main_arg0) i := by
  refine (dats m 0 c).arrAt_forall_of_covers 3 (fun (i : S2x1024x20x128.Idx) (v : EReal) => v = m ((c.tc : Thread nD τ).loc main_arg0) i)
    (by decide +kernel) (fun t hf y => ?_) i
  rw [after0_3]
  unfold out0_3
  rw [View.canon_unit_zero off_zero, View.ld_unit_zero off_zero]
  rfl

theorem decoded4 (c : Dev nD) (i : S2x1024x20x128.Idx) :
    (dats m 0 c).arrAt 4 cfg0.N i = m ((c.tc : Thread nD τ).loc main_arg2) i := by
  refine (dats m 0 c).arrAt_forall_of_covers 4 (fun (i : S2x1024x20x128.Idx) (v : EReal) => v = m ((c.tc : Thread nD τ).loc main_arg2) i)
    (by decide +kernel) (fun t hf y => ?_) i
  rw [after0_4]
  unfold out0_4
  rw [View.canon_unit_zero off_zero, View.ld_unit_zero off_zero]
  rfl

theorem decoded5 (c : Dev nD) (i : S2x1024x20x128.Idx) :
    (dats m 0 c).arrAt 5 cfg0.N i = m ((c.tc : Thread nD τ).loc main_arg4) i := by
  refine (dats m 0 c).arrAt_forall_of_covers 5 (fun (i : S2x1024x20x128.Idx) (v : EReal) => v = m ((c.tc : Thread nD τ).loc main_arg4) i)
    (by decide +kernel) (fun t hf y => ?_) i
  rw [after0_5]
  unfold out0_5
  rw [View.canon_unit_zero off_zero, View.ld_unit_zero off_zero]
  rfl

/-! ## The results -/

/-- Contents when the host lines begin. -/
def W0 (c : Dev nD) : Valuation τ sig (Elt Ideal) :=
  Pipeline.withArrays spec0 c (V0 m c) fun w => (dats m 0 c).arrAt w cfg0.N

theorem tail_eq (c : Dev nD) (b : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10] c b
      = StableHlo.after hostOps1_10 (StableHlo.after opsD (StableHlo.after opsC (StableHlo.after opsB (StableHlo.after opsA (W0 m c))))) (Proc.devRef .tc b) := by
  unfold Pipeline.afterTail₀
  simp only [List.flatten_cons, List.flatten_nil, List.append_nil, StableHlo.after_append]
  rfl

theorem arr_inj : Function.Injective (Pipeline.arrRef spec0) := by decide +kernel

/-- When the host lines begin, the decoded codes and the other arguments are in place. -/
theorem bt_W0 (c : Dev nD) : bt (W0 m c) = bat m c := by
  have h3 : W0 m c (Proc.devRef .tc main_v0_0) = m ((c.tc : Thread nD τ).loc main_arg0) :=
    (Pipeline.withArrays_arr spec0 arr_inj c (V0 m c) _ 3).trans (funext fun i => decoded3 m c i)
  have h4 : W0 m c (Proc.devRef .tc main_v0_1) = m ((c.tc : Thread nD τ).loc main_arg2) :=
    (Pipeline.withArrays_arr spec0 arr_inj c (V0 m c) _ 4).trans (funext fun i => decoded4 m c i)
  have h5 : W0 m c (Proc.devRef .tc main_v0_2) = m ((c.tc : Thread nD τ).loc main_arg4) :=
    (Pipeline.withArrays_arr spec0 arr_inj c (V0 m c) _ 5).trans (funext fun i => decoded5 m c i)
  have a1 : W0 m c (Proc.devRef .tc main_arg1) = m ((c.tc : Thread nD τ).loc main_arg1) :=
    Pipeline.withArrays_of_ne spec0 c (V0 m c) _ main_arg1 (by decide +kernel)
  have a3 : W0 m c (Proc.devRef .tc main_arg3) = m ((c.tc : Thread nD τ).loc main_arg3) :=
    Pipeline.withArrays_of_ne spec0 c (V0 m c) _ main_arg3 (by decide +kernel)
  have a5 : W0 m c (Proc.devRef .tc main_arg5) = m ((c.tc : Thread nD τ).loc main_arg5) :=
    Pipeline.withArrays_of_ne spec0 c (V0 m c) _ main_arg5 (by decide +kernel)
  have a6 : W0 m c (Proc.devRef .tc main_arg6) = m ((c.tc : Thread nD τ).loc main_arg6) :=
    Pipeline.withArrays_of_ne spec0 c (V0 m c) _ main_arg6 (by decide +kernel)
  unfold bt bat
  rw [h3, h4, h5, a1, a3, a5, a6]

section Keep

variable (σ : Valuation τ sig (Elt Ideal))

theorem keepA_v : StableHlo.after opsA σ (Proc.devRef .tc main_v0_2) = σ (Proc.devRef .tc main_v0_2) := by after_reads_simp
theorem keepA_vs : StableHlo.after opsA σ (Proc.devRef .tc main_arg5) = σ (Proc.devRef .tc main_arg5) := by after_reads_simp
theorem keepB_v : StableHlo.after opsB σ (Proc.devRef .tc main_v0_2) = σ (Proc.devRef .tc main_v0_2) := by after_reads_simp
theorem keepB_vs : StableHlo.after opsB σ (Proc.devRef .tc main_arg5) = σ (Proc.devRef .tc main_arg5) := by after_reads_simp
theorem keepB_vis : StableHlo.after opsB σ (Proc.devRef .tc main_v32) = σ (Proc.devRef .tc main_v32) := by after_reads_simp
theorem keepB_logit : StableHlo.after opsB σ (Proc.devRef .tc main_v19) = σ (Proc.devRef .tc main_v19) := by after_reads_simp
theorem keepC_v : StableHlo.after opsC σ (Proc.devRef .tc main_v0_2) = σ (Proc.devRef .tc main_v0_2) := by after_reads_simp
theorem keepC_vs : StableHlo.after opsC σ (Proc.devRef .tc main_arg5) = σ (Proc.devRef .tc main_arg5) := by after_reads_simp
theorem keepC_vis : StableHlo.after opsC σ (Proc.devRef .tc main_v32) = σ (Proc.devRef .tc main_v32) := by after_reads_simp
theorem keepC_logit : StableHlo.after opsC σ (Proc.devRef .tc main_v19) = σ (Proc.devRef .tc main_v19) := by after_reads_simp
theorem keepC_st : StableHlo.after opsC σ (Proc.devRef .tc main_v52) = σ (Proc.devRef .tc main_v52) := by after_reads_simp
theorem keepD_v : StableHlo.after opsD σ (Proc.devRef .tc main_v0_2) = σ (Proc.devRef .tc main_v0_2) := by after_reads_simp
theorem keepD_vs : StableHlo.after opsD σ (Proc.devRef .tc main_arg5) = σ (Proc.devRef .tc main_arg5) := by after_reads_simp
theorem keepD_st : StableHlo.after opsD σ (Proc.devRef .tc main_v52) = σ (Proc.devRef .tc main_v52) := by after_reads_simp

/-- From contents `σ`, the scores after the lines that compute them. -/
theorem st_from (b : Fin 2) (i j : Fin 1024) :
    StableHlo.after opsB (StableHlo.after opsA σ) (Proc.devRef .tc main_v52) (ix3 b i j) = (bt σ b).st i j :=
  st_at _ (bt σ) (sel_at σ) (relu_at σ) (zero_at σ) b i j

/-- From contents `σ`, the second result. -/
theorem total_from (b : Fin 2) (j : Fin 1024) :
    StableHlo.after hostOps1_10 (StableHlo.after opsD (StableHlo.after opsC (StableHlo.after opsB (StableHlo.after opsA σ)))) (Proc.devRef .tc main_v82) (ix2 b j)
      = (bt σ b).sum 1024 j := by
  refine total_at _ (bt σ) (fun b i j => ?_) b j
  rw [keepD_st, keepC_st]
  exact st_from σ b i j

/-- From contents `σ`, the first result. -/
theorem out_from (b : Fin 2) (i : Fin 1024) (k : Fin 2560) :
    StableHlo.after hostOps1_10 (StableHlo.after opsD (StableHlo.after opsC (StableHlo.after opsB (StableHlo.after opsA σ)))) (Proc.devRef .tc main_v81) (ix3 b i k)
      = (bt σ b).out ⟨k.val / 128, by omega⟩ i ⟨k.val % 128, by omega⟩ := by
  refine out_at _ (bt σ) (fun b h i j => ?_) (fun b h j d => ?_) (fun b h j => ?_) b i k
  · refine zz_at _ (bt σ) (fun b i j => ?_) (fun b h i j => ?_) (fun b i j => ?_) b h i j
    · rw [keepC_vis, keepB_vis]
      exact vis_at σ b i j
    · rw [keepC_logit, keepB_logit]
      exact logit_at σ b h i j
    · exact sum_at _ (bt σ) (st_from σ) b i j
  · rw [keepD_v, keepC_v, keepB_v, keepA_v]
    rfl
  · rw [keepD_vs, keepC_vs, keepB_vs, keepA_vs]
    rfl

end Keep

/-- The results as the batches give them. -/
def outOf (B : Fin 2 → Batch) : (⟨3, ![2, 1024, 2560]⟩ : Shape).Idx → EReal :=
  fun i => (B (i 0)).out ⟨(i 2).val / 128, by have : (i 2).val < 2560 := (i 2).isLt; omega⟩ (i 1) ⟨(i 2).val % 128, by omega⟩
def sumOf (B : Fin 2 → Batch) : (⟨2, ![2, 1024]⟩ : Shape).Idx → EReal := fun i => (B (i 0)).sum 1024 (i 1)

variable (ρ : Dev nD → PrngReg)

/-- The reference runs, and its results are the batches'. -/
theorem run_values : θ_run defs (onTc (τ := τ) (main (F := Ideal))) (s₀ m ρ) (fun r => ∀ c : Dev nD,
    r.2.mem ((c.tc : Thread nD τ).loc main_v81) = outOf (bat m c) ∧ r.2.mem ((c.tc : Thread nD τ).loc main_v82) = sumOf (bat m c)) := by
  refine (θ_run defs _ _).mono (fun r h c => ⟨?_, ?_⟩) (run_main m ρ)
  · refine ((h c).2 main_v81 (Pipeline.mem_restRefs_of main_v81 (by decide) (by decide))).trans ?_
    refine (tail_eq m c main_v81).trans (funext fun i => ?_)
    rw [← bt_W0]
    refine Eq.trans (congrArg _ ?_) (out_from (W0 m c) (i 0) (i 1) (i 2))
    exact ValueIdx.eq_ix3 i
  · refine ((h c).2 main_v82 (Pipeline.mem_restRefs_of main_v82 (by decide) (by decide))).trans ?_
    refine (tail_eq m c main_v82).trans (funext fun i => ?_)
    rw [← bt_W0]
    refine Eq.trans (congrArg _ ?_) (total_from (W0 m c) (i 0) (i 1))
    exact ValueIdx.eq_ix2 i

end Cert.ReferenceIdeal.Value

end
-- ==== Proof.Value.lean ====
/-
  The value claim: where the documents do not decrease, the kernel's two results are the reference's.
-/
module

public import proofs.«01_k».proof.Defs
public import proofs.«01_k».proof.Proof.KernelIdeal.Result
public import proofs.«01_k».proof.Proof.ReferenceIdeal.Result

@[expose] public section

noncomputable section

namespace Cert.Proof

open Cert.Math
open Idealize.ShloMosaic hiding ix1 ix2 ix3 ix4
open Idealize.ShloMosaic.ValueIdx
open Idealize.ShloMosaic.TcCoe Idealize.SL Idealize.SL.Sem

/-- The precondition's slices are inside the documents. -/
theorem preFacts : Cert.Pre_docs_in_order.Facts where
  slices_S2x1024_S2x1023_0_0 := by decide
  slices_S2x1024_S2x1023_0_1 := by decide

/-- Documents that do not decrease from one position to the next are sorted. -/
theorem sorted_of_step (B : Batch) (h : ∀ j : Fin 1023, (B.doc j.castSucc).toInt ≤ (B.doc j.succ).toInt) : B.Sorted :=
  fun _ _ hij => (Fin.monotone_iff_le_succ (n := 1023) (f := fun i => (B.doc i).toInt)).mpr h hij

/-- The precondition says that every batch is sorted. -/
theorem sorted_of_pre (m : (ℓ : Loc Cert.KernelIdeal.nD Cert.KernelIdeal.τ Cert.KernelIdeal.sig) → Buf (Elt Ideal) ℓ)
    (h : Cert.Pre_KernelIdeal_docs_in_order (hPre_docs_in_order := preFacts) m) (c : Dev Cert.KernelIdeal.nD) (b : Fin 2) :
    (Cert.KernelIdeal.Value.bat m c b).Sorted := by
  refine sorted_of_step _ fun j => ?_
  have hj := congrFun (h c) (ix2 b j)
  unfold Cert.Pre_docs_in_order.fn at hj
  dsimp only at hj
  have e0 := extractStridedSlice_apply ![0, 0] (m ((c.tc : Thread Cert.KernelIdeal.nD Cert.KernelIdeal.τ).loc Cert.KernelIdeal.main_arg6))
    preFacts.slices_S2x1024_S2x1023_0_0 (ix2 b j) (ix2 b j.castSucc) (fun a => match a with
      | ⟨0, _⟩ => by show b.val = 0 + b.val; omega
      | ⟨1, _⟩ => by show j.val = 0 + j.val; omega)
  have e1 := extractStridedSlice_apply ![0, 1] (m ((c.tc : Thread Cert.KernelIdeal.nD Cert.KernelIdeal.τ).loc Cert.KernelIdeal.main_arg6))
    preFacts.slices_S2x1024_S2x1023_0_1 (ix2 b j) (ix2 b j.succ) (fun a => match a with
      | ⟨0, _⟩ => by show b.val = 0 + b.val; omega
      | ⟨1, _⟩ => by show j.val + 1 = 1 + j.val; omega)
  have hc : BitVec.ofBool (((Cert.KernelIdeal.Value.bat m c b).doc j.castSucc).sle ((Cert.KernelIdeal.Value.bat m c b).doc j.succ)) = 1#1 :=
    (congrArg₂ (fun x y : BitVec 32 => BitVec.ofBool (x.sle y)) e0 e1).symm.trans hj
  have ht : ((Cert.KernelIdeal.Value.bat m c b).doc j.castSucc).sle ((Cert.KernelIdeal.Value.bat m c b).doc j.succ) = true := by
    revert hc
    generalize BitVec.sle _ _ = x
    revert x; decide
  exact BitVec.sle_iff_toInt_le.mp ht

/-- The kernel and the reference agree. -/
theorem algebraic : Cert.algebraic_KernelIdeal_ReferenceIdeal_pre_docs_in_order (hKernelIdeal := Cert.KernelIdeal.Gen.facts)
    (hReferenceIdeal := Cert.ReferenceIdeal.Gen.facts) (hPre_docs_in_order := preFacts) := by
  intro m g m' g' hp ha
  have hb : ∀ c, Cert.ReferenceIdeal.Value.bat m' c = Cert.KernelIdeal.Value.bat m c := by
    intro c
    obtain ⟨h0, h1, h2, h3, h4, h5, h6⟩ := ha c
    unfold Cert.ReferenceIdeal.Value.bat Cert.KernelIdeal.Value.bat
    rw [h0, h1, h2, h3, h4, h5, h6]
  have hs := sorted_of_pre m hp
  refine ⟨fun c => Cert.ReferenceIdeal.Value.outOf (Cert.KernelIdeal.Value.bat m c),
    fun c => Cert.ReferenceIdeal.Value.sumOf (Cert.KernelIdeal.Value.bat m c), ?_, ?_⟩
  · refine (θ_run _ _ _).mono (fun r h c => ⟨?_, ?_, Cert.KernelIdeal.Run.args_of m h.1 c⟩) (Cert.KernelIdeal.Run.run_main m g)
    · funext i
      have hk : (i 2).val < 2560 := (i 2).isLt
      exact (congrArg _ (ValueIdx.eq_ix3 i)).trans (Cert.KernelIdeal.Run.out_at m h.1 c (i 0) (hs c (i 0)) (i 1)
        ⟨(i 2).val / 128, by omega⟩ ⟨(i 2).val % 128, by omega⟩ (i 2) (by show _ = 128 * ((i 2).val / 128) + (i 2).val % 128; omega))
    · funext i
      exact (congrArg _ (ValueIdx.eq_ix2 i)).trans (Cert.KernelIdeal.Run.sums_at m h.1 c (i 0) (hs c (i 0)) (i 1))
  · refine (θ_run _ _ _).mono (fun r h c => ⟨?_, ?_, h.2 c⟩)
      (θ_run_and (Cert.ReferenceIdeal.Value.run_values m' g') (Cert.ReferenceIdeal.Gen.unchanged m' g'))
    · rw [(h.1 c).1, hb c]
    · rw [(h.1 c).2, hb c]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every program runs to its end with its arguments unchanged, the named constants stand for the kernel's, and the
    kernel's two results are the reference's. -/
theorem claim : Cert.Claim :=
  ⟨Cert.Kernel.Gen.facts, Cert.KernelIdeal.Gen.facts, Cert.ReferenceIdeal.Gen.facts, preFacts,
    fun m ρ _ => Cert.Kernel.Body.frame m ρ, fun m ρ _ => Cert.KernelIdeal.Run.frame m ρ,
    fun m ρ _ => Cert.KernelIdeal.Run.frame m ρ,
    fun m ρ _ => Cert.ReferenceIdeal.Gen.frame m ρ, fun m ρ _ => Cert.ReferenceIdeal.Gen.frame m ρ,
    ⟨IdealRules.named_const.statement Cert.KernelIdeal.κ "log2e" .f32 0x3FB8AA3B#32 (((Real.log 2)⁻¹ : ℝ) : EReal) rfl,
      IdealRules.named_const.statement Cert.KernelIdeal.κ "sm_log2e" .f32 0x3E0293EE#32
        (((11863283 / 134217728) * (Real.log 2)⁻¹ : ℝ) : EReal) rfl⟩,
    algebraic⟩

end Cert.Proof

end
